-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v2_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v1_3) = v2 c
          ∧ r.2.mem ((c.tc : Thread Cert.ReferenceIdeal.nD Cert.ReferenceIdeal.τ).loc Cert.ReferenceIdeal.main_v1_4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x256x1152 : Shape := ⟨3, ![5, 256, 1152]⟩
abbrev S4304x1152 : Shape := ⟨2, ![4304, 1152]⟩
abbrev S1152 : Shape := ⟨1, ![1152]⟩
abbrev S1280x1152 : Shape := ⟨2, ![1280, 1152]⟩
abbrev S1x1152 : Shape := ⟨2, ![1, 1152]⟩
abbrev S1280x4352 : Shape := ⟨2, ![1280, 4352]⟩
abbrev S4304x288 : Shape := ⟨2, ![4304, 288]⟩
abbrev S1x1 : Shape := ⟨2, ![1, 1]⟩
abbrev S5x256 : Shape := ⟨2, ![5, 256]⟩
abbrev S4352x1152 : Shape := ⟨2, ![4352, 1152]⟩
abbrev S1280x128 : Shape := ⟨2, ![1280, 128]⟩
abbrev S256x1152 : Shape := ⟨2, ![256, 1152]⟩
abbrev S4352x288 : Shape := ⟨2, ![4352, 288]⟩
abbrev S2x1280x256 : Shape := ⟨3, ![2, 1280, 256]⟩
abbrev S8 : Shape := ⟨1, ![8]⟩
abbrev S_ : Shape := ⟨0, ![]⟩
abbrev S2 : Shape := ⟨1, ![2]⟩
abbrev S1 : Shape := ⟨1, ![1]⟩
abbrev S544x1152 : Shape := ⟨2, ![544, 1152]⟩
abbrev S496x1152 : Shape := ⟨2, ![496, 1152]⟩
abbrev S48x1152 : Shape := ⟨2, ![48, 1152]⟩
abbrev S64x1152 : Shape := ⟨2, ![64, 1152]⟩
abbrev S64 : Shape := ⟨1, ![64]⟩
abbrev S64x1 : Shape := ⟨2, ![64, 1]⟩
abbrev S64x128 : Shape := ⟨2, ![64, 128]⟩
abbrev S128x128 : Shape := ⟨2, ![128, 128]⟩
abbrev S1x128 : Shape := ⟨2, ![1, 128]⟩
abbrev S16x128 : Shape := ⟨2, ![16, 128]⟩
abbrev S16x1152 : Shape := ⟨2, ![16, 1152]⟩
abbrev S1x16x128 : Shape := ⟨3, ![1, 16, 128]⟩
abbrev S1x1x1 : Shape := ⟨3, ![1, 1, 1]⟩
abbrev S128x1152 : Shape := ⟨2, ![128, 1152]⟩
abbrev S128x128x1 : Shape := ⟨3, ![128, 128, 1]⟩
abbrev S256x128 : Shape := ⟨2, ![256, 128]⟩
abbrev S256x32 : Shape := ⟨2, ![256, 32]⟩
abbrev S1280x256 : Shape := ⟨2, ![1280, 256]⟩
abbrev S1280x1 : Shape := ⟨2, ![1280, 1]⟩
abbrev S1x1280x256 : Shape := ⟨3, ![1, 1280, 256]⟩
abbrev S1280x4304 : Shape := ⟨2, ![1280, 4304]⟩
abbrev S5x256x4304 : Shape := ⟨3, ![5, 256, 4304]⟩

abbrev nBuf : Space → Nat
  | .hbm => 14
  | .vmem => 10
  | .smem => 1
  | _ => 0

abbrev bufTy : (tb : Table) → Fin (tcTables nBuf tb) → BufTy
  | .hbm, ⟨0, _⟩ => ⟨S5x256x1152, .bf16⟩
  | .hbm, ⟨1, _⟩ => ⟨S4304x1152, .bf16⟩
  | .hbm, ⟨2, _⟩ => ⟨S1152, .f32⟩
  | .hbm, ⟨3, _⟩ => ⟨S1280x1152, .bf16⟩
  | .hbm, ⟨4, _⟩ => ⟨S1x1152, .f32⟩
  | .hbm, ⟨5, _⟩ => ⟨S1280x4352, .bf16⟩
  | .hbm, ⟨6, _⟩ => ⟨S4304x288, .i8⟩
  | .hbm, ⟨7, _⟩ => ⟨S1x1, .f32⟩
  | .hbm, ⟨8, _⟩ => ⟨S1280x1152, .i8⟩
  | .hbm, ⟨9, _⟩ => ⟨S5x256, .f32⟩
  | .hbm, ⟨10, _⟩ => ⟨S1280x4304, .bf16⟩
  | .hbm, ⟨11, _⟩ => ⟨S5x256x4304, .bf16⟩
  | .hbm, ⟨12, _⟩ => ⟨S_, .f32⟩
  | .hbm, ⟨13, _⟩ => ⟨S5x256x1152, .i8⟩
  | .local _ .vmem, ⟨0, _⟩ => ⟨S1x1152, .f32⟩
  | .local _ .vmem, ⟨1, _⟩ => ⟨S5x256, .f32⟩
  | .local _ .vmem, ⟨2, _⟩ => ⟨S4352x1152, .bf16⟩
  | .local _ .vmem, ⟨3, _⟩ => ⟨S1280x1152, .bf16⟩
  | .local _ .vmem, ⟨4, _⟩ => ⟨S1280x1152, .i8⟩
  | .local _ .vmem, ⟨5, _⟩ => ⟨S1280x1152, .bf16⟩
  | .local _ .vmem, ⟨6, _⟩ => ⟨S1280x128, .f32⟩
  | .local _ .vmem, ⟨7, _⟩ => ⟨S256x1152, .bf16⟩
  | .local _ .vmem, ⟨8, _⟩ => ⟨S4352x288, .i8⟩
  | .local _ .vmem, ⟨9, _⟩ => ⟨S2x1280x256, .bf16⟩
  | .local _ .smem, ⟨0, _⟩ => ⟨S1x1, .f32⟩
  | _, _ => ⟨S5x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_27 : BitVec 32 := 0#32
  let c20_i32 : BitVec 32 := 20#32
  let v38 : BitVec 32 := Scalar.addi c0_i32_27 c20_i32
  let c1_i32_28 : BitVec 32 := 1#32
  ⟨c0_i32_27, v38, c1_i32_28⟩
def k0_mult1 (k0_t1 : Fin k0_t1_loop.trips) : BitVec 32 :=
  let c0_i32_27 : BitVec 32 := 0#32
  let c1_i32_28 : BitVec 32 := 1#32
  let arg21 : BitVec 32 := Scf.iv c0_i32_27 c1_i32_28 k0_t1
  let c64_i32 : BitVec 32 := 64#32
  let v1365 : BitVec 32 := Scalar.muli arg21 c64_i32
  v1365
def k0_off1 (k0_t1 : Fin k0_t1_loop.trips) : Fin 2 → Nat :=
  let c0_i32_27 : BitVec 32 := 0#32
  let c1_i32_28 : BitVec 32 := 1#32
  let arg21 : BitVec 32 := Scf.iv c0_i32_27 c1_i32_28 k0_t1
  let c64_i32 : BitVec 32 := 64#32
  let v1365 : BitVec 32 := Scalar.muli arg21 c64_i32
  let v1366 : BitVec 32 := v1365
  let v1367 : Index := Scalar.indexCast v1366
  let c0_600 : Index := 0#32
  ![v1367.toNat, 0]
def k0_off2 (k0_t1 : Fin k0_t1_loop.trips) : Fin 2 → Nat :=
  let c0_i32_27 : BitVec 32 := 0#32
  let c1_i32_28 : BitVec 32 := 1#32
  let arg21 : BitVec 32 := Scf.iv c0_i32_27 c1_i32_28 k0_t1
  let c64_i32 : BitVec 32 := 64#32
  let v1365 : BitVec 32 := Scalar.muli arg21 c64_i32
  let v1366 : BitVec 32 := v1365
  let v1412 : Index := Scalar.indexCast v1366
  let c0_610 : Index := 0#32
  ![v1412.toNat, 0]
@[reducible] def k0_t2_loop : Scf.Loop 32 :=
  let c0_i32_63 : BitVec 32 := 0#32
  let c34_i32 : BitVec 32 := 34#32
  let v84 : BitVec 32 := Scalar.addi c0_i32_63 c34_i32
  let c1_i32_64 : BitVec 32 := 1#32
  ⟨c0_i32_63, v84, c1_i32_64⟩
def k0_mult2 (k0_t2 : Fin k0_t2_loop.trips) : BitVec 32 :=
  let c0_i32_600 : BitVec 32 := 0#32
  let c0_i32_63 : BitVec 32 := 0#32
  let c1_i32_64 : BitVec 32 := 1#32
  let arg21 : BitVec 32 := Scf.iv c0_i32_63 c1_i32_64 k0_t2
  let c16_i32 : BitVec 32 := 16#32
  let v1365 : BitVec 32 := Scalar.muli arg21 c16_i32
  let v1366 : BitVec 32 := Scalar.addi c0_i32_600 v1365
  v1366
def k0_off3 (k0_t2 : Fin k0_t2_loop.trips) : Fin 2 → Nat :=
  let c0_i32_600 : BitVec 32 := 0#32
  let c0_i32_63 : BitVec 32 := 0#32
  let c1_i32_64 : BitVec 32 := 1#32
  let arg21 : BitVec 32 := Scf.iv c0_i32_63 c1_i32_64 k0_t2
  let c16_i32 : BitVec 32 := 16#32
  let v1365 : BitVec 32 := Scalar.muli arg21 c16_i32
  let v1366 : BitVec 32 := Scalar.addi c0_i32_600 v1365
  let v1367 : BitVec 32 := v1366
  let v1368 : Index := Scalar.indexCast v1367
  let c0_601 : Index := 0#32
  ![v1368.toNat, 0]
@[reducible] def k0_t3_loop : Scf.Loop 32 :=
  let c0_i32_71 : BitVec 32 := 0#32
  let c34_i32_72 : BitVec 32 := 34#32
  let v90 : BitVec 32 := Scalar.addi c0_i32_71 c34_i32_72
  let c1_i32_73 : BitVec 32 := 1#32
  ⟨c0_i32_71, v90, c1_i32_73⟩
def k0_mult3 (k0_t3 : Fin k0_t3_loop.trips) : BitVec 32 :=
  let c544_i32_600 : BitVec 32 := 544#32
  let c0_i32_71 : BitVec 32 := 0#32
  let c1_i32_73 : BitVec 32 := 1#32
  let arg21 : BitVec 32 := Scf.iv c0_i32_71 c1_i32_73 k0_t3
  let c16_i32 : BitVec 32 := 16#32
  let v1365 : BitVec 32 := Scalar.muli arg21 c16_i32
  let v1366 : BitVec 32 := Scalar.addi c544_i32_600 v1365
  v1366
def k0_off4 (k0_t3 : Fin k0_t3_loop.trips) : Fin 2 → Nat :=
  let c544_i32_600 : BitVec 32 := 544#32
  let c0_i32_71 : BitVec 32 := 0#32
  let c1_i32_73 : BitVec 32 := 1#32
  let arg21 : BitVec 32 := Scf.iv c0_i32_71 c1_i32_73 k0_t3
  let c16_i32 : BitVec 32 := 16#32
  let v1365 : BitVec 32 := Scalar.muli arg21 c16_i32
  let v1366 : BitVec 32 := Scalar.addi c544_i32_600 v1365
  let v1367 : BitVec 32 := v1366
  let v1368 : Index := Scalar.indexCast v1367
  let c0_601 : Index := 0#32
  ![v1368.toNat, 0]
@[reducible] def k0_t4_loop : Scf.Loop 32 :=
  let c0_i32_80 : BitVec 32 := 0#32
  let c34_i32_81 : BitVec 32 := 34#32
  let v96 : BitVec 32 := Scalar.addi c0_i32_80 c34_i32_81
  let c1_i32_82 : BitVec 32 := 1#32
  ⟨c0_i32_80, v96, c1_i32_82⟩
def k0_mult4 (k0_t4 : Fin k0_t4_loop.trips) : BitVec 32 :=
  let c1088_i32_600 : BitVec 32 := 1088#32
  let c0_i32_80 : BitVec 32 := 0#32
  let c1_i32_82 : BitVec 32 := 1#32
  let arg21 : BitVec 32 := Scf.iv c0_i32_80 c1_i32_82 k0_t4
  let c16_i32 : BitVec 32 := 16#32
  let v1365 : BitVec 32 := Scalar.muli arg21 c16_i32
  let v1366 : BitVec 32 := Scalar.addi c1088_i32_600 v1365
  v1366
def k0_off5 (k0_t4 : Fin k0_t4_loop.trips) : Fin 2 → Nat :=
  let c1088_i32_600 : BitVec 32 := 1088#32
  let c0_i32_80 : BitVec 32 := 0#32
  let c1_i32_82 : BitVec 32 := 1#32
  let arg21 : BitVec 32 := Scf.iv c0_i32_80 c1_i32_82 k0_t4
  let c16_i32 : BitVec 32 := 16#32
  let v1365 : BitVec 32 := Scalar.muli arg21 c16_i32
  let v1366 : BitVec 32 := Scalar.addi c1088_i32_600 v1365
  let v1367 : BitVec 32 := v1366
  let v1368 : Index := Scalar.indexCast v1367
  let c0_601 : Index := 0#32
  ![v1368.toNat, 0]
@[reducible] def k0_t5_loop : Scf.Loop 32 :=
  let c0_i32_89 : BitVec 32 := 0#32
  let c34_i32_90 : BitVec 32 := 34#32
  let v102 : BitVec 32 := Scalar.addi c0_i32_89 c34_i32_90
  let c1_i32_91 : BitVec 32 := 1#32
  ⟨c0_i32_89, v102, c1_i32_91⟩
def k0_mult5 (k0_t5 : Fin k0_t5_loop.trips) : BitVec 32 :=
  let c1632_i32_600 : BitVec 32 := 1632#32
  let c0_i32_89 : BitVec 32 := 0#32
  let c1_i32_91 : BitVec 32 := 1#32
  let arg21 : BitVec 32 := Scf.iv c0_i32_89 c1_i32_91 k0_t5
  let c16_i32 : BitVec 32 := 16#32
  let v1365 : BitVec 32 := Scalar.muli arg21 c16_i32
  let v1366 : BitVec 32 := Scalar.addi c1632_i32_600 v1365
  v1366
def k0_off6 (k0_t5 : Fin k0_t5_loop.trips) : Fin 2 → Nat :=
  let c1632_i32_600 : BitVec 32 := 1632#32
  let c0_i32_89 : BitVec 32 := 0#32
  let c1_i32_91 : BitVec 32 := 1#32
  let arg21 : BitVec 32 := Scf.iv c0_i32_89 c1_i32_91 k0_t5
  let c16_i32 : BitVec 32 := 16#32
  let v1365 : BitVec 32 := Scalar.muli arg21 c16_i32
  let v1366 : BitVec 32 := Scalar.addi c1632_i32_600 v1365
  let v1367 : BitVec 32 := v1366
  let v1368 : Index := Scalar.indexCast v1367
  let c0_601 : Index := 0#32
  ![v1368.toNat, 0]
@[reducible] def k0_t6_loop : Scf.Loop 32 :=
  let c0_i32_98 : BitVec 32 := 0#32
  let c34_i32_99 : BitVec 32 := 34#32
  let v108 : BitVec 32 := Scalar.addi c0_i32_98 c34_i32_99
  let c1_i32_100 : BitVec 32 := 1#32
  ⟨c0_i32_98, v108, c1_i32_100⟩
def k0_mult6 (k0_t6 : Fin k0_t6_loop.trips) : BitVec 32 :=
  let c2176_i32_600 : BitVec 32 := 2176#32
  let c0_i32_98 : BitVec 32 := 0#32
  let c1_i32_100 : BitVec 32 := 1#32
  let arg21 : BitVec 32 := Scf.iv c0_i32_98 c1_i32_100 k0_t6
  let c16_i32 : BitVec 32 := 16#32
  let v1365 : BitVec 32 := Scalar.muli arg21 c16_i32
  let v1366 : BitVec 32 := Scalar.addi c2176_i32_600 v1365
  v1366
def k0_off7 (k0_t6 : Fin k0_t6_loop.trips) : Fin 2 → Nat :=
  let c2176_i32_600 : BitVec 32 := 2176#32
  let c0_i32_98 : BitVec 32 := 0#32
  let c1_i32_100 : BitVec 32 := 1#32
  let arg21 : BitVec 32 := Scf.iv c0_i32_98 c1_i32_100 k0_t6
  let c16_i32 : BitVec 32 := 16#32
  let v1365 : BitVec 32 := Scalar.muli arg21 c16_i32
  let v1366 : BitVec 32 := Scalar.addi c2176_i32_600 v1365
  let v1367 : BitVec 32 := v1366
  let v1368 : Index := Scalar.indexCast v1367
  let c0_601 : Index := 0#32
  ![v1368.toNat, 0]
@[reducible] def k0_t7_loop : Scf.Loop 32 :=
  let c0_i32_107 : BitVec 32 := 0#32
  let c34_i32_108 : BitVec 32 := 34#32
  let v114 : BitVec 32 := Scalar.addi c0_i32_107 c34_i32_108
  let c1_i32_109 : BitVec 32 := 1#32
  ⟨c0_i32_107, v114, c1_i32_109⟩
def k0_mult7 (k0_t7 : Fin k0_t7_loop.trips) : BitVec 32 :=
  let c2720_i32_600 : BitVec 32 := 2720#32
  let c0_i32_107 : BitVec 32 := 0#32
  let c1_i32_109 : BitVec 32 := 1#32
  let arg21 : BitVec 32 := Scf.iv c0_i32_107 c1_i32_109 k0_t7
  let c16_i32 : BitVec 32 := 16#32
  let v1365 : BitVec 32 := Scalar.muli arg21 c16_i32
  let v1366 : BitVec 32 := Scalar.addi c2720_i32_600 v1365
  v1366
def k0_off8 (k0_t7 : Fin k0_t7_loop.trips) : Fin 2 → Nat :=
  let c2720_i32_600 : BitVec 32 := 2720#32
  let c0_i32_107 : BitVec 32 := 0#32
  let c1_i32_109 : BitVec 32 := 1#32
  let arg21 : BitVec 32 := Scf.iv c0_i32_107 c1_i32_109 k0_t7
  let c16_i32 : BitVec 32 := 16#32
  let v1365 : BitVec 32 := Scalar.muli arg21 c16_i32
  let v1366 : BitVec 32 := Scalar.addi c2720_i32_600 v1365
  let v1367 : BitVec 32 := v1366
  let v1368 : Index := Scalar.indexCast v1367
  let c0_601 : Index := 0#32
  ![v1368.toNat, 0]
@[reducible] def k0_t8_loop : Scf.Loop 32 :=
  let c0_i32_116 : BitVec 32 := 0#32
  let c34_i32_117 : BitVec 32 := 34#32
  let v120 : BitVec 32 := Scalar.addi c0_i32_116 c34_i32_117
  let c1_i32_118 : BitVec 32 := 1#32
  ⟨c0_i32_116, v120, c1_i32_118⟩
def k0_mult8 (k0_t8 : Fin k0_t8_loop.trips) : BitVec 32 :=
  let c3264_i32_600 : BitVec 32 := 3264#32
  let c0_i32_116 : BitVec 32 := 0#32
  let c1_i32_118 : BitVec 32 := 1#32
  let arg21 : BitVec 32 := Scf.iv c0_i32_116 c1_i32_118 k0_t8
  let c16_i32 : BitVec 32 := 16#32
  let v1365 : BitVec 32 := Scalar.muli arg21 c16_i32
  let v1366 : BitVec 32 := Scalar.addi c3264_i32_600 v1365
  v1366
def k0_off9 (k0_t8 : Fin k0_t8_loop.trips) : Fin 2 → Nat :=
  let c3264_i32_600 : BitVec 32 := 3264#32
  let c0_i32_116 : BitVec 32 := 0#32
  let c1_i32_118 : BitVec 32 := 1#32
  let arg21 : BitVec 32 := Scf.iv c0_i32_116 c1_i32_118 k0_t8
  let c16_i32 : BitVec 32 := 16#32
  let v1365 : BitVec 32 := Scalar.muli arg21 c16_i32
  let v1366 : BitVec 32 := Scalar.addi c3264_i32_600 v1365
  let v1367 : BitVec 32 := v1366
  let v1368 : Index := Scalar.indexCast v1367
  let c0_601 : Index := 0#32
  ![v1368.toNat, 0]
@[reducible] def k0_t9_loop : Scf.Loop 32 :=
  let c0_i32_125 : BitVec 32 := 0#32
  let c31_i32 : BitVec 32 := 31#32
  let v126 : BitVec 32 := Scalar.addi c0_i32_125 c31_i32
  let c1_i32_126 : BitVec 32 := 1#32
  ⟨c0_i32_125, v126, c1_i32_126⟩
def k0_mult9 (k0_t9 : Fin k0_t9_loop.trips) : BitVec 32 :=
  let c3808_i32_600 : BitVec 32 := 3808#32
  let c0_i32_125 : BitVec 32 := 0#32
  let c1_i32_126 : BitVec 32 := 1#32
  let arg21 : BitVec 32 := Scf.iv c0_i32_125 c1_i32_126 k0_t9
  let c16_i32 : BitVec 32 := 16#32
  let v1365 : BitVec 32 := Scalar.muli arg21 c16_i32
  let v1366 : BitVec 32 := Scalar.addi c3808_i32_600 v1365
  v1366
def k0_off10 (k0_t9 : Fin k0_t9_loop.trips) : Fin 2 → Nat :=
  let c3808_i32_600 : BitVec 32 := 3808#32
  let c0_i32_125 : BitVec 32 := 0#32
  let c1_i32_126 : BitVec 32 := 1#32
  let arg21 : BitVec 32 := Scf.iv c0_i32_125 c1_i32_126 k0_t9
  let c16_i32 : BitVec 32 := 16#32
  let v1365 : BitVec 32 := Scalar.muli arg21 c16_i32
  let v1366 : BitVec 32 := Scalar.addi c3808_i32_600 v1365
  let v1367 : BitVec 32 := v1366
  let v1368 : Index := Scalar.indexCast v1367
  let c0_601 : Index := 0#32
  ![v1368.toNat, 0]
def k0_mult10 : BitVec 32 :=
  let c0_i32_348 : BitVec 32 := 0#32
  c0_i32_348
def k0_mult11 : BitVec 32 :=
  let c256_i32 : BitVec 32 := 256#32
  c256_i32
@[reducible] def k0_t10_loop : Scf.Loop 32 :=
  let c2_i32_583 : BitVec 32 := 2#32
  let c15_i32 : BitVec 32 := 15#32
  let v1350 : BitVec 32 := Scalar.addi c2_i32_583 c15_i32
  let c1_i32_584 : BitVec 32 := 1#32
  ⟨c2_i32_583, v1350, c1_i32_584⟩
def k0_mult12 (k0_t10 : Fin k0_t10_loop.trips) : BitVec 32 :=
  let c2_i32_583 : BitVec 32 := 2#32
  let c1_i32_584 : BitVec 32 := 1#32
  let arg21 : BitVec 32 := Scf.iv c2_i32_583 c1_i32_584 k0_t10
  let c2_i32_601 : BitVec 32 := 2#32
  let v1366 : BitVec 32 := Scalar.subi arg21 c2_i32_601
  let c256_i32_602 : BitVec 32 := 256#32
  let v1367 : BitVec 32 := Scalar.muli v1366 c256_i32_602
  v1367
def k0_off11 (k0_t10 : Fin k0_t10_loop.trips) : Fin 1 → Nat :=
  let c2_i32_583 : BitVec 32 := 2#32
  let c1_i32_584 : BitVec 32 := 1#32
  let arg21 : BitVec 32 := Scf.iv c2_i32_583 c1_i32_584 k0_t10
  let c2_i32_600 : BitVec 32 := 2#32
  let v1365 : BitVec 32 := Scalar.remsi arg21 c2_i32_600
  ![v1365.toNat]
def k0_off12 (k0_t10 : Fin k0_t10_loop.trips) : Fin 2 → Nat :=
  let c0_i32_603 : BitVec 32 := 0#32
  let c2_i32_583 : BitVec 32 := 2#32
  let c1_i32_584 : BitVec 32 := 1#32
  let arg21 : BitVec 32 := Scf.iv c2_i32_583 c1_i32_584 k0_t10
  let c2_i32_601 : BitVec 32 := 2#32
  let v1366 : BitVec 32 := Scalar.subi arg21 c2_i32_601
  let c256_i32_602 : BitVec 32 := 256#32
  let v1367 : BitVec 32 := Scalar.muli v1366 c256_i32_602
  let v1368 : BitVec 32 := v1367
  ![0, v1368.toNat]
def k0_off13 (k0_t10 : Fin k0_t10_loop.trips) : Fin 3 → Nat :=
  let c2_i32_583 : BitVec 32 := 2#32
  let c1_i32_584 : BitVec 32 := 1#32
  let arg21 : BitVec 32 := Scf.iv c2_i32_583 c1_i32_584 k0_t10
  let c2_i32_600 : BitVec 32 := 2#32
  let v1365 : BitVec 32 := Scalar.remsi arg21 c2_i32_600
  let c0_i32_604 : BitVec 32 := 0#32
  let c0_i32_605 : BitVec 32 := 0#32
  ![v1365.toNat, 0, 0]
def k0_mult13 (k0_t10 : Fin k0_t10_loop.trips) : BitVec 32 :=
  let c2_i32_583 : BitVec 32 := 2#32
  let c1_i32_584 : BitVec 32 := 1#32
  let arg21 : BitVec 32 := Scf.iv c2_i32_583 c1_i32_584 k0_t10
  let c256_i32_607 : BitVec 32 := 256#32
  let v1375 : BitVec 32 := Scalar.muli arg21 c256_i32_607
  v1375
def k0_off14 (k0_t10 : Fin k0_t10_loop.trips) : Fin 2 → Nat :=
  let c2_i32_583 : BitVec 32 := 2#32
  let c1_i32_584 : BitVec 32 := 1#32
  let arg21 : BitVec 32 := Scf.iv c2_i32_583 c1_i32_584 k0_t10
  let c256_i32_607 : BitVec 32 := 256#32
  let v1375 : BitVec 32 := Scalar.muli arg21 c256_i32_607
  let v1376 : BitVec 32 := v1375
  let v1377 : Index := Scalar.indexCast v1376
  let c0_608 : Index := 0#32
  ![v1377.toNat, 0]
def k0_off15 (k0_t10 : Fin k0_t10_loop.trips) : Fin 2 → Nat :=
  let c2_i32_583 : BitVec 32 := 2#32
  let c1_i32_584 : BitVec 32 := 1#32
  let arg21 : BitVec 32 := Scf.iv c2_i32_583 c1_i32_584 k0_t10
  let c256_i32_607 : BitVec 32 := 256#32
  let v1375 : BitVec 32 := Scalar.muli arg21 c256_i32_607
  let v1376 : BitVec 32 := v1375
  let v1954 : Index := Scalar.indexCast v1376
  let c0_815 : Index := 0#32
  ![v1954.toNat, 0]
def k0_off16 (k0_t10 : Fin k0_t10_loop.trips) : Fin 2 → Nat :=
  let c2_i32_583 : BitVec 32 := 2#32
  let c1_i32_584 : BitVec 32 := 1#32
  let arg21 : BitVec 32 := Scf.iv c2_i32_583 c1_i32_584 k0_t10
  let c256_i32_607 : BitVec 32 := 256#32
  let v1375 : BitVec 32 := Scalar.muli arg21 c256_i32_607
  let v1376 : BitVec 32 := v1375
  let v1960 : Index := Scalar.indexCast v1376
  let c128_816 : Index := 128#32
  ![v1960.toNat, 128]
def k0_off17 (k0_t10 : Fin k0_t10_loop.trips) : Fin 2 → Nat :=
  let c2_i32_583 : BitVec 32 := 2#32
  let c1_i32_584 : BitVec 32 := 1#32
  let arg21 : BitVec 32 := Scf.iv c2_i32_583 c1_i32_584 k0_t10
  let c256_i32_607 : BitVec 32 := 256#32
  let v1375 : BitVec 32 := Scalar.muli arg21 c256_i32_607
  let v1376 : BitVec 32 := v1375
  let v1967 : Index := Scalar.indexCast v1376
  let c256_817 : Index := 256#32
  ![v1967.toNat, 256]
def k0_off18 (k0_t10 : Fin k0_t10_loop.trips) : Fin 3 → Nat :=
  let c2_i32_583 : BitVec 32 := 2#32
  let c1_i32_584 : BitVec 32 := 1#32
  let arg21 : BitVec 32 := Scf.iv c2_i32_583 c1_i32_584 k0_t10
  let c2_i32_606 : BitVec 32 := 2#32
  let v1374 : BitVec 32 := Scalar.remsi arg21 c2_i32_606
  let v1980 : Index := Scalar.indexCast v1374
  let c0_825 : Index := 0#32
  let c0_826 : Index := 0#32
  ![v1980.toNat, 0, 0]
def k0_mult14 (k0_t10 : Fin k0_t10_loop.trips) : BitVec 32 :=
  let c2_i32_583 : BitVec 32 := 2#32
  let c1_i32_584 : BitVec 32 := 1#32
  let arg21 : BitVec 32 := Scf.iv c2_i32_583 c1_i32_584 k0_t10
  let c256_i32_827 : BitVec 32 := 256#32
  let v1984 : BitVec 32 := Scalar.muli arg21 c256_i32_827
  v1984
def k0_off19 (k0_t10 : Fin k0_t10_loop.trips) : Fin 2 → Nat :=
  let c0_i32_828 : BitVec 32 := 0#32
  let c2_i32_583 : BitVec 32 := 2#32
  let c1_i32_584 : BitVec 32 := 1#32
  let arg21 : BitVec 32 := Scf.iv c2_i32_583 c1_i32_584 k0_t10
  let c256_i32_827 : BitVec 32 := 256#32
  let v1984 : BitVec 32 := Scalar.muli arg21 c256_i32_827
  let v1985 : BitVec 32 := v1984
  ![0, v1985.toNat]
def k0_mult15 : BitVec 32 :=
  let c3840_i32 : BitVec 32 := 3840#32
  c3840_i32
def k0_mult16 : BitVec 32 :=
  let c4096_i32 : BitVec 32 := 4096#32
  c4096_i32
abbrev stage0_0 : Fin 1 → Memref sig .tc .vmem S1x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S5x256x1152 : Shape := ⟨3, ![5, 256, 1152]⟩
abbrev S4304x1152 : Shape := ⟨2, ![4304, 1152]⟩
abbrev S1152 : Shape := ⟨1, ![1152]⟩
abbrev S1x1152 : Shape := ⟨2, ![1, 1152]⟩
abbrev S5x256x4304 : Shape := ⟨3, ![5, 256, 4304]⟩
abbrev S4304x288 : Shape := ⟨2, ![4304, 288]⟩
abbrev S1x1 : Shape := ⟨2, ![1, 1]⟩
abbrev S5x256 : Shape := ⟨2, ![5, 256]⟩
abbrev S1x4304x1152 : Shape := ⟨3, ![1, 4304, 1152]⟩
abbrev S1 : Shape := ⟨1, ![1]⟩
abbrev S1x1x1 : Shape := ⟨3, ![1, 1, 1]⟩
abbrev S5x256x1 : Shape := ⟨3, ![5, 256, 1]⟩
abbrev S1x1x1152 : Shape := ⟨3, ![1, 1, 1152]⟩
abbrev S1280x1152 : Shape := ⟨2, ![1280, 1152]⟩
abbrev S1280x4304 : Shape := ⟨2, ![1280, 4304]⟩
abbrev S4304x288x4 : Shape := ⟨3, ![4304, 288, 4]⟩
abbrev S4304x288x1 : Shape := ⟨3, ![4304, 288, 1]⟩
abbrev S_ : Shape := ⟨0, ![]⟩

abbrev nBuf : Space → Nat
  | .hbm => 10
  | .vmem => 7
  | .smem => 1
  | _ => 0

abbrev bufTy : (tb : Table) → Fin (tcTables nBuf tb) → BufTy
  | .hbm, ⟨0, _⟩ => ⟨S5x256x1152, .bf16⟩
  | .hbm, ⟨1, _⟩ => ⟨S4304x1152, .bf16⟩
  | .hbm, ⟨2, _⟩ => ⟨S1152, .f32⟩
  | .hbm, ⟨3, _⟩ => ⟨S1x1152, .f32⟩
  | .hbm, ⟨4, _⟩ => ⟨S5x256x4304, .bf16⟩
  | .hbm, ⟨5, _⟩ => ⟨S4304x288, .i8⟩
  | .hbm, ⟨6, _⟩ => ⟨S1x1, .f32⟩
  | .hbm, ⟨7, _⟩ => ⟨S5x256x1152, .i8⟩
  | .hbm, ⟨8, _⟩ => ⟨S5x256, .f32⟩
  | .hbm, ⟨9, _⟩ => ⟨S_, .f32⟩
  | .local _ .vmem, ⟨0, _⟩ => ⟨S5x256x1152, .bf16⟩
  | .local _ .vmem, ⟨1, _⟩ => ⟨S4304x1152, .bf16⟩
  | .local _ .vmem, ⟨2, _⟩ => ⟨S1x1152, .f32⟩
  | .local _ .vmem, ⟨3, _⟩ => ⟨S5x256x4304, .bf16⟩
  | .local _ .vmem, ⟨4, _⟩ => ⟨S4304x288, .i8⟩
  | .local _ .vmem, ⟨5, _⟩ => ⟨S5x256x1152, .i8⟩
  | .local _ .vmem, ⟨6, _⟩ => ⟨S5x256, .f32⟩
  | .local _ .smem, ⟨0, _⟩ => ⟨S1x1, .f32⟩
  | _, _ => ⟨S5x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5x256x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4304x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x256x4304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4304x288 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x256x1152 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kern1.lean ====
/-
  The kernel's buffers, what each of them holds, and its ten counted loops.

  `XW`, `XX` and `XG` are the contents of the weights, of the activations and of the gain as the kernel finds them.
  From them come what the kernel's scratch buffers hold once it has filled them: `WV` the padded weights, `C10`, `C11`,
  `C12` the codes, the codes in bf16 and the scales, all by blocks of 64 rows; `G j` the partial sums of absolute values
  after `j` blocks of 16 weight rows.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.WritesUnit
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## The buffers -/

abbrev M0 : Memref sig .tc .hbm S1280x1152 .bf16 := Memref.whole main_v0
abbrev M1 : Memref sig .tc .hbm S4304x1152 .bf16 := Memref.whole main_arg1
abbrev M3 : Memref sig .tc .hbm S1280x4352 .bf16 := Memref.whole main_v2_0
abbrev M4 : Memref sig .tc .hbm S4304x288 .i8 := Memref.whole main_v2_1
abbrev M6 : Memref sig .tc .hbm S1280x1152 .i8 := Memref.whole main_v2_3
abbrev M8 : Memref sig .tc .vmem S4352x1152 .bf16 := Memref.whole cc0_scratch0
abbrev M9 : Memref sig .tc .vmem S1280x1152 .bf16 := Memref.whole cc0_scratch1
abbrev M10 : Memref sig .tc .vmem S1280x1152 .i8 := Memref.whole cc0_scratch2
abbrev M11 : Memref sig .tc .vmem S1280x1152 .bf16 := Memref.whole cc0_scratch3
abbrev M12 : Memref sig .tc .vmem S1280x128 .f32 := Memref.whole cc0_scratch4
abbrev M13 : Memref sig .tc .vmem S256x1152 .bf16 := Memref.whole cc0_scratch5
abbrev M14 : Memref sig .tc .vmem S4352x288 .i8 := Memref.whole cc0_scratch6
abbrev M15 : Memref sig .tc .vmem S2x1280x256 .bf16 := Memref.whole cc0_scratch7

abbrev Bf (c : Dev nD) {sp : Space} {S : Shape} {e : EltTy} (M : Memref sig .tc sp S e) : Type := Buf (Elt F) (M.view.loc (c : Thread nD τ))
/-- A view's elements held at `f`. -/
abbrev Pt (c : Dev nD) {sp : Space} {S : Shape} {e : EltTy} (M : Memref sig .tc sp S e) (f : Bf (F := F) c M) : sProp 𝕄 :=
  M.view.loc (c : Thread nD τ) ↦[M.view.set]{fullShare} f

/-! ## The weights, by the slabs the copies land -/

abbrev slabOff (i : ℕ) : Fin 2 → Nat := ![544 * i, 0]
/-- Slab `i < 7` of the padded weights: rows `544 i` to `544 (i + 1)`. -/
abbrev slab (o : ℕ) (h : ∀ a, (![o, 0] : Fin 2 → Nat) a + S544x1152.size a ≤ S4352x1152.size a) : Memref sig .tc .vmem S544x1152 .bf16 :=
  M8.slice (Rect.unit (s := S4352x1152) ![o, 0] S544x1152.size h) (fun _ => rfl)
/-- The last slab, 496 rows. -/
abbrev slab7 : Memref sig .tc .vmem S496x1152 .bf16 :=
  M8.slice (Rect.unit (s := S4352x1152) ![3808, 0] S496x1152.size inb_S4352x1152_S496x1152_3808_0) (fun _ => rfl)

section Sums
variable (WV : S4352x1152.Idx → Elt F .bf16)

/-- The 16 rows of the weights from row `16 j` on. -/
def wblk (j : ℕ) : S16x1152.Idx → Elt F .bf16 := fun i =>
  WV (fun | ⟨0, _⟩ => (⟨(16 * j + (i 0).val) % 4352, Nat.mod_lt _ (by decide)⟩ : Fin 4352) | ⟨1, _⟩ => (i 1 : Fin 1152))
/-- The partial sums of absolute values after the first `j` blocks of 16 rows. -/
def G : ℕ → FVec F S16x128 .f32
  | 0 => k0_pay69
  | j + 1 => k0_pay70 (G j) (wblk WV j)
/-- The partial sums `a`, carried on over the `k` blocks of 16 rows from block `j0` on. -/
def GA (a : FVec F S16x128 .f32) (j0 : ℕ) : ℕ → FVec F S16x128 .f32
  | 0 => a
  | k + 1 => k0_pay70 (GA a j0 k) (wblk WV (j0 + k))
/-- `acc` is the sums `a` carried on over the `k` blocks from block `j0` on. -/
structure IsGA (j0 : ℕ) (WV : S4352x1152.Idx → Elt F .bf16) (a : FVec F S16x128 .f32) (k : ℕ) (acc : FVec F S16x128 .f32) : Prop where
  eq : acc = GA WV a j0 k
@[simp] theorem isGA_zero (a : FVec F S16x128 .f32) (j0 : ℕ) : IsGA j0 WV a 0 a := ⟨rfl⟩
/-- Carried on over the weights' own blocks, they are the sums of one block more after another. -/
theorem GA_eq (V : S4352x1152.Idx → Elt F .bf16) (j0 n : ℕ) (h : ∀ k < n, wblk V (j0 + k) = wblk WV (j0 + k)) :
    GA V (G WV j0) j0 n = G WV (j0 + n) := by
  induction n with
  | zero => rfl
  | succ n ih => exact congrArg₂ k0_pay70 (ih fun k hk => h k (Nat.lt_succ_of_lt hk)) (h n (Nat.lt_succ_self n))

theorem readBlk (c : Dev nD) (j : ℕ) (hj : j < 272) (off : Fin 2 → Nat) (e : off = ![16 * j, 0]) (h) :
    M8.view.readAt (Elt F) (Rect.unit (s := S4352x1152) off S16x1152.size h).toLoadRect (WV : Bf (F := F) c M8) = wblk WV j := by
  subst e
  funext i
  rw [View.readAt_apply]
  unfold wblk
  refine congrArg WV (funext fun a => ?_)
  match a with
  | ⟨0, _⟩ =>
    refine Fin.ext ?_
    show 16 * j + 1 * (i 0).val = (16 * j + (i 0).val) % 4352
    have : (i 0).val < 16 := (i 0).isLt
    omega
  | ⟨1, _⟩ =>
    refine Fin.ext ?_
    show 0 + 1 * (i 1).val = (i 1).val
    omega
end Sums

section Loops
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole)

theorem trip2_run (WV : Bf (F := F) c M8) (a : FVec F S16x128 .f32) (v73 : FVec F S1x128 .f32) (k : Fin k0_t2_loop.trips) :
    Pt c (slab 0 inb_S4352x1152_S544x1152_0_0) WV ⊢ wp frame (wpE (defs₀ (F := F)) Variants.none (c : Thread nD τ) none) Set.univ
      (k0_t2_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 k (GA WV a 0 k.val))
      (fun y => iprop(⌜y = GA WV a 0 (k.val + 1)⌝ ∗ Pt c (slab 0 inb_S4352x1152_S544x1152_0_0) WV)) := by
  have hk : k.val < 34 := Nat.lt_of_lt_of_le k.isLt k0_t2_abs.2.1
  unfold k0_t2_body
  iintro H
  sl_exec
  sl_step
  isplitr
  · ipureintro
    show k0_pay70 _ _ = k0_pay70 (GA WV a 0 k.val) (wblk WV (0 + k.val))
    rw [← readBlk WV c (0 + k.val) (by omega) (k0_off3 k) (by rw [k0_off3_eq]; congr 1; omega) (k0_off3_inb k)]
  · iexact H

set_option warn.classDefReducibility false in
/-- Chunk 0's loop: the partial sums after its blocks so far. -/
@[sl_loop] def loopInv2 (WV : Bf (F := F) c M8) (a : FVec F S16x128 .f32) (v73 : FVec F S1x128 .f32) :
    LoopInvTy_k0_t2 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 a where
  inv k acc := iprop(Pt c (slab 0 inb_S4352x1152_S544x1152_0_0) WV ∗ ⌜IsGA 0 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip2_run c arg2 harg2 arg5 harg5 arg7 harg7 WV a v73 k); iexact H
    · iintro %_ ⟨%h', H⟩
      isplitl [H]; · iexact H
      ipureintro; exact ⟨h'⟩

theorem trip3_run (WV : Bf (F := F) c M8) (a : FVec F S16x128 .f32) (v73 : FVec F S1x128 .f32) (k : Fin k0_t3_loop.trips) :
    Pt c (slab 544 inb_S4352x1152_S544x1152_544_0) WV ⊢ wp frame (wpE (defs₀ (F := F)) Variants.none (c : Thread nD τ) none) Set.univ
      (k0_t3_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 k (GA WV a 34 k.val))
      (fun y => iprop(⌜y = GA WV a 34 (k.val + 1)⌝ ∗ Pt c (slab 544 inb_S4352x1152_S544x1152_544_0) WV)) := by
  have hk : k.val < 34 := Nat.lt_of_lt_of_le k.isLt k0_t3_abs.2.1
  unfold k0_t3_body
  iintro H
  sl_exec
  sl_step
  isplitr
  · ipureintro
    show k0_pay71 _ _ = k0_pay70 (GA WV a 34 k.val) (wblk WV (34 + k.val))
    rw [← readBlk WV c (34 + k.val) (by omega) (k0_off4 k) (by rw [k0_off4_eq]; congr 1; omega) (k0_off4_inb k)]
    rfl
  · iexact H

set_option warn.classDefReducibility false in
/-- Chunk 1's loop: the partial sums after its blocks so far. -/
@[sl_loop] def loopInv3 (WV : Bf (F := F) c M8) (a : FVec F S16x128 .f32) (v73 : FVec F S1x128 .f32) :
    LoopInvTy_k0_t3 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 a where
  inv k acc := iprop(Pt c (slab 544 inb_S4352x1152_S544x1152_544_0) WV ∗ ⌜IsGA 34 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip3_run c arg2 harg2 arg5 harg5 arg7 harg7 WV a v73 k); iexact H
    · iintro %_ ⟨%h', H⟩
      isplitl [H]; · iexact H
      ipureintro; exact ⟨h'⟩

theorem trip4_run (WV : Bf (F := F) c M8) (a : FVec F S16x128 .f32) (v73 : FVec F S1x128 .f32) (k : Fin k0_t4_loop.trips) :
    Pt c (slab 1088 inb_S4352x1152_S544x1152_1088_0) WV ⊢ wp frame (wpE (defs₀ (F := F)) Variants.none (c : Thread nD τ) none) Set.univ
      (k0_t4_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 k (GA WV a 68 k.val))
      (fun y => iprop(⌜y = GA WV a 68 (k.val + 1)⌝ ∗ Pt c (slab 1088 inb_S4352x1152_S544x1152_1088_0) WV)) := by
  have hk : k.val < 34 := Nat.lt_of_lt_of_le k.isLt k0_t4_abs.2.1
  unfold k0_t4_body
  iintro H
  sl_exec
  sl_step
  isplitr
  · ipureintro
    show k0_pay72 _ _ = k0_pay70 (GA WV a 68 k.val) (wblk WV (68 + k.val))
    rw [← readBlk WV c (68 + k.val) (by omega) (k0_off5 k) (by rw [k0_off5_eq]; congr 1; omega) (k0_off5_inb k)]
    rfl
  · iexact H

set_option warn.classDefReducibility false in
/-- Chunk 2's loop: the partial sums after its blocks so far. -/
@[sl_loop] def loopInv4 (WV : Bf (F := F) c M8) (a : FVec F S16x128 .f32) (v73 : FVec F S1x128 .f32) :
    LoopInvTy_k0_t4 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 a where
  inv k acc := iprop(Pt c (slab 1088 inb_S4352x1152_S544x1152_1088_0) WV ∗ ⌜IsGA 68 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip4_run c arg2 harg2 arg5 harg5 arg7 harg7 WV a v73 k); iexact H
    · iintro %_ ⟨%h', H⟩
      isplitl [H]; · iexact H
      ipureintro; exact ⟨h'⟩

theorem trip5_run (WV : Bf (F := F) c M8) (a : FVec F S16x128 .f32) (v97 : FVec F S16x128 .f32) (k : Fin k0_t5_loop.trips) :
    Pt c (slab 1632 inb_S4352x1152_S544x1152_1632_0) WV ⊢ wp frame (wpE (defs₀ (F := F)) Variants.none (c : Thread nD τ) none) Set.univ
      (k0_t5_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 k (GA WV a 102 k.val))
      (fun y => iprop(⌜y = GA WV a 102 (k.val + 1)⌝ ∗ Pt c (slab 1632 inb_S4352x1152_S544x1152_1632_0) WV)) := by
  have hk : k.val < 34 := Nat.lt_of_lt_of_le k.isLt k0_t5_abs.2.1
  unfold k0_t5_body
  iintro H
  sl_exec
  sl_step
  isplitr
  · ipureintro
    show k0_pay73 _ _ = k0_pay70 (GA WV a 102 k.val) (wblk WV (102 + k.val))
    rw [← readBlk WV c (102 + k.val) (by omega) (k0_off6 k) (by rw [k0_off6_eq]; congr 1; omega) (k0_off6_inb k)]
    rfl
  · iexact H

set_option warn.classDefReducibility false in
/-- Chunk 3's loop: the partial sums after its blocks so far. -/
@[sl_loop] def loopInv5 (WV : Bf (F := F) c M8) (a : FVec F S16x128 .f32) (v97 : FVec F S16x128 .f32) :
    LoopInvTy_k0_t5 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 a where
  inv k acc := iprop(Pt c (slab 1632 inb_S4352x1152_S544x1152_1632_0) WV ∗ ⌜IsGA 102 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip5_run c arg2 harg2 arg5 harg5 arg7 harg7 WV a v97 k); iexact H
    · iintro %_ ⟨%h', H⟩
      isplitl [H]; · iexact H
      ipureintro; exact ⟨h'⟩

theorem trip6_run (WV : Bf (F := F) c M8) (a : FVec F S16x128 .f32) (v97 : FVec F S16x128 .f32) (k : Fin k0_t6_loop.trips) :
    Pt c (slab 2176 inb_S4352x1152_S544x1152_2176_0) WV ⊢ wp frame (wpE (defs₀ (F := F)) Variants.none (c : Thread nD τ) none) Set.univ
      (k0_t6_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 k (GA WV a 136 k.val))
      (fun y => iprop(⌜y = GA WV a 136 (k.val + 1)⌝ ∗ Pt c (slab 2176 inb_S4352x1152_S544x1152_2176_0) WV)) := by
  have hk : k.val < 34 := Nat.lt_of_lt_of_le k.isLt k0_t6_abs.2.1
  unfold k0_t6_body
  iintro H
  sl_exec
  sl_step
  isplitr
  · ipureintro
    show k0_pay74 _ _ = k0_pay70 (GA WV a 136 k.val) (wblk WV (136 + k.val))
    rw [← readBlk WV c (136 + k.val) (by omega) (k0_off7 k) (by rw [k0_off7_eq]; congr 1; omega) (k0_off7_inb k)]
    rfl
  · iexact H

set_option warn.classDefReducibility false in
/-- Chunk 4's loop: the partial sums after its blocks so far. -/
@[sl_loop] def loopInv6 (WV : Bf (F := F) c M8) (a : FVec F S16x128 .f32) (v97 : FVec F S16x128 .f32) :
    LoopInvTy_k0_t6 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 a where
  inv k acc := iprop(Pt c (slab 2176 inb_S4352x1152_S544x1152_2176_0) WV ∗ ⌜IsGA 136 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip6_run c arg2 harg2 arg5 harg5 arg7 harg7 WV a v97 k); iexact H
    · iintro %_ ⟨%h', H⟩
      isplitl [H]; · iexact H
      ipureintro; exact ⟨h'⟩

theorem trip7_run (WV : Bf (F := F) c M8) (a : FVec F S16x128 .f32) (v97 : FVec F S16x128 .f32) (k : Fin k0_t7_loop.trips) :
    Pt c (slab 2720 inb_S4352x1152_S544x1152_2720_0) WV ⊢ wp frame (wpE (defs₀ (F := F)) Variants.none (c : Thread nD τ) none) Set.univ
      (k0_t7_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 k (GA WV a 170 k.val))
      (fun y => iprop(⌜y = GA WV a 170 (k.val + 1)⌝ ∗ Pt c (slab 2720 inb_S4352x1152_S544x1152_2720_0) WV)) := by
  have hk : k.val < 34 := Nat.lt_of_lt_of_le k.isLt k0_t7_abs.2.1
  unfold k0_t7_body
  iintro H
  sl_exec
  sl_step
  isplitr
  · ipureintro
    show k0_pay75 _ _ = k0_pay70 (GA WV a 170 k.val) (wblk WV (170 + k.val))
    rw [← readBlk WV c (170 + k.val) (by omega) (k0_off8 k) (by rw [k0_off8_eq]; congr 1; omega) (k0_off8_inb k)]
    rfl
  · iexact H

set_option warn.classDefReducibility false in
/-- Chunk 5's loop: the partial sums after its blocks so far. -/
@[sl_loop] def loopInv7 (WV : Bf (F := F) c M8) (a : FVec F S16x128 .f32) (v97 : FVec F S16x128 .f32) :
    LoopInvTy_k0_t7 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 a where
  inv k acc := iprop(Pt c (slab 2720 inb_S4352x1152_S544x1152_2720_0) WV ∗ ⌜IsGA 170 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip7_run c arg2 harg2 arg5 harg5 arg7 harg7 WV a v97 k); iexact H
    · iintro %_ ⟨%h', H⟩
      isplitl [H]; · iexact H
      ipureintro; exact ⟨h'⟩

theorem trip8_run (WV : Bf (F := F) c M8) (a : FVec F S16x128 .f32) (v115 : FVec F S16x128 .f32) (c0_i32_116 : BitVec 32) (k : Fin k0_t8_loop.trips) :
    Pt c (slab 3264 inb_S4352x1152_S544x1152_3264_0) WV ⊢ wp frame (wpE (defs₀ (F := F)) Variants.none (c : Thread nD τ) none) Set.univ
      (k0_t8_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 k (GA WV a 204 k.val))
      (fun y => iprop(⌜y = GA WV a 204 (k.val + 1)⌝ ∗ Pt c (slab 3264 inb_S4352x1152_S544x1152_3264_0) WV)) := by
  have hk : k.val < 34 := Nat.lt_of_lt_of_le k.isLt k0_t8_abs.2.1
  unfold k0_t8_body
  iintro H
  sl_exec
  sl_step
  isplitr
  · ipureintro
    show k0_pay76 _ _ = k0_pay70 (GA WV a 204 k.val) (wblk WV (204 + k.val))
    rw [← readBlk WV c (204 + k.val) (by omega) (k0_off9 k) (by rw [k0_off9_eq]; congr 1; omega) (k0_off9_inb k)]
    rfl
  · iexact H

set_option warn.classDefReducibility false in
/-- Chunk 6's loop: the partial sums after its blocks so far. -/
@[sl_loop] def loopInv8 (WV : Bf (F := F) c M8) (a : FVec F S16x128 .f32) (v115 : FVec F S16x128 .f32) (c0_i32_116 : BitVec 32) :
    LoopInvTy_k0_t8 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 a where
  inv k acc := iprop(Pt c (slab 3264 inb_S4352x1152_S544x1152_3264_0) WV ∗ ⌜IsGA 204 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip8_run c arg2 harg2 arg5 harg5 arg7 harg7 WV a v115 c0_i32_116 k); iexact H
    · iintro %_ ⟨%h', H⟩
      isplitl [H]; · iexact H
      ipureintro; exact ⟨h'⟩

theorem trip9_run (WV : Bf (F := F) c M8) (a : FVec F S16x128 .f32) (v115 : FVec F S16x128 .f32) (c0_i32_116 : BitVec 32) (k : Fin k0_t9_loop.trips) :
    Pt c slab7 WV ⊢ wp frame (wpE (defs₀ (F := F)) Variants.none (c : Thread nD τ) none) Set.univ
      (k0_t9_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 k (GA WV a 238 k.val))
      (fun y => iprop(⌜y = GA WV a 238 (k.val + 1)⌝ ∗ Pt c slab7 WV)) := by
  have hk : k.val < 31 := Nat.lt_of_lt_of_le k.isLt k0_t9_abs.2.1
  unfold k0_t9_body
  iintro H
  sl_exec
  sl_step
  isplitr
  · ipureintro
    show k0_pay77 _ _ = k0_pay70 (GA WV a 238 k.val) (wblk WV (238 + k.val))
    rw [← readBlk WV c (238 + k.val) (by omega) (k0_off10 k) (by rw [k0_off10_eq]; congr 1; omega) (k0_off10_inb k)]
    rfl
  · iexact H

set_option warn.classDefReducibility false in
/-- Chunk 7's loop: the partial sums after its blocks so far. -/
@[sl_loop] def loopInv9 (WV : Bf (F := F) c M8) (a : FVec F S16x128 .f32) (v115 : FVec F S16x128 .f32) (c0_i32_116 : BitVec 32) :
    LoopInvTy_k0_t9 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 a where
  inv k acc := iprop(Pt c slab7 WV ∗ ⌜IsGA 238 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip9_run c arg2 harg2 arg5 harg5 arg7 harg7 WV a v115 c0_i32_116 k); iexact H
    · iintro %_ ⟨%h', H⟩
      isplitl [H]; · iexact H
      ipureintro; exact ⟨h'⟩
end Loops

section Rows
variable (XX : S1280x1152.Idx → Elt F .bf16) (XG : Vec F S1x1152 .f32)
/-- The 64 rows of the activations from row `64 j` on. -/
def xblk (j : ℕ) : S64x1152.Idx → Elt F .bf16 := fun i =>
  XX (fun | ⟨0, _⟩ => (⟨(64 * j + (i 0).val) % 1280, Nat.mod_lt _ (by decide)⟩ : Fin 1280) | ⟨1, _⟩ => (i 1 : Fin 1152))
/-- Row `r` among the 64 of its block. -/
abbrev in64 (r : Fin 1280) : Fin 64 := ⟨r.val % 64, Nat.mod_lt _ (by decide)⟩
abbrev at64 (r : Fin 1280) (l : Fin 1152) : S64x1152.Idx := fun | ⟨0, _⟩ => in64 r | ⟨1, _⟩ => l
abbrev at64s (r : Fin 1280) (l : Fin 128) : S64x128.Idx := fun | ⟨0, _⟩ => in64 r | ⟨1, _⟩ => l
/-- The codes, the codes in bf16, and the scales over 128 lanes, row `r` computed with the 64 rows of its block. -/
def C10 : S1280x1152.Idx → Elt F .i8 := fun i => k0_pay4 (k0_pay57 XG) (xblk XX ((i 0).val / 64)) (at64 (i 0) (i 1))
def C11 : S1280x1152.Idx → Elt F .bf16 := fun i => k0_pay5 (k0_pay57 XG) (xblk XX ((i 0).val / 64)) (at64 (i 0) (i 1))
def C12 : S1280x128.Idx → Elt F .f32 := fun i => k0_pay58 (k0_pay2 (k0_pay57 XG) (xblk XX ((i 0).val / 64))) (at64s (i 0) (i 1))

theorem readXBlk (c : Dev nD) (j : ℕ) (hj : j < 20) (off : Fin 2 → Nat) (e : off = ![64 * j, 0]) (h) :
    M9.view.readAt (Elt F) (Rect.unit (s := S1280x1152) off S64x1152.size h).toLoadRect (XX : Bf (F := F) c M9) = xblk XX j := by
  subst e
  funext i
  rw [View.readAt_apply]
  unfold xblk
  refine congrArg XX (funext fun a => ?_)
  match a with
  | ⟨0, _⟩ =>
    refine Fin.ext ?_
    show 64 * j + 1 * (i 0).val = (64 * j + (i 0).val) % 1280
    have : (i 0).val < 64 := (i 0).isLt
    omega
  | ⟨1, _⟩ =>
    refine Fin.ext ?_
    show 0 + 1 * (i 1).val = (i 1).val
    omega
end Rows

section Loop1
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole) (XX : S1280x1152.Idx → Elt F .bf16) (XG : Vec F S1x1152 .f32)

/-- Before trip `k` of the first loop: the rows below `64 k` of the three buffers are computed. -/
def inv1 (k : ℕ) : sProp 𝕄 :=
  iprop(Pt c M9 XX
    ∗ (∃ f : Bf (F := F) c M10, Pt c M10 f ∗ ⌜∀ i : S1280x1152.Idx, (i 0).val < 64 * k → M10.view.read (Elt F) f i = C10 XX XG i⌝)
    ∗ (∃ f : Bf (F := F) c M11, Pt c M11 f ∗ ⌜∀ i : S1280x1152.Idx, (i 0).val < 64 * k → M11.view.read (Elt F) f i = C11 XX XG i⌝)
    ∗ (∃ f : Bf (F := F) c M12, Pt c M12 f ∗ ⌜∀ i : S1280x128.Idx, (i 0).val < 64 * k → M12.view.read (Elt F) f i = C12 XX XG i⌝))

theorem trip1_run (k : Fin k0_t1_loop.trips) :
    inv1 c XX XG k.val ⊢ wp frame (wpE (defs₀ (F := F)) Variants.none (c : Thread nD τ) none) Set.univ
      (k0_t1_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 XG k ())
      (fun _ => inv1 c XX XG (k.val + 1)) := by
  have hk : k.val < 20 := Nat.lt_of_lt_of_le k.isLt k0_t1_abs.2.1
  unfold inv1 k0_t1_body
  iintro ⟨H9, ⟨%f10, H10, %h10⟩, ⟨%f11, H11, %h11⟩, ⟨%f12, H12, %h12⟩⟩
  sl_exec
  sl_step
  isplitl [H9]; · iexact H9
  isplitl [H10]
  · iexists _; isplitl [H10]; · iexact H10
    ipureintro
    intro i hi
    by_cases hlt : (i 0).val < 64 * k.val
    · refine Eq.trans (View.read_writes_cons_unit_of_not_mem (v := M10.view) (f := f10) (off' := ![64 * k.val, 0]) _ _ [] i (by rw [k0_off1_eq]) 0 (Or.inl hlt)) (h10 i hlt)
    · have h64 : (i 0).val / 64 = k.val := by omega
      have e := readXBlk XX c k.val hk (k0_off1 k) (by rw [k0_off1_eq]) (k0_off1_inb k)
      refine Eq.trans (View.read_writes_cons_unit_of_mem (v := M10.view) (f := f10) (off' := ![64 * k.val, 0]) _ _ [] i (at64 (i 0) (i 1)) (by rw [k0_off1_eq]) ?_) ?_
      · intro a
        match a with
        | ⟨0, _⟩ => show (i 0).val = 64 * k.val + (i 0).val % 64; omega
        | ⟨1, _⟩ => show (i 1).val = 0 + (i 1).val; omega
      · unfold C10; rw [h64, ← e]
  isplitl [H11]
  · iexists _; isplitl [H11]; · iexact H11
    ipureintro
    intro i hi
    by_cases hlt : (i 0).val < 64 * k.val
    · refine Eq.trans (View.read_writes_cons_unit_of_not_mem (v := M11.view) (f := f11) (off' := ![64 * k.val, 0]) _ _ [] i (by rw [k0_off1_eq]) 0 (Or.inl hlt)) (h11 i hlt)
    · have h64 : (i 0).val / 64 = k.val := by omega
      have e := readXBlk XX c k.val hk (k0_off1 k) (by rw [k0_off1_eq]) (k0_off1_inb k)
      refine Eq.trans (View.read_writes_cons_unit_of_mem (v := M11.view) (f := f11) (off' := ![64 * k.val, 0]) _ _ [] i (at64 (i 0) (i 1)) (by rw [k0_off1_eq]) ?_) ?_
      · intro a
        match a with
        | ⟨0, _⟩ => show (i 0).val = 64 * k.val + (i 0).val % 64; omega
        | ⟨1, _⟩ => show (i 1).val = 0 + (i 1).val; omega
      · unfold C11; rw [h64, ← e]; rfl
  · iexists _; isplitl [H12]; · iexact H12
    ipureintro
    intro i hi
    by_cases hlt : (i 0).val < 64 * k.val
    · refine Eq.trans (View.read_writes_cons_unit_of_not_mem (v := M12.view) (f := f12) (off' := ![64 * k.val, 0]) _ _ [] i (by rw [k0_off2_eq]) 0 (Or.inl hlt)) (h12 i hlt)
    · have h64 : (i 0).val / 64 = k.val := by omega
      have e := readXBlk XX c k.val hk (k0_off1 k) (by rw [k0_off1_eq]) (k0_off1_inb k)
      refine Eq.trans (View.read_writes_cons_unit_of_mem (v := M12.view) (f := f12) (off' := ![64 * k.val, 0]) _ _ [] i (at64s (i 0) (i 1)) (by rw [k0_off2_eq]) ?_) ?_
      · intro a
        match a with
        | ⟨0, _⟩ => show (i 0).val = 64 * k.val + (i 0).val % 64; omega
        | ⟨1, _⟩ => show (i 1).val = 0 + (i 1).val; omega
      · unfold C12; rw [h64, ← e]; rfl

set_option warn.classDefReducibility false in
@[sl_loop] def loopInv1 :
    LoopInvTy_k0_t1 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 XG where
  inv k _ := inv1 c XX XG k
  step k _ := trip1_run c arg2 harg2 arg5 harg5 arg7 harg7 XX XG k
end Loop1

end Cert.Kernel.Hand
end
-- ==== Proof.Kern2.lean ====
/-
  The last of the kernel's loops: one trip is one tile of 256 weight rows.

  Each trip waits for the copy that its half of the staging buffer is under, makes the tile ternary, packs it, multiplies
  it with the activations' codes, and starts the copy of the product to its 256 columns of the result. Before trip `k` tiles `k` and
  `k + 1` are under way, the tiles before have landed.
-/
module

public import proofs.«01_k».proof.Proof.Kern1
public import Idealize.ShloMosaic.Lib.Pipeline.Value
public import Idealize.ShloMosaic.Lib.ViewIndex

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## What a tile computes -/

section Tile
/-! The packing of one tile `w` of weights at scale `γ`, statement group by statement group. -/

def q1396 (γ : F .f32) (w : Vec F S256x1152 .bf16) : IVec S256x1152 1 := k0_pay9 γ w
def q1402 (γ : F .f32) (w : Vec F S256x1152 .bf16) : IVec S256x1152 16 := k0_pay10 γ w
def q1413 (γ : F .f32) (w : Vec F S256x1152 .bf16) : IVec S128x128 32 := k0_pay12 (q1396 γ w) (q1402 γ w)
def q1414 (γ : F .f32) (w : Vec F S256x1152 .bf16) : IVec S128x128 32 := k0_pay13 (q1396 γ w) (q1402 γ w)
def q1415 : IVec S128x128 32 := iota .tc S128x128 32 [1] iota_S128x128_d1_w32
def q1447 (γ : F .f32) (w : Vec F S256x1152 .bf16) : IVec S128x128 32 := k0_pay14 (q1396 γ w) (q1402 γ w)
def q1452 (γ : F .f32) (w : Vec F S256x1152 .bf16) : IVec S128x128 32 := k0_pay15 (q1413 γ w) (q1447 γ w) (2155905152#32)
def q1454 (γ : F .f32) (w : Vec F S256x1152 .bf16) : IVec S128x128 32 := k0_pay16 (q1414 γ w)
def q1480 (γ : F .f32) (w : Vec F S256x1152 .bf16) : IVec S128x128 32 := k0_pay17 q1415
def q1482 (γ : F .f32) (w : Vec F S256x1152 .bf16) : BitVec 32 := (Scalar.select (Scalar.cmpi .eq 32#32 0#32) 1#32 32#32)
def q1484 (γ : F .f32) (w : Vec F S256x1152 .bf16) : IVec S128x128 32 := k0_pay18 q1415
def q1486 (γ : F .f32) (w : Vec F S256x1152 .bf16) : IVec S128x128 1 := k0_pay19 q1415
def q1488 (γ : F .f32) (w : Vec F S256x1152 .bf16) : IVec S128x128 1 := k0_pay20 q1415
def q1491 (γ : F .f32) (w : Vec F S256x1152 .bf16) : IVec S128x128 1 := k0_pay21
def q1513 (γ : F .f32) (w : Vec F S256x1152 .bf16) : IVec S128x128 32 := k0_pay22 (q1452 γ w) (q1480 γ w) (q1482 γ w) (q1484 γ w) (q1486 γ w) (q1488 γ w) (q1491 γ w)
def q1533 (γ : F .f32) (w : Vec F S256x1152 .bf16) : IVec S128x128 32 := k0_pay23 q1415
def q1535 (γ : F .f32) (w : Vec F S256x1152 .bf16) : IVec S128x128 1 := k0_pay24 q1415
def q1581 (γ : F .f32) (w : Vec F S256x1152 .bf16) : IVec S128x128 32 := k0_pay25 q1415 (q1452 γ w) (q1480 γ w) (q1513 γ w) (q1533 γ w) (q1535 γ w) (128#32)
def q1617 (γ : F .f32) (w : Vec F S256x1152 .bf16) : IVec S128x128 32 := k0_pay27 q1415 (q1452 γ w) (q1480 γ w) (q1581 γ w)
def q1623 (γ : F .f32) (w : Vec F S256x1152 .bf16) : IVec S128x128 32 := k0_pay28 q1415 (q1452 γ w) (q1480 γ w) (q1581 γ w)
def q1624 (γ : F .f32) (w : Vec F S256x1152 .bf16) : IVec S128x128 32 := k0_pay29
def q1628 (γ : F .f32) (w : Vec F S256x1152 .bf16) : IVec S128x128 32 := k0_pay30 (q1617 γ w) (q1623 γ w) (q1624 γ w)
def q1654 (γ : F .f32) (w : Vec F S256x1152 .bf16) : IVec S128x128 32 := k0_pay31 q1415
def q1658 (γ : F .f32) (w : Vec F S256x1152 .bf16) : IVec S128x128 32 := k0_pay32 q1415
def q1667 (γ : F .f32) (w : Vec F S256x1152 .bf16) : IVec S128x128 1 := k0_pay33 q1415
def q1669 (γ : F .f32) (w : Vec F S256x1152 .bf16) : IVec S128x128 32 := k0_pay34 q1415
def q1687 (γ : F .f32) (w : Vec F S256x1152 .bf16) : IVec S128x128 32 := k0_pay35 (q1452 γ w) (q1654 γ w) (q1658 γ w) (q1667 γ w) (q1669 γ w)
def q1713 (γ : F .f32) (w : Vec F S256x1152 .bf16) : IVec S128x128x1 32 := k0_pay36 q1415
def q1755 (γ : F .f32) (w : Vec F S256x1152 .bf16) : IVec S128x128 32 := k0_pay37 q1415 (q1452 γ w) (q1654 γ w) (q1687 γ w) (q1713 γ w)
def q1756 (γ : F .f32) (w : Vec F S256x1152 .bf16) : BitVec 1 := (Scalar.cmpi .eq 32#32 0#32)
def q1799 (γ : F .f32) (w : Vec F S256x1152 .bf16) : IVec S128x128 32 := k0_pay40 q1415 (q1452 γ w) (q1654 γ w) (q1755 γ w) (32#32) (q1756 γ w) (1#32)
def q1801 (γ : F .f32) (w : Vec F S256x1152 .bf16) : IVec S128x128 32 := k0_pay41 q1415 (q1452 γ w) (q1654 γ w) (q1755 γ w) (32#32) (q1756 γ w) (1#32)
def q1802 (γ : F .f32) (w : Vec F S256x1152 .bf16) : IVec S128x128 32 := k0_pay42 (q1799 γ w) (q1801 γ w)
def q1803 (γ : F .f32) (w : Vec F S256x1152 .bf16) : IVec S128x128 32 := k0_pay43
def q1836 (γ : F .f32) (w : Vec F S256x1152 .bf16) : IVec S128x128 32 := k0_pay44 q1415 (q1454 γ w)
def q1838 (γ : F .f32) (w : Vec F S256x1152 .bf16) : BitVec 32 := (Scalar.select (Scalar.cmpi .eq 32#32 0#32) 1#32 32#32)
def q1840 (γ : F .f32) (w : Vec F S256x1152 .bf16) : IVec S128x128 32 := k0_pay45 q1415
def q1842 (γ : F .f32) (w : Vec F S256x1152 .bf16) : IVec S128x128 1 := k0_pay46 q1415
def q1843 (γ : F .f32) (w : Vec F S256x1152 .bf16) : IVec S128x128 32 := k0_pay47
def q1870 (γ : F .f32) (w : Vec F S256x1152 .bf16) : IVec S128x128 32 := k0_pay48 (q1454 γ w) (q1803 γ w) (q1836 γ w) (q1838 γ w) (q1840 γ w) (q1842 γ w) (q1843 γ w)
def q1888 (γ : F .f32) (w : Vec F S256x1152 .bf16) : IVec S128x128 32 := k0_pay49 q1415
def q1904 (γ : F .f32) (w : Vec F S256x1152 .bf16) : IVec S128x128 32 := k0_pay50 (q1454 γ w) (q1803 γ w) (q1870 γ w) (q1888 γ w) (2#32)
def q1933 (γ : F .f32) (w : Vec F S256x1152 .bf16) : IVec S128x128 32 := k0_pay51 q1415 (q1454 γ w) (q1803 γ w)

/-- Columns 0 to 127, 128 to 255 and 256 to 287 of the packed tile. -/
def P0 (γ : F .f32) (w : Vec F S256x1152 .bf16) : IVec S256x128 8 := k0_pay52 (q1628 γ w)
def P1 (γ : F .f32) (w : Vec F S256x1152 .bf16) : IVec S256x128 8 := k0_pay53 (q1802 γ w)
def P2 (γ : F .f32) (w : Vec F S256x1152 .bf16) : IVec S256x32 8 := k0_pay54 (q1904 γ w) (q1933 γ w) (2155905152#32)
end Tile

section Whole
variable (γ : F .f32) (WV : S4352x1152.Idx → Elt F .bf16) (A : S1280x1152.Idx → Elt F .bf16) (B : S1280x128.Idx → Elt F .f32)

/-- Tile `j` of the padded weights: rows `256 j` to `256 (j + 1)`. -/
def wtile (j : ℕ) : Vec F S256x1152 .bf16 := fun i =>
  WV (fun | ⟨0, _⟩ => (⟨(256 * j + (i 0).val) % 4352, Nat.mod_lt _ (by decide)⟩ : Fin 4352) | ⟨1, _⟩ => (i 1 : Fin 1152))
abbrev in256 (n : ℕ) : Fin 256 := ⟨n % 256, Nat.mod_lt _ (by decide)⟩
/-- The packed weights. -/
def PV : S4352x288.Idx → Elt F .i8 := fun i =>
  if (i 1).val < 128 then P0 γ (wtile WV ((i 0).val / 256)) (fun | ⟨0, _⟩ => in256 (i 0).val | ⟨1, _⟩ => (⟨(i 1).val % 128, Nat.mod_lt _ (by decide)⟩ : Fin 128))
  else if (i 1).val < 256 then P1 γ (wtile WV ((i 0).val / 256)) (fun | ⟨0, _⟩ => in256 (i 0).val | ⟨1, _⟩ => (⟨(i 1).val % 128, Nat.mod_lt _ (by decide)⟩ : Fin 128))
  else P2 γ (wtile WV ((i 0).val / 256)) (fun | ⟨0, _⟩ => in256 (i 0).val | ⟨1, _⟩ => (⟨(i 1).val % 32, Nat.mod_lt _ (by decide)⟩ : Fin 32))
/-- The first lane of the scales. -/
def col0 : Vec F S1280x1 .f32 := fun i => B (fun | ⟨0, _⟩ => (i 0 : Fin 1280) | ⟨1, _⟩ => (⟨0, by decide⟩ : Fin 128))
/-- Tile `j` of the product, scaled. -/
def YT (j : ℕ) : S1280x256.Idx → Elt F .bf16 := fun i =>
  k0_pay171 γ (k0_pay55 A (k0_pay8 γ (wtile WV j))) (col0 B) (fun | ⟨0, _⟩ => (⟨0, by decide⟩ : Fin 1) | ⟨1, _⟩ => (i 0 : Fin 1280) | ⟨2, _⟩ => (i 1 : Fin 256))
/-- The padded product. -/
def YV : S1280x4352.Idx → Elt F .bf16 := fun i => YT γ WV A B ((i 1).val / 256) (fun | ⟨0, _⟩ => (i 0 : Fin 1280) | ⟨1, _⟩ => in256 (i 1).val)
end Whole

/-! ## The two slots of the staging buffer, their semaphores, the result's 17 windows of columns -/

abbrev ywOff (b : Fin 17) : Fin 2 → Nat := ![0, 256 * b.val]
theorem ywOff_inb (b : Fin 17) : ∀ a, ywOff b a + S1280x256.size a ≤ S1280x4352.size a := by
  have := b.isLt; intro a; fin_cases a
  · show 0 + 1280 ≤ 1280; omega
  · show 256 * b.val + 256 ≤ 4352; omega
abbrev slotOff (s : Fin 2) : Fin 3 → Nat := ![s.val, 0, 0]
theorem slotOff_inb (s : Fin 2) : ∀ a, slotOff s a + S1x1280x256.size a ≤ S2x1280x256.size a := by
  have := s.isLt; intro a; fin_cases a
  · show s.val + 1 ≤ 2; omega
  · show 0 + 1280 ≤ 1280; omega
  · show 0 + 256 ≤ 256; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Window `b` of the result. -/
def ywin (b : Fin 17) : Memref sig .tc .hbm S1280x256 .bf16 :=
  M3.slice (Rect.unit (s := S1280x4352) (ywOff b) S1280x256.size (ywOff_inb b)) (fun _ => rfl)
/-- Slot `s` of the staging buffer. -/
def slotM (s : Fin 2) : Memref sig .tc .vmem S1280x256 .bf16 :=
  (M15.slice (Rect.unit (s := S2x1280x256) (slotOff s) S1x1280x256.size (slotOff_inb s)) (fun _ => rfl)).squeeze S1280x256 squeezes_S1x1280x256_S1280x256
/-- Slot `s`'s semaphore. -/
def csm (s : Fin 2) : DmaSems sig S_ := (cc0_scratch12.slice (Rect.unit (s := S2) (semOff s) S1.size (semOff_inb s))).squeeze S_ squeezes_S1_S_

instance (s : Fin 2) : ClosedOff (slotOff s) := ⟨slotOff s, rfl⟩
instance (b : Fin 17) : ClosedOff (ywOff b) := ⟨ywOff b, rfl⟩

section Canon
private theorem csm_congr {off : Fin 1 → Nat} {s : Fin 2} (e : off = semOff s) (hh) :
    (cc0_scratch12.slice (Rect.unit (s := S2) off S1.size hh)).squeeze S_ squeezes_S1_S_ = csm s :=
  congrArg (fun A : DmaSems sig S1 => A.squeeze S_ squeezes_S1_S_) (SemArray.slice_unit_congr _ e _ _)
private theorem slot_congr {off : Fin 3 → Nat} {s : Fin 2} (e : off = slotOff s) (hh hs) :
    (M15.slice (Rect.unit (s := S2x1280x256) off S1x1280x256.size hh) hs).squeeze S1280x256 squeezes_S1x1280x256_S1280x256 = slotM s :=
  congrArg (fun M : Memref sig .tc .vmem S1x1280x256 .bf16 => M.squeeze S1280x256 squeezes_S1x1280x256_S1280x256) (Memref.slice_unit_congr _ e _ _ _ _)
private theorem ywin_congr {off : Fin 2 → Nat} {b : Fin 17} (e : off = ywOff b) (hh hs) :
    M3.slice (Rect.unit (s := S1280x4352) off S1280x256.size hh) hs = ywin b := Memref.slice_unit_congr _ e _ _ _ (fun _ => rfl)

@[sl_canon] theorem semL0 (hh) : (cc0_scratch12.slice (Rect.unit (s := S2) ![0] S1.size hh)).squeeze S_ squeezes_S1_S_ = csm 0 := csm_congr (by decide) _
@[sl_canon] theorem semL1 (hh) : (cc0_scratch12.slice (Rect.unit (s := S2) ![1] S1.size hh)).squeeze S_ squeezes_S1_S_ = csm 1 := csm_congr (by decide) _
@[sl_canon] theorem slotL0 (hh hs) : (M15.slice (Rect.unit (s := S2x1280x256) ![0, 0, 0] S1x1280x256.size hh) hs).squeeze S1280x256 squeezes_S1x1280x256_S1280x256 = slotM 0 := slot_congr (by decide) _ _
@[sl_canon] theorem slotL1 (hh hs) : (M15.slice (Rect.unit (s := S2x1280x256) ![1, 0, 0] S1x1280x256.size hh) hs).squeeze S1280x256 squeezes_S1x1280x256_S1280x256 = slotM 1 := slot_congr (by decide) _ _
@[sl_canon] theorem ywinL0 (hh hs) : M3.slice (Rect.unit (s := S1280x4352) ![0, 0] S1280x256.size hh) hs = ywin 0 := ywin_congr (by decide) _ _
@[sl_canon] theorem ywinL1 (hh hs) : M3.slice (Rect.unit (s := S1280x4352) ![0, 256] S1280x256.size hh) hs = ywin 1 := ywin_congr (by decide) _ _
@[sl_canon] theorem ywinL15 (hh hs) : M3.slice (Rect.unit (s := S1280x4352) ![0, 3840] S1280x256.size hh) hs = ywin 15 := ywin_congr (by decide) _ _
@[sl_canon] theorem ywinL16 (hh hs) : M3.slice (Rect.unit (s := S1280x4352) ![0, 4096] S1280x256.size hh) hs = ywin 16 := ywin_congr (by decide) _ _

theorem trips10 (k : Fin k0_t10_loop.trips) : k.val < 15 := Nat.lt_of_lt_of_le k.isLt k0_t10_abs.2.1

theorem off11_eq (k : Fin k0_t10_loop.trips) : k0_off11 k = semOff (Ring.sl 2 k.val) := by
  rw [k0_off11_eq]; unfold semOff; congr 1; simp [Ring.sl, Fin.ofNat]
theorem off13_eq (k : Fin k0_t10_loop.trips) : k0_off13 k = slotOff (Ring.sl 2 k.val) := by
  rw [k0_off13_eq]; unfold slotOff; congr 1; simp [Ring.sl, Fin.ofNat]
theorem off18_eq (k : Fin k0_t10_loop.trips) : k0_off18 k = slotOff (Ring.sl 2 k.val) := by
  rw [k0_off18_eq]; unfold slotOff; congr 1; simp [Ring.sl, Fin.ofNat]
theorem off12_eq (k : Fin k0_t10_loop.trips) : k0_off12 k = ywOff (Ring.bk 17 k.val) := by
  have := trips10 k; rw [k0_off12_eq]; unfold ywOff; rw [Ring.bk_val (by omega)]
theorem off19_eq (k : Fin k0_t10_loop.trips) : k0_off19 k = ywOff (Ring.bk 17 (k.val + 2)) := by
  have := trips10 k; rw [k0_off19_eq]; unfold ywOff; rw [Ring.bk_val (by omega), show 256 * (k.val + 2) = 256 * k.val + 512 by omega]

@[sl_canon] theorem semK (k : Fin k0_t10_loop.trips) (hh) :
    (cc0_scratch12.slice (Rect.unit (s := S2) (k0_off11 k) S1.size hh)).squeeze S_ squeezes_S1_S_ = csm (Ring.sl 2 k.val) := csm_congr (off11_eq k) _
@[sl_canon] theorem slotK (k : Fin k0_t10_loop.trips) (hh hs) :
    (M15.slice (Rect.unit (s := S2x1280x256) (k0_off13 k) S1x1280x256.size hh) hs).squeeze S1280x256 squeezes_S1x1280x256_S1280x256 = slotM (Ring.sl 2 k.val) := slot_congr (off13_eq k) _ _
@[sl_canon] theorem ywinW (k : Fin k0_t10_loop.trips) (hh hs) :
    M3.slice (Rect.unit (s := S1280x4352) (k0_off12 k) S1280x256.size hh) hs = ywin (Ring.bk 17 k.val) := ywin_congr (off12_eq k) _ _
@[sl_canon] theorem ywinI (k : Fin k0_t10_loop.trips) (hh hs) :
    M3.slice (Rect.unit (s := S1280x4352) (k0_off19 k) S1280x256.size hh) hs = ywin (Ring.bk 17 (k.val + 2)) := ywin_congr (off19_eq k) _ _
/-- The same slot's offset, as the loads and stores through the whole buffer have it. -/
instance (priority := high) (k : Fin k0_t10_loop.trips) : ClosedOff (k0_off18 k) := ⟨slotOff (Ring.sl 2 k.val), off18_eq k⟩
instance (priority := high) (k : Fin k0_t10_loop.trips) : ClosedOff (k0_off13 k) := ⟨slotOff (Ring.sl 2 k.val), off13_eq k⟩
end Canon

/-! ## Reading the windows -/

/-- Held on its elements, a buffer may be restated at any contents its view reads the same. -/
theorem pt_of_read (c : Dev nD) {sp : Space} {S : Shape} {e : EltTy} (M : Memref sig .tc sp S e) (f g : Bf (F := F) c M)
    (h : ∀ x, M.view.read (Elt F) f x = M.view.read (Elt F) g x) : Pt c M f = Pt c M g :=
  pointsTo_congr fun i hi => by
    obtain ⟨x, rfl⟩ := View.exists_emb_of_mem_set M.view hi
    exact View.eq_of_read_eq (h x)

abbrev ix3 (s : Fin 2) (i : S1280x256.Idx) : S2x1280x256.Idx := fun | ⟨0, _⟩ => s | ⟨1, _⟩ => (i 0 : Fin 1280) | ⟨2, _⟩ => (i 1 : Fin 256)
abbrev ix3' (i : S1280x256.Idx) : S1x1280x256.Idx := fun | ⟨0, _⟩ => (⟨0, by decide⟩ : Fin 1) | ⟨1, _⟩ => (i 0 : Fin 1280) | ⟨2, _⟩ => (i 1 : Fin 256)

theorem slot_read (s : Fin 2) (g : M15.view.ty.Contents (Elt F)) (i : S1280x256.Idx) :
    (slotM s).view.read (Elt F) g i = M15.view.read (Elt F) g (ix3 s i) := by
  unfold slotM
  rw [Memref.read_squeeze_slice M15 _ _ _ (by decide : S1x1280x256.ShapeCasts S1280x256)]
  refine (shapeCast_dropUnit_apply ![1280, 256] _ _ i).trans ?_
  refine congrArg (M15.view.read (Elt F) g) (funext fun a => Fin.ext ?_)
  match a with
  | ⟨0, _⟩ => show s.val + 1 * 0 = s.val; omega
  | ⟨1, _⟩ => show 0 + 1 * (i 0).val = (i 0).val; omega
  | ⟨2, _⟩ => show 0 + 1 * (i 1).val = (i 1).val; omega

section Reads
variable (c : Dev nD) (γ : F .f32) (WV : S4352x1152.Idx → Elt F .bf16) (A : S1280x1152.Idx → Elt F .bf16) (B : S1280x128.Idx → Elt F .f32)

theorem readTile (j : ℕ) (hj : j < 17) (off : Fin 2 → Nat) (e : off = ![256 * j, 0]) (h) :
    M8.view.readAt (Elt F) (Rect.unit (s := S4352x1152) off S256x1152.size h).toLoadRect (WV : Bf (F := F) c M8) = wtile WV j := by
  subst e
  funext i
  rw [View.readAt_apply]
  unfold wtile
  refine congrArg WV (funext fun a => ?_)
  match a with
  | ⟨0, _⟩ =>
    refine Fin.ext ?_
    show 256 * j + 1 * (i 0).val = (256 * j + (i 0).val) % 4352
    have : (i 0).val < 256 := (i 0).isLt
    omega
  | ⟨1, _⟩ =>
    refine Fin.ext ?_
    show 0 + 1 * (i 1).val = (i 1).val
    omega
theorem readCol0 (h) : M12.view.readAt (Elt F) (Rect.unit (s := S1280x128) ![0, 0] S1280x1.size h).toLoadRect (B : Bf (F := F) c M12) = col0 B := by
  funext i
  rw [View.readAt_apply]
  unfold col0
  refine congrArg B (funext fun a => ?_)
  match a with
  | ⟨0, _⟩ =>
    refine Fin.ext ?_
    show 0 + 1 * (i 0).val = (i 0).val
    omega
  | ⟨1, _⟩ =>
    refine Fin.ext ?_
    show 0 + 1 * (i 1).val = 0
    have : (i 1).val < 1 := (i 1).isLt
    omega
theorem readA (h) : M11.view.readAt (Elt F) (Rect.unit (s := S1280x1152) ![0, 0] S1280x1152.size h).toLoadRect (A : Bf (F := F) c M11) = A := by
  funext i
  rw [View.readAt_apply]
  refine congrArg A (funext fun a => Fin.ext ?_)
  match a with
  | ⟨0, _⟩ => show 0 + 1 * (i 0).val = (i 0).val; omega
  | ⟨1, _⟩ => show 0 + 1 * (i 1).val = (i 1).val; omega

/-- What a slot holding tile `j` leaves in window `j`. -/
theorem landed_eq (b : Fin 17) (f : Bf (F := F) c (ywin b)) (x : S1280x256.Idx → Elt F .bf16) (h : ∀ i, x i = YT γ WV A B b.val i) :
    Pt c (ywin b) ((ywin b).view.writes (Elt F) f [⟨Rect.whole S1280x256, x⟩]) = Pt c (ywin b) (YV γ WV A B) := by
  refine pt_of_read c (ywin b) _ _ fun i => ?_
  rw [View.read_writes_whole, h]
  have h1 : (i 1).val < 256 := (i 1).isLt
  show YT γ WV A B b.val i = YV γ WV A B ((Rect.unit (s := S1280x4352) (ywOff b) S1280x256.size (ywOff_inb b)).emb i)
  have e0 : ((Rect.unit (s := S1280x4352) (ywOff b) S1280x256.size (ywOff_inb b)).emb i 0).val = (i 0).val := by
    show 0 + 1 * (i 0).val = (i 0).val; omega
  have e1 : ((Rect.unit (s := S1280x4352) (ywOff b) S1280x256.size (ywOff_inb b)).emb i 1).val = 256 * b.val + (i 1).val := by
    show 256 * b.val + 1 * (i 1).val = 256 * b.val + (i 1).val; omega
  unfold YV
  rw [show ((Rect.unit (s := S1280x4352) (ywOff b) S1280x256.size (ywOff_inb b)).emb i 1).val / 256 = b.val by omega]
  refine congrArg _ (funext fun a => Fin.ext ?_)
  match a with
  | ⟨0, _⟩ => exact e0.symm
  | ⟨1, _⟩ => show (i 1).val = ((Rect.unit (s := S1280x4352) (ywOff b) S1280x256.size (ywOff_inb b)).emb i 1).val % 256; omega

/-- The three stores of tile `j` into the packed weights extend the rows that agree with `PV`. -/
theorem packed_ext (j : ℕ) (f : Bf (F := F) c M14)
    (hf : ∀ i : S4352x288.Idx, (i 0).val < 256 * j → M14.view.read (Elt F) f i = PV γ WV i)
    (o0 o1 o2 : Fin 2 → Nat) (h0 h1 h2) (e0 : o0 = ![256 * j, 0]) (e1 : o1 = ![256 * j, 128]) (e2 : o2 = ![256 * j, 256])
    (p0 : IVec S256x128 8) (p1 : IVec S256x128 8) (p2 : IVec S256x32 8)
    (d0 : p0 = P0 γ (wtile WV j)) (d1 : p1 = P1 γ (wtile WV j)) (d2 : p2 = P2 γ (wtile WV j))
    (i : S4352x288.Idx) (hi : (i 0).val < 256 * (j + 1)) :
    M14.view.read (Elt F) (M14.view.writes (Elt F) f [⟨Rect.unit (s := S4352x288) o2 S256x32.size h2, p2⟩,
      ⟨Rect.unit (s := S4352x288) o1 S256x128.size h1, p1⟩, ⟨Rect.unit (s := S4352x288) o0 S256x128.size h0, p0⟩]) i = PV γ WV i := by
  have hc : (i 1).val < 288 := (i 1).isLt
  by_cases hlt : (i 0).val < 256 * j
  · rw [View.read_writes_cons_unit_of_not_mem _ _ _ _ _ i e2 0 (Or.inl hlt),
      View.read_writes_cons_unit_of_not_mem _ _ _ _ _ i e1 0 (Or.inl hlt),
      View.read_writes_cons_unit_of_not_mem _ _ _ _ _ i e0 0 (Or.inl hlt)]
    exact hf i hlt
  · have hj : (i 0).val / 256 = j := by omega
    unfold PV
    rw [hj]
    by_cases c1 : (i 1).val < 128
    · rw [if_pos c1, ← d0, View.read_writes_cons_unit_of_not_mem _ _ _ _ _ i e2 1 (Or.inl (by show (i 1).val < 256; omega)),
        View.read_writes_cons_unit_of_not_mem _ _ _ _ _ i e1 1 (Or.inl c1)]
      refine View.read_writes_cons_unit_of_mem _ _ _ _ _ i _ e0 fun a => ?_
      match a with
      | ⟨0, _⟩ => show (i 0).val = 256 * j + (i 0).val % 256; omega
      | ⟨1, _⟩ => show (i 1).val = 0 + (i 1).val % 128; omega
    · rw [if_neg c1]
      by_cases c2 : (i 1).val < 256
      · rw [if_pos c2, ← d1, View.read_writes_cons_unit_of_not_mem _ _ _ _ _ i e2 1 (Or.inl c2)]
        refine View.read_writes_cons_unit_of_mem _ _ _ _ _ i _ e1 fun a => ?_
        match a with
        | ⟨0, _⟩ => show (i 0).val = 256 * j + (i 0).val % 256; omega
        | ⟨1, _⟩ => show (i 1).val = 128 + (i 1).val % 128; omega
      · rw [if_neg c2, ← d2]
        refine View.read_writes_cons_unit_of_mem _ _ _ _ _ i _ e2 fun a => ?_
        match a with
        | ⟨0, _⟩ => show (i 0).val = 256 * j + (i 0).val % 256; omega
        | ⟨1, _⟩ => show (i 1).val = 256 + (i 1).val % 32; omega
/-- A slot stored with tile `j`'s product reads as that tile. -/
theorem slot_stored (j : ℕ) (s : Fin 2) (g : M15.view.ty.Contents (Elt F)) (off : Fin 3 → Nat) (h) (e : off = slotOff s)
    (t : FVec F S1280x256 .f32) (u : Vec F S1280x1 .f32) (ht : t = k0_pay55 A (k0_pay8 γ (wtile WV j))) (hu : u = col0 B) (i : S1280x256.Idx) :
    (slotM s).view.read (Elt F) (M15.view.writes (Elt F) g [⟨Rect.unit (s := S2x1280x256) off S1x1280x256.size h, k0_pay171 γ t u⟩]) i = YT γ WV A B j i := by
  rw [slot_read]
  subst ht hu
  refine View.read_writes_cons_unit_of_mem _ _ _ _ _ (ix3 s i) (ix3' i) e fun a => ?_
  match a with
  | ⟨0, _⟩ => rfl
  | ⟨1, _⟩ => show (i 0).val = 0 + (i 0).val; omega
  | ⟨2, _⟩ => show (i 1).val = 0 + (i 1).val; omega
end Reads

section Loop10
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole)
  (γ : F .f32) (WV : S4352x1152.Idx → Elt F .bf16) (A : S1280x1152.Idx → Elt F .bf16) (B : S1280x128.Idx → Elt F .f32)

abbrev cellP (s : Fin 2) : sProp 𝕄 := semVal ((c : Thread nD τ), SemLoc.dma (csm s).sem) 0
/-- Window `b` before trip `k`: landed if before `k`, else at anything. -/
def homeY (k : ℕ) (b : Fin 17) : sProp 𝕄 :=
  if b.val < k then Pt c (ywin b) (YV γ WV A B) else iprop(∃ f, Pt (F := F) c (ywin b) f)
abbrev landed (s : Fin 2) (b : Fin 17) (f : Bf (F := F) c (ywin b)) (g : Bf (F := F) c (slotM s)) : Bf (F := F) c (ywin b) :=
  (ywin b).view.writes (Elt F) f [⟨Rect.whole S1280x256, ReadAs.same.apply ((slotM s).view.read (Elt F) g)⟩]
abbrev NN : ℕ := 20480
/-- Slot `s` under way to window `b`, holding tile `j`. -/
def flightP (s : Fin 2) (b : Fin 17) (j : ℕ) : sProp 𝕄 :=
  iprop(∃ f g, ⌜∀ i, (slotM s).view.read (Elt F) g i = YT γ WV A B j i⌝
    ∗ Transfers.Flight countersEmb (c : Thread nD τ) (SemLoc.dma (csm s).sem) () NN iprop(Pt c (ywin b) (landed c s b f g) ∗ Pt c (slotM s) g))
/-- Before trip `k`. -/
def inv10 (k : ℕ) : sProp 𝕄 :=
  iprop(Pt c M8 WV ∗ Pt c M11 A ∗ Pt c M12 B ∗ (∃ f, Pt (F := F) c M13 f)
    ∗ (∃ f : Bf (F := F) c M14, Pt c M14 f ∗ ⌜∀ i : S4352x288.Idx, (i 0).val < 256 * (k + 2) → M14.view.read (Elt F) f i = PV γ WV i⌝)
    ∗ (∃ W, owes (c : Thread nD τ) 0 W)
    ∗ bigSep (Ring.homeSet 2 k) (homeY c γ WV A B k)
    ∗ flightP c γ WV A B (Ring.sl 2 k) (Ring.bk 17 k) k ∗ flightP c γ WV A B (Ring.sl 2 (k + 1)) (Ring.bk 17 (k + 1)) (k + 1))

theorem home_here (k : ℕ) (hk : k + 2 < 17) :
    bigSep (Ring.homeSet 2 k) (homeY c γ WV A B k)
      = iprop((∃ f, Pt (F := F) c (ywin (Ring.bk 17 (k + 2))) f) ∗ bigSep ((Ring.homeSet 2 k).erase (Ring.bk 17 (k + 2))) (homeY c γ WV A B k)) := by
  conv_lhs => rw [Ring.homeSet_out 2 k hk, bigSep_insert (Ring.bkL_not_mem_erase 2 k)]
  have e : homeY c γ WV A B k (Ring.bk 17 (k + 2)) = iprop(∃ f, Pt (F := F) c (ywin (Ring.bk 17 (k + 2))) f) :=
    if_neg (by rw [Ring.bk_val hk]; omega)
  rw [e]; rfl
theorem home_next (k : ℕ) (hk : k + 2 < 17) :
    bigSep (Ring.homeSet 2 (k + 1)) (homeY c γ WV A B (k + 1))
      = iprop(Pt c (ywin (Ring.bk 17 k)) (YV γ WV A B) ∗ bigSep ((Ring.homeSet 2 k).erase (Ring.bk 17 (k + 2))) (homeY c γ WV A B k)) := by
  conv_lhs => rw [Ring.homeSet_succ 2 k hk, bigSep_insert (Ring.bk_not_mem_erase 2 k (by omega) (by decide))]
  have e : homeY c γ WV A B (k + 1) (Ring.bk 17 k) = Pt c (ywin (Ring.bk 17 k)) (YV γ WV A B) :=
    if_pos (by rw [Ring.bk_val (by omega)]; omega)
  have e2 : bigSep ((Ring.homeSet 2 k).erase (Ring.bk 17 (k + 2))) (homeY c γ WV A B (k + 1))
      = bigSep ((Ring.homeSet 2 k).erase (Ring.bk 17 (k + 2))) (homeY c γ WV A B k) := by
    refine bigSep_congr fun b hb => ?_
    rw [Finset.mem_erase, Ring.mem_homeSet] at hb
    unfold homeY
    have : (b.val < k + 1) = (b.val < k) := by
      have h2 := hb.2
      exact propext ⟨fun h => by omega, fun h => by omega⟩
    simp only [this]
  rw [e, e2]; rfl

theorem sl2_add2 (k : ℕ) : Ring.sl 2 (k + 1 + 1) = Ring.sl 2 k := by rw [show k + 1 + 1 = k + 2 from rfl, Ring.sl_add]

theorem trip10_run (v1328 : IVec S256x32 8) (k : Fin k0_t10_loop.trips) :
    inv10 c γ WV A B k.val ⊢ wp frame (wpE (defs₀ (F := F)) Variants.none (c : Thread nD τ) none) Set.univ
      (k0_t10_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 γ v1328 k ())
      (fun _ => inv10 c γ WV A B (k.val + 1)) := by
  have hk : k.val < 15 := trips10 k
  unfold inv10
  rw [home_here c γ WV A B k.val (by omega), home_next c γ WV A B k.val (by omega), sl2_add2]
  unfold flightP
  iintro ⟨H8, H11, H12, ⟨%f13, H13⟩, ⟨%f14, H14, %h14⟩, ⟨%W, HW⟩, ⟨⟨%fy, Hy⟩, Hrest⟩, ⟨%f0, %g0, %e0, HF0⟩, HF1⟩
  unfold k0_t10_body
  sl_exec
  sl_step
  have et := readTile WV (k.val + 2) (by omega) (k0_off14 k) (by rw [k0_off14_eq, show 256 * (k.val + 2) = 256 * k.val + 512 by omega]) (k0_off14_inb k)
  have eL := landed_eq c γ WV A B (Ring.bk 17 k.val) f0 (ReadAs.same.apply ((slotM (Ring.sl 2 k.val)).view.read (Elt F) g0))
    (fun i => (e0 i).trans (by rw [Ring.bk_val (by omega : k.val < 17)]))
  isplitl [H8]; · iexact H8
  isplitl [H11]; · iexact H11
  isplitl [H12]; · iexact H12
  isplitl [H13]; · iexists _; iexact H13
  isplitl [H14]
  · iexists _; isplitl [H14]; · iexact H14
    ipureintro
    intro i hi
    refine packed_ext c γ WV (k.val + 2) f14 h14 _ _ _ _ _ _ (by rw [k0_off15_eq, show 256 * (k.val + 2) = 256 * k.val + 512 by omega])
      (by rw [k0_off16_eq, show 256 * (k.val + 2) = 256 * k.val + 512 by omega]) (by rw [k0_off17_eq, show 256 * (k.val + 2) = 256 * k.val + 512 by omega])
      _ _ _ ?_ ?_ ?_ i hi
    · rw [← et]; rfl
    · rw [← et]; rfl
    · rw [← et]; rfl
  isplitl [HW]; · iexists _; iexact HW
  isplitl [HF0_dst Hrest]
  · isplitl [HF0_dst]
    · irw [← eL]
      iexact HF0_dst
    iexact Hrest
  isplitl [HF1]; · iexact HF1
  iexists fy
  iexists (trip10_run.sl.HF0_src_w1 γ WV A B k g0)
  isplitr
  · ipureintro
    intro i
    refine slot_stored γ WV A B (k.val + 2) (Ring.sl 2 k.val) g0 _ (k0_off18_inb k) (off18_eq k) (trip10_run.sl.r_2 γ WV A k) _ ?_ (readCol0 B _) i
    unfold trip10_run.sl.r_2
    refine congrArg₂ k0_pay55 (readA A _) (Eq.trans ?_ (congrArg (k0_pay8 γ) et))
    unfold trip10_run.sl.v1972 trip10_run.sl.H13_1
    exact View.readCov_cons_toLoadRect _ _ _ _
  iexact HF0

set_option warn.classDefReducibility false in
@[sl_loop] def loopInv10 (v1328 : IVec S256x32 8) :
    LoopInvTy_k0_t10 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 γ v1328 where
  inv k _ := inv10 c γ WV A B k
  step k _ := trip10_run c arg2 harg2 arg5 harg5 arg7 harg7 γ WV A B v1328 k
end Loop10

end Cert.Kernel.Hand
end
-- ==== Proof.KernP.lean ====
/-
  The buffers the copies move in pieces: the weights and their scratch by slabs of rows, `y` by its 17 windows of columns,
  the two slots of the staging buffer. Each buffer held whole is its pieces.
-/
module

public import proofs.«01_k».proof.Proof.Kern2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-- The rows of the weights that slab `o` is copied from. -/
abbrev xslab (o : ℕ) (h : ∀ a, (![o, 0] : Fin 2 → Nat) a + S544x1152.size a ≤ S4304x1152.size a) : Memref sig .tc .hbm S544x1152 .bf16 :=
  M1.slice (Rect.unit (s := S4304x1152) ![o, 0] S544x1152.size h) (fun _ => rfl)
abbrev xslab7 : Memref sig .tc .hbm S496x1152 .bf16 :=
  M1.slice (Rect.unit (s := S4304x1152) ![3808, 0] S496x1152.size inb_S4304x1152_S496x1152_3808_0) (fun _ => rfl)
/-- The 48 rows of padding below the weights. -/
abbrev padw : Memref sig .tc .vmem S48x1152 .bf16 :=
  M8.slice (Rect.unit (s := S4352x1152) ![4304, 0] S48x1152.size inb_S4352x1152_S48x1152_4304_0) (fun _ => rfl)

theorem entails_of_eq {P Q : sProp 𝕄} (e : P = Q) : P ⊢ Q := e ▸ .rfl

/-! ## Sets of rows and columns -/

abbrev rowsW (lo hi : ℕ) : Finset S4352x1152.Idx := Finset.univ.filter fun y => lo ≤ (y 0).val ∧ (y 0).val < hi
abbrev rowsX (lo hi : ℕ) : Finset S4304x1152.Idx := Finset.univ.filter fun y => lo ≤ (y 0).val ∧ (y 0).val < hi

theorem set_rowsW (o k : ℕ) (sz : Fin 2 → ℕ) (h) (h0 : sz 0 = k) (h1 : sz 1 = 1152) :
    (Rect.unit (s := S4352x1152) ![o, 0] sz h).set = rowsW o (o + k) := by
  ext y
  rw [Rect.mem_set_unit, Finset.mem_filter]
  have hy : (y 1).val < 1152 := (y 1).isLt
  constructor
  · intro H; have a0 : o ≤ (y 0).val ∧ (y 0).val < o + sz 0 := H 0; rw [h0] at a0; exact ⟨Finset.mem_univ _, a0⟩
  · rintro ⟨-, H⟩ i
    fin_cases i
    · show o ≤ (y 0).val ∧ (y 0).val < o + sz 0; rw [h0]; exact H
    · show 0 ≤ (y 1).val ∧ (y 1).val < 0 + sz 1; rw [h1]; omega
theorem set_rowsX (o k : ℕ) (sz : Fin 2 → ℕ) (h) (h0 : sz 0 = k) (h1 : sz 1 = 1152) :
    (Rect.unit (s := S4304x1152) ![o, 0] sz h).set = rowsX o (o + k) := by
  ext y
  rw [Rect.mem_set_unit, Finset.mem_filter]
  have hy : (y 1).val < 1152 := (y 1).isLt
  constructor
  · intro H; have a0 : o ≤ (y 0).val ∧ (y 0).val < o + sz 0 := H 0; rw [h0] at a0; exact ⟨Finset.mem_univ _, a0⟩
  · rintro ⟨-, H⟩ i
    fin_cases i
    · show o ≤ (y 0).val ∧ (y 0).val < o + sz 0; rw [h0]; exact H
    · show 0 ≤ (y 1).val ∧ (y 1).val < 0 + sz 1; rw [h1]; omega

/-- The nine pieces of the scratch: seven slabs of 544 rows, one of 496, the 48 rows of padding. -/
abbrev loW (b : ℕ) : ℕ := if b < 8 then 544 * b else 4304
abbrev hiW (b : ℕ) : ℕ := if b < 7 then 544 * b + 544 else if b < 8 then 4304 else 4352
abbrev setW (b : Fin 9) : Finset S4352x1152.Idx := rowsW (loW b.val) (hiW b.val)
abbrev hiX (b : ℕ) : ℕ := if b < 7 then 544 * b + 544 else 4304
abbrev setX (b : Fin 8) : Finset S4304x1152.Idx := rowsX (544 * b.val) (hiX b.val)
theorem setW_disjoint : ∀ b b' : Fin 9, b ≠ b' → Disjoint (setW b) (setW b') := by
  intro b b' hne
  rw [Finset.disjoint_left]
  intro y hy hy'
  rw [Finset.mem_filter] at hy hy'
  have := b.isLt
  have := b'.isLt
  refine hne (Fin.ext ?_)
  have h1 := hy.2; have h2 := hy'.2
  unfold loW hiW at h1 h2
  split_ifs at h1 h2 <;> omega
theorem setW_cover : (Finset.univ : Finset (Fin 9)).biUnion setW = Finset.univ := by
  ext y
  simp only [Finset.mem_biUnion, Finset.mem_univ, true_and, iff_true, Finset.mem_filter]
  have hy : (y 0).val < 4352 := (y 0).isLt
  by_cases h : (y 0).val < 4304
  · refine ⟨⟨(y 0).val / 544, by omega⟩, ?_⟩
    show loW ((y 0).val / 544) ≤ (y 0).val ∧ (y 0).val < hiW ((y 0).val / 544)
    unfold loW hiW
    split_ifs <;> omega
  · refine ⟨⟨8, by omega⟩, ?_⟩
    show 4304 ≤ (y 0).val ∧ (y 0).val < 4352
    omega
theorem setX_disjoint : ∀ b b' : Fin 8, b ≠ b' → Disjoint (setX b) (setX b') := by
  intro b b' hne
  rw [Finset.disjoint_left]
  intro y hy hy'
  rw [Finset.mem_filter] at hy hy'
  have := b.isLt
  have := b'.isLt
  refine hne (Fin.ext ?_)
  have h1 := hy.2; have h2 := hy'.2
  unfold hiX at h1 h2
  split_ifs at h1 h2 <;> omega
theorem setX_cover : (Finset.univ : Finset (Fin 8)).biUnion setX = Finset.univ := by
  ext y
  simp only [Finset.mem_biUnion, Finset.mem_univ, true_and, iff_true, Finset.mem_filter]
  have hy : (y 0).val < 4304 := (y 0).isLt
  refine ⟨⟨(y 0).val / 544, by omega⟩, ?_⟩
  show 544 * ((y 0).val / 544) ≤ (y 0).val ∧ (y 0).val < hiX ((y 0).val / 544)
  unfold hiX
  split_ifs <;> omega

theorem slab_set (o : ℕ) (h) : (slab o h).view.set = rowsW o (o + 544) := (View.set_slice_whole _ _).trans (set_rowsW o 544 _ h rfl rfl)
theorem slab7_set : slab7.view.set = rowsW 3808 4304 := (View.set_slice_whole _ _).trans (set_rowsW 3808 496 _ _ rfl rfl)
theorem padw_set : padw.view.set = rowsW 4304 4352 := (View.set_slice_whole _ _).trans (set_rowsW 4304 48 _ _ rfl rfl)
theorem xslab_set (o : ℕ) (h) : (xslab o h).view.set = rowsX o (o + 544) := (View.set_slice_whole _ _).trans (set_rowsX o 544 _ h rfl rfl)
theorem xslab7_set : xslab7.view.set = rowsX 3808 4304 := (View.set_slice_whole _ _).trans (set_rowsX 3808 496 _ _ rfl rfl)

section Whole
variable (c : Dev nD)

theorem slabP_eq (o : ℕ) (h) (f : Bf (F := F) c M8) : Pt c (slab o h) f = (((c : Thread nD τ).loc cc0_scratch0) ↦[rowsW o (o + 544)]{fullShare} f : sProp 𝕄) :=
  congrArg (fun S => (_ ↦[S]{fullShare} f : sProp 𝕄)) (slab_set o h)
theorem slab7P_eq (f : Bf (F := F) c M8) : Pt c slab7 f = (((c : Thread nD τ).loc cc0_scratch0) ↦[rowsW 3808 4304]{fullShare} f : sProp 𝕄) :=
  congrArg (fun S => (_ ↦[S]{fullShare} f : sProp 𝕄)) slab7_set
theorem padwP_eq (f : Bf (F := F) c M8) : Pt c padw f = (((c : Thread nD τ).loc cc0_scratch0) ↦[rowsW 4304 4352]{fullShare} f : sProp 𝕄) :=
  congrArg (fun S => (_ ↦[S]{fullShare} f : sProp 𝕄)) padw_set
theorem xslabP_eq (o : ℕ) (h) (f : Bf (F := F) c M1) : Pt c (xslab o h) f = (((c : Thread nD τ).loc main_arg1) ↦[rowsX o (o + 544)]{fullShare} f : sProp 𝕄) :=
  congrArg (fun S => (_ ↦[S]{fullShare} f : sProp 𝕄)) (xslab_set o h)
theorem xslab7P_eq (f : Bf (F := F) c M1) : Pt c xslab7 f = (((c : Thread nD τ).loc main_arg1) ↦[rowsX 3808 4304]{fullShare} f : sProp 𝕄) :=
  congrArg (fun S => (_ ↦[S]{fullShare} f : sProp 𝕄)) xslab7_set

/-- The scratch of the weights whole is its nine pieces. -/
theorem scratch_eq (f : Bf (F := F) c M8) : (((c : Thread nD τ).loc cc0_scratch0) ↦{fullShare} f : sProp 𝕄) =
    iprop(Pt c (slab 0 inb_S4352x1152_S544x1152_0_0) f ∗ Pt c (slab 544 inb_S4352x1152_S544x1152_544_0) f ∗ Pt c (slab 1088 inb_S4352x1152_S544x1152_1088_0) f ∗ Pt c (slab 1632 inb_S4352x1152_S544x1152_1632_0) f ∗ Pt c (slab 2176 inb_S4352x1152_S544x1152_2176_0) f ∗ Pt c (slab 2720 inb_S4352x1152_S544x1152_2720_0) f ∗ Pt c (slab 3264 inb_S4352x1152_S544x1152_3264_0) f ∗ Pt c slab7 f ∗ Pt c padw f) := by
  rw [Ring.pointsTo_blocks (Ix := Unit) (Name := ℕ) (Lvl := ℕ) (ℓ := (c : Thread nD τ).loc cc0_scratch0) setW setW_disjoint setW_cover,
    bigSep_univ_eq_bigSepL [(0 : Fin 9), 1, 2, 3, 4, 5, 6, 7, 8] (by decide) (by decide)]
  exact ((congrArg₂ BIBase.sep (slabP_eq c 0 _ f) (congrArg₂ BIBase.sep (slabP_eq c 544 _ f) (congrArg₂ BIBase.sep (slabP_eq c 1088 _ f) (congrArg₂ BIBase.sep (slabP_eq c 1632 _ f) (congrArg₂ BIBase.sep (slabP_eq c 2176 _ f) (congrArg₂ BIBase.sep (slabP_eq c 2720 _ f) (congrArg₂ BIBase.sep (slabP_eq c 3264 _ f) (congrArg₂ BIBase.sep (slab7P_eq c f) (padwP_eq c f)))))))))).symm
/-- The weights whole are their eight slabs. -/
theorem weights_eq (f : Bf (F := F) c M1) : (((c : Thread nD τ).loc main_arg1) ↦{fullShare} f : sProp 𝕄) =
    iprop(Pt c (xslab 0 inb_S4304x1152_S544x1152_0_0) f ∗ Pt c (xslab 544 inb_S4304x1152_S544x1152_544_0) f ∗ Pt c (xslab 1088 inb_S4304x1152_S544x1152_1088_0) f ∗ Pt c (xslab 1632 inb_S4304x1152_S544x1152_1632_0) f ∗ Pt c (xslab 2176 inb_S4304x1152_S544x1152_2176_0) f ∗ Pt c (xslab 2720 inb_S4304x1152_S544x1152_2720_0) f ∗ Pt c (xslab 3264 inb_S4304x1152_S544x1152_3264_0) f ∗ Pt c xslab7 f) := by
  rw [Ring.pointsTo_blocks (Ix := Unit) (Name := ℕ) (Lvl := ℕ) (ℓ := (c : Thread nD τ).loc main_arg1) setX setX_disjoint setX_cover,
    bigSep_univ_eq_bigSepL [(0 : Fin 8), 1, 2, 3, 4, 5, 6, 7] (by decide) (by decide)]
  exact ((congrArg₂ BIBase.sep (xslabP_eq c 0 _ f) (congrArg₂ BIBase.sep (xslabP_eq c 544 _ f) (congrArg₂ BIBase.sep (xslabP_eq c 1088 _ f) (congrArg₂ BIBase.sep (xslabP_eq c 1632 _ f) (congrArg₂ BIBase.sep (xslabP_eq c 2176 _ f) (congrArg₂ BIBase.sep (xslabP_eq c 2720 _ f) (congrArg₂ BIBase.sep (xslabP_eq c 3264 _ f) (xslab7P_eq c f))))))))).symm

/-! ## `y`'s windows and the two slots -/

abbrev setY (b : Fin 17) : Finset S1280x4352.Idx := (Rect.unit (s := S1280x4352) (ywOff b) S1280x256.size (ywOff_inb b)).set
theorem mem_setY (b : Fin 17) (y : S1280x4352.Idx) : y ∈ setY b ↔ 256 * b.val ≤ (y 1).val ∧ (y 1).val < 256 * b.val + 256 := by
  rw [Rect.mem_set_unit]
  have h0 : (y 0).val < 1280 := (y 0).isLt
  constructor
  · intro H; exact H 1
  · intro H i; fin_cases i
    · show 0 ≤ (y 0).val ∧ (y 0).val < 0 + 1280; omega
    · exact H
theorem setY_disjoint : ∀ b b' : Fin 17, b ≠ b' → Disjoint (setY b) (setY b') := by
  intro b b' hne
  rw [Finset.disjoint_left]
  intro y hy hy'
  rw [mem_setY] at hy hy'
  exact hne (Fin.ext (by omega))
theorem setY_cover : (Finset.univ : Finset (Fin 17)).biUnion setY = Finset.univ := by
  ext y
  simp only [Finset.mem_biUnion, Finset.mem_univ, true_and, iff_true]
  have hy : (y 1).val < 4352 := (y 1).isLt
  refine ⟨⟨(y 1).val / 256, by omega⟩, ?_⟩
  rw [mem_setY]
  show 256 * ((y 1).val / 256) ≤ _ ∧ _ < 256 * ((y 1).val / 256) + 256
  omega
theorem ywin_set (b : Fin 17) : (ywin b).view.set = setY b := View.set_slice_whole _ _
/-- `y` whole is its 17 windows. -/
theorem y_eq (f : Bf (F := F) c M3) : (((c : Thread nD τ).loc main_v2_0) ↦{fullShare} f : sProp 𝕄) = bigSep Finset.univ (fun b : Fin 17 => Pt c (ywin b) f) := by
  rw [Ring.pointsTo_blocks (Ix := Unit) (Name := ℕ) (Lvl := ℕ) (ℓ := (c : Thread nD τ).loc main_v2_0) setY setY_disjoint setY_cover]
  exact bigSep_congr fun b _ => (congrArg (fun S => (_ ↦[S]{fullShare} f : sProp 𝕄)) (ywin_set b)).symm
theorem homes_zero (P : Fin 17 → sProp 𝕄) :
    bigSep Finset.univ P = iprop(P 0 ∗ P 1 ∗ bigSep (Ring.homeSet 2 0) P) := by
  have e : (Finset.univ : Finset (Fin 17)) = insert 0 (insert 1 (Ring.homeSet (NB := 17) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl
theorem homes_last (P : Fin 17 → sProp 𝕄) :
    iprop(P 15 ∗ P 16 ∗ bigSep (Ring.homeSet 2 15) P) ⊢ bigSep Finset.univ P := by
  have e : (Finset.univ : Finset (Fin 17)) = insert 15 (insert 16 (Ring.homeSet (NB := 17) 2 15)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; exact .rfl

abbrev setS (s : Fin 2) : Finset S2x1280x256.Idx := (Rect.unit (s := S2x1280x256) (slotOff s) S1x1280x256.size (slotOff_inb s)).set
theorem mem_setS (s : Fin 2) (y : S2x1280x256.Idx) : y ∈ setS s ↔ (y 0).val = s.val := by
  rw [Rect.mem_set_unit]
  have h1 : (y 1).val < 1280 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1280; omega
    · show 0 ≤ (y 2).val ∧ (y 2).val < 0 + 256; omega
theorem setS_disjoint : ∀ s s' : Fin 2, s ≠ s' → Disjoint (setS s) (setS s') := by
  intro s s' hne; rw [Finset.disjoint_left]; intro y hy hy'; rw [mem_setS] at hy hy'; exact hne (Fin.ext (hy.symm.trans hy'))
theorem setS_cover : (Finset.univ : Finset (Fin 2)).biUnion setS = Finset.univ := by
  ext y; simp only [Finset.mem_biUnion, Finset.mem_univ, true_and, iff_true]; exact ⟨(y 0).cast (by decide), by rw [mem_setS]; rfl⟩
theorem slot_set (s : Fin 2) : (slotM s).view.set = setS s := (View.set_reshape _ _).trans (View.set_slice_whole _ _)
theorem slotP_eq (s : Fin 2) (f : Bf (F := F) c (slotM s)) : Pt c (slotM s) f = (((c : Thread nD τ).loc cc0_scratch7) ↦[setS s]{fullShare} f : sProp 𝕄) :=
  congrArg (fun S => (_ ↦[S]{fullShare} f : sProp 𝕄)) (slot_set s)
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem slots_split : iprop(∃ f : Buf (Elt F) ((c : Thread nD τ).loc cc0_scratch7), ((c : Thread nD τ).loc cc0_scratch7) ↦{fullShare} f)
      ⊢ (iprop((∃ f, Pt c (slotM 0) f) ∗ ∃ f, Pt c (slotM 1) f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch7) setS setS_disjoint setS_cover f).trans
    (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem slots_join : iprop((∃ f, Pt c (slotM 0) f) ∗ ∃ f, Pt c (slotM 1) f)
      ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩⟩
  iapply (Ring.pointsTo_blocks_join_exists (ℓ := (c : Thread nD τ).loc cc0_scratch7) setS setS_disjoint setS_cover f0)
  irw [bigSep_fin2]
  isplitl [H0]
  · iexists f0; iapply (entails_of_eq (slotP_eq c 0 f0)); iexact H0
  · iexists f1; iapply (entails_of_eq (slotP_eq c 1 f1)); iexact H1
end Whole

end Cert.Kernel.Hand
end
-- ==== Proof.KernQ.lean ====
/-
  What the body's pieces hold once the copies in have landed, and the values it leaves.
-/
module

public import proofs.«01_k».proof.Proof.KernP

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## The pieces the body is handed -/

/-- The semaphore of slab 0's copy. -/
abbrev wsem0 : SemLoc sig := SemLoc.dma ((cc0_scratch8.slice (Rect.unit (s := S8) ![0] S1.size inb_S8_S1_0)).squeeze S_ squeezes_S1_S_).sem
/-- The semaphore of slab 1's copy. -/
abbrev wsem1 : SemLoc sig := SemLoc.dma ((cc0_scratch8.slice (Rect.unit (s := S8) ![1] S1.size inb_S8_S1_1)).squeeze S_ squeezes_S1_S_).sem
/-- The semaphore of slab 2's copy. -/
abbrev wsem2 : SemLoc sig := SemLoc.dma ((cc0_scratch8.slice (Rect.unit (s := S8) ![2] S1.size inb_S8_S1_2)).squeeze S_ squeezes_S1_S_).sem
/-- The semaphore of slab 3's copy. -/
abbrev wsem3 : SemLoc sig := SemLoc.dma ((cc0_scratch8.slice (Rect.unit (s := S8) ![3] S1.size inb_S8_S1_3)).squeeze S_ squeezes_S1_S_).sem
/-- The semaphore of slab 4's copy. -/
abbrev wsem4 : SemLoc sig := SemLoc.dma ((cc0_scratch8.slice (Rect.unit (s := S8) ![4] S1.size inb_S8_S1_4)).squeeze S_ squeezes_S1_S_).sem
/-- The semaphore of slab 5's copy. -/
abbrev wsem5 : SemLoc sig := SemLoc.dma ((cc0_scratch8.slice (Rect.unit (s := S8) ![5] S1.size inb_S8_S1_5)).squeeze S_ squeezes_S1_S_).sem
/-- The semaphore of slab 6's copy. -/
abbrev wsem6 : SemLoc sig := SemLoc.dma ((cc0_scratch8.slice (Rect.unit (s := S8) ![6] S1.size inb_S8_S1_6)).squeeze S_ squeezes_S1_S_).sem
/-- The semaphore of slab 7's copy. -/
abbrev wsem7 : SemLoc sig := SemLoc.dma ((cc0_scratch8.slice (Rect.unit (s := S8) ![7] S1.size inb_S8_S1_7)).squeeze S_ squeezes_S1_S_).sem

/-- The weights with 48 rows of zeros below them. -/
def WV (XW : S4304x1152.Idx → Elt F .bf16) : S4352x1152.Idx → Elt F .bf16 := fun i =>
  if h : (i 0).val < 4304 then XW (fun | ⟨0, _⟩ => (⟨(i 0).val, h⟩ : Fin 4304) | ⟨1, _⟩ => (i 1 : Fin 1152))
  else k0_pay56 (F := F) (fun | ⟨0, _⟩ => (⟨((i 0).val - 4304) % 48, Nat.mod_lt _ (by decide)⟩ : Fin 48) | ⟨1, _⟩ => (i 1 : Fin 1152))

/-- A slab of the scratch reads the weights' own rows. -/
theorem WV_slab (XW : S4304x1152.Idx → Elt F .bf16) (o : ℕ) (h h') (x : S544x1152.Idx) :
    WV XW ((Rect.unit (s := S4352x1152) ![o, 0] S544x1152.size h).emb x) = XW ((Rect.unit (s := S4304x1152) ![o, 0] S544x1152.size h').emb x) := by
  have hx : (x 0).val < 544 := (x 0).isLt
  have e0 : o + 544 ≤ 4304 := h' 0
  unfold WV
  refine (dif_pos (show o + 1 * (x 0).val < 4304 by omega)).trans ?_
  refine congrArg XW (funext fun a => ?_)
  match a with
  | ⟨0, _⟩ => exact Fin.ext rfl
  | ⟨1, _⟩ => exact Fin.ext rfl
theorem WV_slab7 (XW : S4304x1152.Idx → Elt F .bf16) (h h') (x : S496x1152.Idx) :
    WV XW ((Rect.unit (s := S4352x1152) ![3808, 0] S496x1152.size h).emb x) = XW ((Rect.unit (s := S4304x1152) ![3808, 0] S496x1152.size h').emb x) := by
  have hx : (x 0).val < 496 := (x 0).isLt
  unfold WV
  refine (dif_pos (show 3808 + 1 * (x 0).val < 4304 by omega)).trans ?_
  refine congrArg XW (funext fun a => ?_)
  match a with
  | ⟨0, _⟩ => exact Fin.ext rfl
  | ⟨1, _⟩ => exact Fin.ext rfl

theorem slab_on (c : Dev nD) (XW : S4304x1152.Idx → Elt F .bf16) (o : ℕ) (h h') (f) (x : S544x1152.Idx → Elt F .bf16)
    (hx : ∀ i, x i = XW ((Rect.unit (s := S4304x1152) ![o, 0] S544x1152.size h').emb i)) (i : S4352x1152.Idx) (h1 : o ≤ (i 0).val) (h2 : (i 0).val < o + 544) :
    ((slab o h).view.writes (Elt F) f [⟨Rect.whole S544x1152, x⟩] : Bf (F := F) c M8) i = WV XW i := by
  have hi : i ∈ (slab o h).view.set := by rw [slab_set, Finset.mem_filter]; exact ⟨Finset.mem_univ _, h1, h2⟩
  obtain ⟨y, rfl⟩ := View.exists_emb_of_mem_set (slab o h).view hi
  refine View.eq_of_read_eq (v := (slab o h).view) (f := ((slab o h).view.writes (Elt F) f [⟨Rect.whole S544x1152, x⟩] : Bf (F := F) c M8)) (g := (WV XW : Bf (F := F) c M8)) ?_
  rw [View.read_writes_whole, hx]
  exact (WV_slab XW o h h' y).symm
theorem slab7_on (c : Dev nD) (XW : S4304x1152.Idx → Elt F .bf16) (f) (x : S496x1152.Idx → Elt F .bf16)
    (hx : ∀ i, x i = XW ((Rect.unit (s := S4304x1152) ![3808, 0] S496x1152.size inb_S4304x1152_S496x1152_3808_0).emb i)) (i : S4352x1152.Idx) (h1 : 3808 ≤ (i 0).val) (h2 : (i 0).val < 4304) :
    (slab7.view.writes (Elt F) f [⟨Rect.whole S496x1152, x⟩] : Bf (F := F) c M8) i = WV XW i := by
  have hi : i ∈ slab7.view.set := by rw [slab7_set, Finset.mem_filter]; exact ⟨Finset.mem_univ _, h1, h2⟩
  obtain ⟨y, rfl⟩ := View.exists_emb_of_mem_set slab7.view hi
  refine View.eq_of_read_eq (v := slab7.view) (f := (slab7.view.writes (Elt F) f [⟨Rect.whole S496x1152, x⟩] : Bf (F := F) c M8)) (g := (WV XW : Bf (F := F) c M8)) ?_
  rw [View.read_writes_whole, hx]
  exact (WV_slab7 XW _ _ y).symm
theorem slab_landed (c : Dev nD) (XW : S4304x1152.Idx → Elt F .bf16) (o : ℕ) (h h') (f) (x : S544x1152.Idx → Elt F .bf16)
    (hx : ∀ i, x i = XW ((Rect.unit (s := S4304x1152) ![o, 0] S544x1152.size h').emb i)) :
    Pt c (slab o h) ((slab o h).view.writes (Elt F) f [⟨Rect.whole S544x1152, x⟩]) ⊢ Pt c (slab o h) (WV XW) :=
  entails_of_eq (pt_of_read c (slab o h) _ _ fun i => by
    rw [View.read_writes_whole, hx]
    exact (WV_slab XW o h h' i).symm)
theorem slab7_landed (c : Dev nD) (XW : S4304x1152.Idx → Elt F .bf16) (f) (x : S496x1152.Idx → Elt F .bf16)
    (hx : ∀ i, x i = XW ((Rect.unit (s := S4304x1152) ![3808, 0] S496x1152.size inb_S4304x1152_S496x1152_3808_0).emb i)) :
    Pt c slab7 (slab7.view.writes (Elt F) f [⟨Rect.whole S496x1152, x⟩]) ⊢ Pt c slab7 (WV XW) :=
  entails_of_eq (pt_of_read c slab7 _ _ fun i => by
    rw [View.read_writes_whole, hx]
    exact (WV_slab7 XW _ _ i).symm)
theorem WV_pad (XW : S4304x1152.Idx → Elt F .bf16) (h) (x : S48x1152.Idx) :
    WV XW ((Rect.unit (s := S4352x1152) ![4304, 0] S48x1152.size h).emb x) = k0_pay56 (F := F) x := by
  have hx : (x 0).val < 48 := (x 0).isLt
  unfold WV
  refine (dif_neg (show ¬ 4304 + 1 * (x 0).val < 4304 by omega)).trans ?_
  refine congrArg (k0_pay56 (F := F)) (funext fun a => ?_)
  match a with
  | ⟨0, _⟩ => exact Fin.ext (show (4304 + 1 * (x 0).val - 4304) % 48 = (x 0).val by omega)
  | ⟨1, _⟩ => exact Fin.ext (show 0 + 1 * (x 1).val = (x 1).val by omega)
theorem padw_landed (c : Dev nD) (XW : S4304x1152.Idx → Elt F .bf16) (f : Bf (F := F) c M8) :
    Pt c padw (padw.view.writes (Elt F) f [⟨Rect.whole S48x1152, k0_pay56 (F := F)⟩]) ⊢ Pt c padw (WV XW) :=
  entails_of_eq (pt_of_read c padw _ _ fun i => by
    rw [View.read_writes_whole]
    exact (WV_pad XW _ i).symm)
theorem padw_write (c : Dev nD) (f : Bf (F := F) c M8) :
    View.write (Elt F) (M8.access (Rect.unit (s := S4352x1152) ![4304, 0] S48x1152.size inb_S4352x1152_S48x1152_4304_0)) f (k0_pay56 (F := F)) Finset.univ
      = (padw.view.writes (Elt F) f [⟨Rect.whole S48x1152, k0_pay56 (F := F)⟩]) :=
  View.write_univ_eq_writes_whole padw.view f [] _

/-- One slab's loop takes the sums on over that slab. -/
theorem ga_step (W V : S4352x1152.Idx → Elt F .bf16) (j0 n N : ℕ) (a acc : FVec F S16x128 .f32) (hI : IsGA j0 V a n acc) (hn : n = N) (hN : j0 + N ≤ 272)
    (hV : ∀ i : S4352x1152.Idx, 16 * j0 ≤ (i 0).val → (i 0).val < 16 * j0 + 16 * N → V i = W i) (ha : a = G W j0) : acc = G W (j0 + N) := by
  subst hn ha
  rw [hI.eq]
  refine GA_eq W V j0 n fun k hk => funext fun i => ?_
  have h0 : (i 0).val < 16 := (i 0).isLt
  unfold wblk
  refine hV _ ?_ ?_
  · show 16 * j0 ≤ (16 * (j0 + k) + (i 0).val) % 4352
    omega
  · show (16 * (j0 + k) + (i 0).val) % 4352 < _
    omega

/-- Rows of slab 0 read alike from two contents alike there. -/
theorem readAt_slab0 (c : Dev nD) (V V' : Bf (F := F) c M8) (o : ℕ) (h) (ho : o + 256 ≤ 544) (hV : ∀ i : S4352x1152.Idx, (i 0).val < 544 → V i = V' i) :
    M8.view.readAt (Elt F) (Rect.unit (s := S4352x1152) ![o, 0] S256x1152.size h).toLoadRect V = M8.view.readAt (Elt F) (Rect.unit (s := S4352x1152) ![o, 0] S256x1152.size h).toLoadRect V' := by
  funext i
  have h0 : (i 0).val < 256 := (i 0).isLt
  rw [View.readAt_apply, View.readAt_apply]
  refine hV _ ?_
  show o + 1 * (i 0).val < 544
  omega

/-- Buffers known by what their views read. -/
theorem whole9_at (c : Dev nD) (x : S1280x1152.Idx → Elt F .bf16) (f : Bf (F := F) c M9) (i : S1280x1152.Idx) : ((M9.view.writes (Elt F) f [⟨Rect.whole S1280x1152, x⟩]) : Bf (F := F) c M9) i = x i := by
  refine View.eq_of_read_eq (v := M9.view) (f := ((M9.view.writes (Elt F) f [⟨Rect.whole S1280x1152, x⟩]) : Bf (F := F) c M9)) (g := (x : Bf (F := F) c M9)) (x := i) ?_
  rw [View.read_writes_whole]
  rfl
theorem rd10 (c : Dev nD) (f g : Bf (F := F) c M10) (h : ∀ i : S1280x1152.Idx, M10.view.read (Elt F) f i = M10.view.read (Elt F) g i) : f = g :=
  funext fun i => View.eq_of_read_eq (v := M10.view) (f := f) (g := g) (x := (i : S1280x1152.Idx)) (h i)
theorem f_C10 (c : Dev nD) (XX) (XG) (V : Bf (F := F) c M9) (hV : ∀ i : S1280x1152.Idx, V i = XX i) (f : Bf (F := F) c M10) (n : ℕ) (hn : n = 20) (h : ∀ i : S1280x1152.Idx, (i 0).val < 64 * n → M10.view.read (Elt F) f i = C10 V XG i) :
    f = C10 XX XG := by
  have e : (V : S1280x1152.Idx → Elt F .bf16) = XX := funext hV
  subst hn
  refine rd10 c f _ fun i => ?_
  have h0 : (i 0).val < 1280 := (i 0).isLt
  refine (h i (by omega)).trans ?_
  rw [e]
  rfl
theorem rd11 (c : Dev nD) (f g : Bf (F := F) c M11) (h : ∀ i : S1280x1152.Idx, M11.view.read (Elt F) f i = M11.view.read (Elt F) g i) : f = g :=
  funext fun i => View.eq_of_read_eq (v := M11.view) (f := f) (g := g) (x := (i : S1280x1152.Idx)) (h i)
theorem f_C11 (c : Dev nD) (XX) (XG) (V : Bf (F := F) c M9) (hV : ∀ i : S1280x1152.Idx, V i = XX i) (f : Bf (F := F) c M11) (n : ℕ) (hn : n = 20) (h : ∀ i : S1280x1152.Idx, (i 0).val < 64 * n → M11.view.read (Elt F) f i = C11 V XG i) :
    f = C11 XX XG := by
  have e : (V : S1280x1152.Idx → Elt F .bf16) = XX := funext hV
  subst hn
  refine rd11 c f _ fun i => ?_
  have h0 : (i 0).val < 1280 := (i 0).isLt
  refine (h i (by omega)).trans ?_
  rw [e]
  rfl
theorem rd12 (c : Dev nD) (f g : Bf (F := F) c M12) (h : ∀ i : S1280x128.Idx, M12.view.read (Elt F) f i = M12.view.read (Elt F) g i) : f = g :=
  funext fun i => View.eq_of_read_eq (v := M12.view) (f := f) (g := g) (x := (i : S1280x128.Idx)) (h i)
theorem f_C12 (c : Dev nD) (XX) (XG) (V : Bf (F := F) c M9) (hV : ∀ i : S1280x1152.Idx, V i = XX i) (f : Bf (F := F) c M12) (n : ℕ) (hn : n = 20) (h : ∀ i : S1280x128.Idx, (i 0).val < 64 * n → M12.view.read (Elt F) f i = C12 V XG i) :
    f = C12 XX XG := by
  have e : (V : S1280x1152.Idx → Elt F .bf16) = XX := funext hV
  subst hn
  refine rd12 c f _ fun i => ?_
  have h0 : (i 0).val < 1280 := (i 0).isLt
  refine (h i (by omega)).trans ?_
  rw [e]
  rfl

/-! ## What the body leaves -/

/-- The norm's weights as loaded. -/
abbrev xg (c : Dev nD) (arg2 : Memref sig .tc .vmem S1x1152 .f32) (f2 : Bf (F := F) c arg2) : Vec F S1x1152 .f32 :=
  arg2.view.readAt (Elt F) (Rect.unit (s := S1x1152) ![0, 0] S1x1152.size inb_S1x1152_S1x1152_0_0).toLoadRect f2
/-- The weights' scale. -/
abbrev gam (XW : S4304x1152.Idx → Elt F .bf16) : Elt F .f32 := k0_pay78 (G (WV XW) 269)
/-- The packed weights, without the padding. -/
def P4 (XW : S4304x1152.Idx → Elt F .bf16) : S4304x288.Idx → Elt F .i8 := fun i =>
  PV (gam XW) (WV XW) (fun | ⟨0, _⟩ => (⟨(i 0).val, Nat.lt_of_lt_of_le (i 0).isLt (by decide)⟩ : Fin 4352) | ⟨1, _⟩ => (i 1 : Fin 288))
/-- 128 rows of the scales, from row `128 j`. -/
def sblk (B : S1280x128.Idx → Elt F .f32) (j : ℕ) : S128x128.Idx → Elt F .f32 := fun i =>
  B (fun | ⟨0, _⟩ => (⟨(128 * j + (i 0).val) % 1280, Nat.mod_lt _ (by decide)⟩ : Fin 1280) | ⟨1, _⟩ => (i 1 : Fin 128))
/-- The scales, one per row, laid out by batch. -/
def SC (B : S1280x128.Idx → Elt F .f32) : S5x256.Idx → Elt F .f32 := fun i =>
  k0_pay59 (sblk B (2 * (i 0).val + (i 1).val / 128)) (fun | ⟨0, _⟩ => (⟨0, by decide⟩ : Fin 1) | ⟨1, _⟩ => (⟨(i 1).val % 128, Nat.mod_lt _ (by decide)⟩ : Fin 128))
theorem readS (c : Dev nD) (B : S1280x128.Idx → Elt F .f32) (j : ℕ) (hj : j < 10) (o : ℕ) (e : o = 128 * j) (h) :
    M12.view.readAt (Elt F) (Rect.unit (s := S1280x128) ![o, 0] S128x128.size h).toLoadRect (B : Bf (F := F) c M12) = sblk B j := by
  subst e
  funext i
  have h0 : (i 0).val < 128 := (i 0).isLt
  rw [View.readAt_apply]
  unfold sblk
  refine congrArg B (funext fun a => ?_)
  match a with
  | ⟨0, _⟩ => refine Fin.ext ?_; show 128 * j + 1 * (i 0).val = (128 * j + (i 0).val) % 1280; omega
  | ⟨1, _⟩ => refine Fin.ext ?_; show 0 + 1 * (i 1).val = (i 1).val; omega
/-- One piece of the scales is the scales' own values there. -/
theorem SC_piece (B : S1280x128.Idx → Elt F .f32) (p q : ℕ) (hp : p < 5) (hq : q < 2) (o1 : ℕ) (e1 : o1 = 128 * q) (h) (x : S1x128.Idx) :
    k0_pay59 (sblk B (2 * p + q)) x = SC B ((Rect.unit (s := S5x256) ![p, o1] S1x128.size h).emb x) := by
  subst e1
  have h0 : (x 0).val < 1 := (x 0).isLt
  have h1 : (x 1).val < 128 := (x 1).isLt
  unfold SC
  have a0 : ((Rect.unit (s := S5x256) ![p, 128 * q] S1x128.size h).emb x 0).val = p := by show p + 1 * (x 0).val = p; omega
  have a1 : ((Rect.unit (s := S5x256) ![p, 128 * q] S1x128.size h).emb x 1).val = 128 * q + (x 1).val := by show 128 * q + 1 * (x 1).val = _; omega
  have b0 : 2 * ((Rect.unit (s := S5x256) ![p, 128 * q] S1x128.size h).emb x 0).val + ((Rect.unit (s := S5x256) ![p, 128 * q] S1x128.size h).emb x 1).val / 128 = 2 * p + q := by
    rw [a0, a1]; omega
  refine (congr (congrArg (fun j => k0_pay59 (sblk B j)) b0) (funext fun a => ?_)).symm
  match a with
  | ⟨0, _⟩ => refine Fin.ext ?_; show 0 = (x 0).val; omega
  | ⟨1, _⟩ => refine Fin.ext ?_; show _ % 128 = (x 1).val; rw [a1]; omega

end Cert.Kernel.Hand
end
-- ==== Proof.KernR.lean ====
/-
  What the body's tile loop starts from and what it ends with, and the results as the copies out read them.
-/
module

public import proofs.«01_k».proof.Proof.KernQ

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

section Pack
variable (c : Dev nD) (γ : F .f32) (WV : S4352x1152.Idx → Elt F .bf16) (A : S1280x1152.Idx → Elt F .bf16) (B : S1280x128.Idx → Elt F .f32)

/-- The weights' scratch whole, of its nine pieces. -/
theorem pack_weights (f : Bf (F := F) c M8) :
    iprop(Pt c (slab 0 inb_S4352x1152_S544x1152_0_0) f ∗ Pt c (slab 544 inb_S4352x1152_S544x1152_544_0) f ∗ Pt c (slab 1088 inb_S4352x1152_S544x1152_1088_0) f
      ∗ Pt c (slab 1632 inb_S4352x1152_S544x1152_1632_0) f ∗ Pt c (slab 2176 inb_S4352x1152_S544x1152_2176_0) f ∗ Pt c (slab 2720 inb_S4352x1152_S544x1152_2720_0) f
      ∗ Pt c (slab 3264 inb_S4352x1152_S544x1152_3264_0) f ∗ Pt c slab7 f ∗ Pt c padw f) ⊢ Pt c M8 f :=
  entails_of_eq ((scratch_eq c f).symm.trans (congrArg (fun S => (_ ↦[S]{fullShare} f : sProp 𝕄)) (View.set_whole cc0_scratch0).symm))

/-- The tile loop's start. -/
theorem inv10_start (f14 : Bf (F := F) c M14) (fy0 : Bf (F := F) c (ywin 0)) (fy1 : Bf (F := F) c (ywin 1)) (g0 : Bf (F := F) c (slotM 0)) (g1 : Bf (F := F) c (slotM 1))
    (h14 : ∀ i : S4352x288.Idx, (i 0).val < 512 → M14.view.read (Elt F) f14 i = PV γ WV i)
    (e0 : ∀ i, (slotM 0).view.read (Elt F) g0 i = YT γ WV A B 0 i) (e1 : ∀ i, (slotM 1).view.read (Elt F) g1 i = YT γ WV A B 1 i) :
    iprop(Pt c M8 WV ∗ Pt c M11 A ∗ Pt c M12 B ∗ (∃ f, Pt (F := F) c M13 f) ∗ Pt c M14 f14 ∗ (∃ W, owes (c : Thread nD τ) 0 W)
      ∗ bigSep (Ring.homeSet 2 0) (fun b : Fin 17 => iprop(∃ f, Pt (F := F) c (ywin b) f))
      ∗ Transfers.Flight countersEmb (c : Thread nD τ) (SemLoc.dma (csm 0).sem) () NN iprop(Pt c (ywin 0) (landed c 0 0 fy0 g0) ∗ Pt c (slotM 0) g0)
      ∗ Transfers.Flight countersEmb (c : Thread nD τ) (SemLoc.dma (csm 1).sem) () NN iprop(Pt c (ywin 1) (landed c 1 1 fy1 g1) ∗ Pt c (slotM 1) g1))
      ⊢ inv10 c γ WV A B 0 := by
  unfold inv10 flightP
  rw [show Ring.sl 2 0 = (0 : Fin 2) from by decide, show Ring.sl 2 (0 + 1) = (1 : Fin 2) from by decide, show Ring.bk 17 0 = (0 : Fin 17) from by decide, show Ring.bk 17 (0 + 1) = (1 : Fin 17) from by decide]
  iintro ⟨H8, H11, H12, H13, H14, HW, Hy, HF0, HF1⟩
  isplitl [H8]; · iexact H8
  isplitl [H11]; · iexact H11
  isplitl [H12]; · iexact H12
  isplitl [H13]; · iexact H13
  isplitl [H14]
  · iexists f14; isplitl [H14]; · iexact H14
    ipureintro; intro i hi; exact h14 i (by omega)
  isplitl [HW]; · iexact HW
  isplitl [Hy]
  · ihave H := (show bigSep (Ring.homeSet 2 0) (fun b : Fin 17 => iprop(∃ f, Pt (F := F) c (ywin b) f)) ⊢ bigSep (Ring.homeSet 2 0) (homeY c γ WV A B 0) from
      bigSep_mono fun b _ => entails_of_eq (if_neg (Nat.not_lt_zero _)).symm) $$ Hy
    iexact H
  isplitl [HF0]
  · iexists fy0; iexists g0; isplitr
    · ipureintro; exact e0
    iexact HF0
  · iexists fy1; iexists g1; isplitr
    · ipureintro; exact e1
    iexact HF1

theorem inv10_open : inv10 c γ WV A B 0 ⊢
    iprop(Pt c M8 WV ∗ Pt c M11 A ∗ Pt c M12 B ∗ (∃ f, Pt (F := F) c M13 f)
    ∗ (∃ f : Bf (F := F) c M14, Pt c M14 f ∗ ⌜∀ i : S4352x288.Idx, (i 0).val < 256 * (0 + 2) → M14.view.read (Elt F) f i = PV γ WV i⌝)
    ∗ (∃ W, owes (c : Thread nD τ) 0 W)
    ∗ bigSep (Ring.homeSet 2 0) (homeY c γ WV A B 0)
    ∗ (∃ (f : Bf (F := F) c (ywin (Ring.bk 17 0))) (g : Bf (F := F) c (slotM (Ring.sl 2 0))), ⌜∀ i, (slotM (Ring.sl 2 0)).view.read (Elt F) g i = YT γ WV A B (0) i⌝
      ∗ Transfers.Flight countersEmb (c : Thread nD τ) (SemLoc.dma (csm (Ring.sl 2 0)).sem) () NN iprop(Pt c (ywin (Ring.bk 17 0)) (landed c (Ring.sl 2 0) (Ring.bk 17 0) f g) ∗ Pt c (slotM (Ring.sl 2 0)) g))
    ∗ (∃ (f : Bf (F := F) c (ywin (Ring.bk 17 (0 + 1)))) (g : Bf (F := F) c (slotM (Ring.sl 2 (0 + 1)))), ⌜∀ i, (slotM (Ring.sl 2 (0 + 1))).view.read (Elt F) g i = YT γ WV A B (0 + 1) i⌝
      ∗ Transfers.Flight countersEmb (c : Thread nD τ) (SemLoc.dma (csm (Ring.sl 2 (0 + 1))).sem) () NN iprop(Pt c (ywin (Ring.bk 17 (0 + 1))) (landed c (Ring.sl 2 (0 + 1)) (Ring.bk 17 (0 + 1)) f g) ∗ Pt c (slotM (Ring.sl 2 (0 + 1))) g))) := by
  unfold inv10 flightP
  exact .rfl

/-- After the last two copies: the result's windows all landed. -/
theorem y_landed (k j0 j1 : ℕ) (b0 b1 : Fin 17) (s0 s1 : Fin 2) (hk : k = 15) (hb0 : b0 = 15) (hb1 : b1 = 16) (hj0 : j0 = 15) (hj1 : j1 = 16)
    (f3 : Bf (F := F) c (ywin b0)) (g4 : (slotM s0).view.ty.Contents (Elt F)) (f5 : Bf (F := F) c (ywin b1)) (g6 : (slotM s1).view.ty.Contents (Elt F))
    (h8 : ∀ i, (slotM s0).view.read (Elt F) g4 i = YT γ WV A B j0 i) (h10 : ∀ i, (slotM s1).view.read (Elt F) g6 i = YT γ WV A B j1 i) :
    iprop(bigSep (Ring.homeSet 2 k) (homeY c γ WV A B k) ∗ Pt c (ywin b0) (landed c s0 b0 f3 g4) ∗ Pt c (ywin b1) (landed c s1 b1 f5 g6))
      ⊢ bigSep Finset.univ (fun b : Fin 17 => Pt c (ywin b) (YV γ WV A B)) := by
  subst hk hb0 hb1 hj0 hj1
  iintro ⟨Hy, H0, H1⟩
  ihave H := (show bigSep (Ring.homeSet 2 15) (homeY c γ WV A B 15) ⊢ bigSep (Ring.homeSet 2 15) (fun b : Fin 17 => Pt c (ywin b) (YV γ WV A B)) from
      bigSep_mono fun b hb => entails_of_eq (if_pos (by rw [Ring.mem_homeSet] at hb; have := b.isLt; omega))) $$ Hy
  ihave H0 := (entails_of_eq (landed_eq c γ WV A B 15 f3 _ h8)) $$ H0
  ihave H1 := (entails_of_eq (landed_eq c γ WV A B 16 f5 _ h10)) $$ H1
  ihave HH := homes_last (fun b : Fin 17 => Pt c (ywin b) (YV γ WV A B)) $$ [H H0 H1]
  · isplitl [H0]; · iexact H0
    isplitl [H1]; · iexact H1
    iexact H
  iexact HH
theorem slots_end (s0 s1 : Fin 2) (hs0 : s0 = 1) (hs1 : s1 = 0) (g4 : (slotM s0).view.ty.Contents (Elt F)) (g6 : (slotM s1).view.ty.Contents (Elt F)) :
    iprop(Pt c (slotM s0) g4 ∗ Pt c (slotM s1) g6) ⊢ iprop((∃ f, Pt (F := F) c (slotM 0) f) ∗ (∃ f, Pt (F := F) c (slotM 1) f)) := by
  subst hs0 hs1
  iintro ⟨H0, H1⟩
  isplitl [H1]
  · iexists g6; iexact H1
  iexists g4; iexact H0
end Pack

section Tiles
/-- Tiles 0 and 1, as loaded from slab 0 as its copy left it. -/
theorem tile0_read (c : Dev nD) (XW : S4304x1152.Idx → Elt F .bf16) (x : S544x1152.Idx → Elt F .bf16)
    (hx : ∀ i, x i = XW ((Rect.unit (s := S4304x1152) ![0, 0] S544x1152.size inb_S4304x1152_S544x1152_0_0).emb i)) (f : Bf (F := F) c M8) :
    M8.view.readAt (Elt F) (Rect.unit (s := S4352x1152) ![0, 0] S256x1152.size inb_S4352x1152_S256x1152_0_0).toLoadRect
      ((slab 0 inb_S4352x1152_S544x1152_0_0).view.writes (Elt F) f [⟨Rect.whole S544x1152, x⟩] : Bf (F := F) c M8) = wtile (WV XW) 0 := by
  have hs : ∀ i : S4352x1152.Idx, (i 0).val < 544 → ((slab 0 inb_S4352x1152_S544x1152_0_0).view.writes (Elt F) f [⟨Rect.whole S544x1152, x⟩] : Bf (F := F) c M8) i = WV XW i :=
    fun i h => slab_on c XW 0 inb_S4352x1152_S544x1152_0_0 inb_S4304x1152_S544x1152_0_0 f x hx i (Nat.zero_le _) (by omega)
  generalize ((slab 0 inb_S4352x1152_S544x1152_0_0).view.writes (Elt F) f [⟨Rect.whole S544x1152, x⟩] : Bf (F := F) c M8) = V at hs ⊢
  have e := readAt_slab0 c V (WV XW) 0 inb_S4352x1152_S256x1152_0_0 (by decide) hs
  have e2 := readTile (F := F) (WV XW) 0 (by decide) ![0, 0] (by decide) inb_S4352x1152_S256x1152_0_0
  exact e.trans e2
theorem tile1_read (c : Dev nD) (XW : S4304x1152.Idx → Elt F .bf16) (x : S544x1152.Idx → Elt F .bf16)
    (hx : ∀ i, x i = XW ((Rect.unit (s := S4304x1152) ![0, 0] S544x1152.size inb_S4304x1152_S544x1152_0_0).emb i)) (f : Bf (F := F) c M8) :
    M8.view.readAt (Elt F) (Rect.unit (s := S4352x1152) ![256, 0] S256x1152.size inb_S4352x1152_S256x1152_256_0).toLoadRect
      ((slab 0 inb_S4352x1152_S544x1152_0_0).view.writes (Elt F) f [⟨Rect.whole S544x1152, x⟩] : Bf (F := F) c M8) = wtile (WV XW) 1 := by
  have hs : ∀ i : S4352x1152.Idx, (i 0).val < 544 → ((slab 0 inb_S4352x1152_S544x1152_0_0).view.writes (Elt F) f [⟨Rect.whole S544x1152, x⟩] : Bf (F := F) c M8) i = WV XW i :=
    fun i h => slab_on c XW 0 inb_S4352x1152_S544x1152_0_0 inb_S4304x1152_S544x1152_0_0 f x hx i (Nat.zero_le _) (by omega)
  generalize ((slab 0 inb_S4352x1152_S544x1152_0_0).view.writes (Elt F) f [⟨Rect.whole S544x1152, x⟩] : Bf (F := F) c M8) = V at hs ⊢
  have e := readAt_slab0 c V (WV XW) 256 inb_S4352x1152_S256x1152_256_0 (by decide) hs
  have e2 := readTile (F := F) (WV XW) 1 (by decide) ![256, 0] (by decide) inb_S4352x1152_S256x1152_256_0
  exact e.trans e2
end Tiles

section Out
variable (c : Dev nD) (XW : S4304x1152.Idx → Elt F .bf16)

/-- The packed weights as their copy out reads them. -/
theorem packed_read (f14 : Bf (F := F) c M14) (h14 : ∀ i : S4352x288.Idx, M14.view.read (Elt F) f14 i = PV (gam XW) (WV XW) i) (h hs) (i : S4304x288.Idx) :
    (M14.slice (Rect.unit (s := S4352x288) ![0, 0] S4304x288.size h) hs).view.read (Elt F) f14 i = P4 XW i := by
  refine (h14 ((Rect.unit (s := S4352x288) ![0, 0] S4304x288.size h).emb i)).trans ?_
  unfold P4
  refine congrArg _ (funext fun a => ?_)
  match a with
  | ⟨0, _⟩ => refine Fin.ext ?_; show 0 + 1 * (i 0).val = (i 0).val; omega
  | ⟨1, _⟩ => refine Fin.ext ?_; show 0 + 1 * (i 1).val = (i 1).val; omega
theorem packed_out (f : Bf (F := F) c M4) (x : S4304x288.Idx → Elt F .i8) (hx : ∀ i, x i = P4 XW i) :
    Pt c M4 (M4.view.writes (Elt F) f [⟨Rect.whole S4304x288, x⟩]) ⊢ Pt c M4 (P4 XW) :=
  entails_of_eq (pt_of_read c M4 _ _ fun i => by
    rw [View.read_writes_whole, hx]; rfl)
theorem codes_out (f : Bf (F := F) c M6) (x g : S1280x1152.Idx → Elt F .i8) (hx : ∀ i, x i = g i) :
    Pt c M6 (M6.view.writes (Elt F) f [⟨Rect.whole S1280x1152, x⟩]) ⊢ Pt c M6 g :=
  entails_of_eq (pt_of_read c M6 _ _ fun i => by
    rw [View.read_writes_whole, hx]; rfl)
/-- The weights' scale as stored. -/
theorem gamma_read (arg5 : Memref sig .tc .smem S1x1 .f32) (f : Bf (F := F) c arg5) (x : F .f32) (h) (i : S1x1.Idx) :
    arg5.view.read (Elt F) (arg5.view.writes (Elt F) f [⟨Rect.unit (s := S1x1) ![0, 0] S1x1.size h, fun _ => x⟩]) i = x :=
  View.read_writes_cons_unit_of_mem arg5.view f h (fun _ => x) [] i i rfl fun a => by
    match a with
    | ⟨0, _⟩ => show (i 0).val = 0 + (i 0).val; omega
    | ⟨1, _⟩ => show (i 1).val = 0 + (i 1).val; omega
/-- The scales as the ten stores leave them. -/
theorem scales_read (arg7 : Memref sig .tc .vmem S5x256 .f32) (f : Bf (F := F) c arg7) (B : S1280x128.Idx → Elt F .f32)
    (x0 x1 x2 x3 x4 x5 x6 x7 x8 x9 : S1x128.Idx → Elt F .f32)
    (e0 : x0 = k0_pay59 (sblk B 0)) (e1 : x1 = k0_pay59 (sblk B 1)) (e2 : x2 = k0_pay59 (sblk B 2)) (e3 : x3 = k0_pay59 (sblk B 3)) (e4 : x4 = k0_pay59 (sblk B 4)) (e5 : x5 = k0_pay59 (sblk B 5)) (e6 : x6 = k0_pay59 (sblk B 6)) (e7 : x7 = k0_pay59 (sblk B 7)) (e8 : x8 = k0_pay59 (sblk B 8)) (e9 : x9 = k0_pay59 (sblk B 9)) (i : S5x256.Idx) :
    arg7.view.read (Elt F) (arg7.view.writes (Elt F) f [
      ⟨Rect.unit (s := S5x256) ![4, 128] S1x128.size inb_S5x256_S1x128_4_128, x9⟩,
      ⟨Rect.unit (s := S5x256) ![4, 0] S1x128.size inb_S5x256_S1x128_4_0, x8⟩,
      ⟨Rect.unit (s := S5x256) ![3, 128] S1x128.size inb_S5x256_S1x128_3_128, x7⟩,
      ⟨Rect.unit (s := S5x256) ![3, 0] S1x128.size inb_S5x256_S1x128_3_0, x6⟩,
      ⟨Rect.unit (s := S5x256) ![2, 128] S1x128.size inb_S5x256_S1x128_2_128, x5⟩,
      ⟨Rect.unit (s := S5x256) ![2, 0] S1x128.size inb_S5x256_S1x128_2_0, x4⟩,
      ⟨Rect.unit (s := S5x256) ![1, 128] S1x128.size inb_S5x256_S1x128_1_128, x3⟩,
      ⟨Rect.unit (s := S5x256) ![1, 0] S1x128.size inb_S5x256_S1x128_1_0, x2⟩,
      ⟨Rect.unit (s := S5x256) ![0, 128] S1x128.size inb_S5x256_S1x128_0_128, x1⟩,
      ⟨Rect.unit (s := S5x256) ![0, 0] S1x128.size inb_S5x256_S1x128_0_0, x0⟩]) i = SC B i := by
  refine View.read_writes_apply_of_pieces arg7.view f (SC B) _ ?_ i ?_
  · intro p hp
    rcases List.mem_cons.mp hp with rfl | hp
    · intro x; exact (congrFun e9 x).trans (SC_piece B 4 1 (by decide) (by decide) 128 rfl inb_S5x256_S1x128_4_128 x)
    rcases List.mem_cons.mp hp with rfl | hp
    · intro x; exact (congrFun e8 x).trans (SC_piece B 4 0 (by decide) (by decide) 0 rfl inb_S5x256_S1x128_4_0 x)
    rcases List.mem_cons.mp hp with rfl | hp
    · intro x; exact (congrFun e7 x).trans (SC_piece B 3 1 (by decide) (by decide) 128 rfl inb_S5x256_S1x128_3_128 x)
    rcases List.mem_cons.mp hp with rfl | hp
    · intro x; exact (congrFun e6 x).trans (SC_piece B 3 0 (by decide) (by decide) 0 rfl inb_S5x256_S1x128_3_0 x)
    rcases List.mem_cons.mp hp with rfl | hp
    · intro x; exact (congrFun e5 x).trans (SC_piece B 2 1 (by decide) (by decide) 128 rfl inb_S5x256_S1x128_2_128 x)
    rcases List.mem_cons.mp hp with rfl | hp
    · intro x; exact (congrFun e4 x).trans (SC_piece B 2 0 (by decide) (by decide) 0 rfl inb_S5x256_S1x128_2_0 x)
    rcases List.mem_cons.mp hp with rfl | hp
    · intro x; exact (congrFun e3 x).trans (SC_piece B 1 1 (by decide) (by decide) 128 rfl inb_S5x256_S1x128_1_128 x)
    rcases List.mem_cons.mp hp with rfl | hp
    · intro x; exact (congrFun e2 x).trans (SC_piece B 1 0 (by decide) (by decide) 0 rfl inb_S5x256_S1x128_1_0 x)
    rcases List.mem_cons.mp hp with rfl | hp
    · intro x; exact (congrFun e1 x).trans (SC_piece B 0 1 (by decide) (by decide) 128 rfl inb_S5x256_S1x128_0_128 x)
    rcases List.mem_cons.mp hp with rfl | hp
    · intro x; exact (congrFun e0 x).trans (SC_piece B 0 0 (by decide) (by decide) 0 rfl inb_S5x256_S1x128_0_0 x)
    exact absurd hp List.not_mem_nil
  · have h0 : (i 0).val < 5 := (i 0).isLt
    have h1 : (i 1).val < 256 := (i 1).isLt
    have mk : ∀ (p o : ℕ) (h), (i 0).val = p → o ≤ (i 1).val → (i 1).val < o + 128 → i ∈ (Rect.unit (s := S5x256) ![p, o] S1x128.size h).set := by
      intro p o h a b d
      rw [Rect.mem_set_unit]
      intro ax
      match ax with
      | ⟨0, _⟩ => show p ≤ (i 0).val ∧ (i 0).val < p + 1; omega
      | ⟨1, _⟩ => exact ⟨b, d⟩
    simp only [List.exists_mem_cons_iff, List.not_mem_nil, _root_.false_and, exists_false, _root_.or_false]
    by_cases c1 : (i 1).val < 128
    · rcases (by omega : (i 0).val = 0 ∨ (i 0).val = 1 ∨ (i 0).val = 2 ∨ (i 0).val = 3 ∨ (i 0).val = 4) with a | a | a | a | a
      · exact .inr (.inr (.inr (.inr (.inr (.inr (.inr (.inr (.inr (mk 0 0 _ a (Nat.zero_le _) (by omega))))))))))
      · exact .inr (.inr (.inr (.inr (.inr (.inr (.inr (.inl (mk 1 0 _ a (Nat.zero_le _) (by omega)))))))))
      · exact .inr (.inr (.inr (.inr (.inr (.inl (mk 2 0 _ a (Nat.zero_le _) (by omega)))))))
      · exact .inr (.inr (.inr (.inl (mk 3 0 _ a (Nat.zero_le _) (by omega)))))
      · exact .inr (.inl (mk 4 0 _ a (Nat.zero_le _) (by omega)))
    · rcases (by omega : (i 0).val = 0 ∨ (i 0).val = 1 ∨ (i 0).val = 2 ∨ (i 0).val = 3 ∨ (i 0).val = 4) with a | a | a | a | a
      · exact .inr (.inr (.inr (.inr (.inr (.inr (.inr (.inr (.inl (mk 0 128 _ a (by omega) (by omega))))))))))
      · exact .inr (.inr (.inr (.inr (.inr (.inr (.inl (mk 1 128 _ a (by omega) (by omega))))))))
      · exact .inr (.inr (.inr (.inr (.inl (mk 2 128 _ a (by omega) (by omega))))))
      · exact .inr (.inr (.inl (mk 3 128 _ a (by omega) (by omega))))
      · exact .inl (mk 4 128 _ a (by omega) (by omega))
end Out

end Cert.Kernel.Hand
end
-- ==== Proof.Kern3.lean ====
/-
  The whole body: the copies in, the loops, the first two tiles, the copies out.
-/
module

public import proofs.«01_k».proof.Proof.KernR

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

section Body
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole)
  (XX : S1280x1152.Idx → Elt F .bf16) (XW : S4304x1152.Idx → Elt F .bf16) (f2 : Bf (F := F) c arg2)

/-- What the body is handed. -/
def PRE : sProp 𝕄 :=
  iprop(Pt c M0 XX
    ∗ Pt c (xslab 0 inb_S4304x1152_S544x1152_0_0) XW
    ∗ Pt c (xslab 544 inb_S4304x1152_S544x1152_544_0) XW
    ∗ Pt c (xslab 1088 inb_S4304x1152_S544x1152_1088_0) XW
    ∗ Pt c (xslab 1632 inb_S4304x1152_S544x1152_1632_0) XW
    ∗ Pt c (xslab 2176 inb_S4304x1152_S544x1152_2176_0) XW
    ∗ Pt c (xslab 2720 inb_S4304x1152_S544x1152_2720_0) XW
    ∗ Pt c (xslab 3264 inb_S4304x1152_S544x1152_3264_0) XW
    ∗ Pt c xslab7 XW
    ∗ Pt c arg2 f2 ∗ (∃ f, Pt (F := F) c (ywin 0) f) ∗ (∃ f, Pt (F := F) c (ywin 1) f)
    ∗ bigSep (Ring.homeSet 2 0) (fun b : Fin 17 => iprop(∃ f, Pt (F := F) c (ywin b) f))
    ∗ (∃ f, Pt (F := F) c M4 f) ∗ (∃ f, Pt (F := F) c arg5 f) ∗ (∃ f, Pt (F := F) c M6 f) ∗ (∃ f, Pt (F := F) c arg7 f)
    ∗ (∃ f, Pt (F := F) c (slab 0 inb_S4352x1152_S544x1152_0_0) f)
    ∗ (∃ f, Pt (F := F) c (slab 544 inb_S4352x1152_S544x1152_544_0) f)
    ∗ (∃ f, Pt (F := F) c (slab 1088 inb_S4352x1152_S544x1152_1088_0) f)
    ∗ (∃ f, Pt (F := F) c (slab 1632 inb_S4352x1152_S544x1152_1632_0) f)
    ∗ (∃ f, Pt (F := F) c (slab 2176 inb_S4352x1152_S544x1152_2176_0) f)
    ∗ (∃ f, Pt (F := F) c (slab 2720 inb_S4352x1152_S544x1152_2720_0) f)
    ∗ (∃ f, Pt (F := F) c (slab 3264 inb_S4352x1152_S544x1152_3264_0) f)
    ∗ (∃ f, Pt (F := F) c slab7 f)
    ∗ (∃ f, Pt (F := F) c padw f) ∗ (∃ f, Pt (F := F) c M9 f) ∗ (∃ f, Pt (F := F) c M10 f) ∗ (∃ f, Pt (F := F) c M11 f)
    ∗ (∃ f, Pt (F := F) c M12 f) ∗ (∃ f, Pt (F := F) c M13 f) ∗ (∃ f, Pt (F := F) c M14 f)
    ∗ (∃ f, Pt (F := F) c (slotM 0) f) ∗ (∃ f, Pt (F := F) c (slotM 1) f)
    ∗ semVal ((c : Thread nD τ), wsem0) 0
    ∗ semVal ((c : Thread nD τ), wsem1) 0
    ∗ semVal ((c : Thread nD τ), wsem2) 0
    ∗ semVal ((c : Thread nD τ), wsem3) 0
    ∗ semVal ((c : Thread nD τ), wsem4) 0
    ∗ semVal ((c : Thread nD τ), wsem5) 0
    ∗ semVal ((c : Thread nD τ), wsem6) 0
    ∗ semVal ((c : Thread nD τ), wsem7) 0
    ∗ semVal ((c : Thread nD τ), SemLoc.dma cc0_scratch9.sem) 0 ∗ semVal ((c : Thread nD τ), SemLoc.dma cc0_scratch10.sem) 0
    ∗ semVal ((c : Thread nD τ), SemLoc.dma cc0_scratch11.sem) 0 ∗ cellP c 0 ∗ cellP c 1 ∗ (∃ W, owes (c : Thread nD τ) 0 W))

/-- What the body leaves. -/
def POST : sProp 𝕄 :=
  iprop(Pt c M0 XX
    ∗ Pt c (xslab 0 inb_S4304x1152_S544x1152_0_0) XW
    ∗ Pt c (xslab 544 inb_S4304x1152_S544x1152_544_0) XW
    ∗ Pt c (xslab 1088 inb_S4304x1152_S544x1152_1088_0) XW
    ∗ Pt c (xslab 1632 inb_S4304x1152_S544x1152_1632_0) XW
    ∗ Pt c (xslab 2176 inb_S4304x1152_S544x1152_2176_0) XW
    ∗ Pt c (xslab 2720 inb_S4304x1152_S544x1152_2720_0) XW
    ∗ Pt c (xslab 3264 inb_S4304x1152_S544x1152_3264_0) XW
    ∗ Pt c xslab7 XW
    ∗ Pt c arg2 f2
    ∗ bigSep Finset.univ (fun b : Fin 17 => Pt c (ywin b) (YV (gam XW) (WV XW) (C11 XX (xg c arg2 f2)) (C12 XX (xg c arg2 f2))))
    ∗ Pt c M4 (P4 XW) ∗ (∃ f : Bf (F := F) c arg5, Pt c arg5 f ∗ ⌜∀ i, arg5.view.read (Elt F) f i = gam XW⌝)
    ∗ Pt c M6 (C10 XX (xg c arg2 f2)) ∗ (∃ f : Bf (F := F) c arg7, Pt c arg7 f ∗ ⌜∀ i, arg7.view.read (Elt F) f i = SC (C12 XX (xg c arg2 f2)) i⌝)
    ∗ Pt c M8 (WV XW) ∗ (∃ f, Pt (F := F) c M9 f) ∗ (∃ f, Pt (F := F) c M10 f) ∗ (∃ f, Pt (F := F) c M11 f)
    ∗ (∃ f, Pt (F := F) c M12 f) ∗ (∃ f, Pt (F := F) c M13 f) ∗ (∃ f, Pt (F := F) c M14 f)
    ∗ (∃ f, Pt (F := F) c (slotM 0) f) ∗ (∃ f, Pt (F := F) c (slotM 1) f)
    ∗ semVal ((c : Thread nD τ), wsem0) 0
    ∗ semVal ((c : Thread nD τ), wsem1) 0
    ∗ semVal ((c : Thread nD τ), wsem2) 0
    ∗ semVal ((c : Thread nD τ), wsem3) 0
    ∗ semVal ((c : Thread nD τ), wsem4) 0
    ∗ semVal ((c : Thread nD τ), wsem5) 0
    ∗ semVal ((c : Thread nD τ), wsem6) 0
    ∗ semVal ((c : Thread nD τ), wsem7) 0
    ∗ semVal ((c : Thread nD τ), SemLoc.dma cc0_scratch9.sem) 0 ∗ semVal ((c : Thread nD τ), SemLoc.dma cc0_scratch10.sem) 0
    ∗ semVal ((c : Thread nD τ), SemLoc.dma cc0_scratch11.sem) 0 ∗ cellP c 0 ∗ cellP c 1 ∗ (∃ W, owes (c : Thread nD τ) 0 W))

set_option maxHeartbeats 1000000 in
set_option pp.deepTerms false in
set_option pp.deepTerms.threshold 14 in
set_option pp.proofs.threshold 0 in
theorem body_run (K : PUnit → sProp 𝕄) :
    iprop(PRE c arg2 arg5 arg7 XX XW f2 ∗ (POST c arg2 arg5 arg7 XX XW f2 -∗ K ⟨⟩)) ⊢ wp frame (wpE (defs₀ (F := F)) Variants.none (c : Thread nD τ) none) Set.univ
      (cc0_bitlinear (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) K := by
  unfold PRE
  simp only [cc0_bitlinear_eq_skeleton]; unfold cc0_bitlinear_skel
  iintro ⟨⟨H0, HX0, HX1, HX2, HX3, HX4, HX5, HX6, HX7, H2, ⟨%fy0, Hy0⟩, ⟨%fy1, Hy1⟩, Hys, ⟨%f4, H4⟩, ⟨%f5, H5⟩, ⟨%f6, H6⟩, ⟨%f7, H7⟩,
    ⟨%fw0, HW0⟩, ⟨%fw1, HW1⟩, ⟨%fw2, HW2⟩, ⟨%fw3, HW3⟩, ⟨%fw4, HW4⟩, ⟨%fw5, HW5⟩, ⟨%fw6, HW6⟩, ⟨%fw7, HW7⟩, ⟨%fp, Hp⟩, ⟨%f9, H9⟩, ⟨%f10, H10⟩, ⟨%f11, H11⟩, ⟨%f12, H12⟩, ⟨%f13, H13⟩, ⟨%f14, H14⟩,
    ⟨%g0, Hs0⟩, ⟨%g1, Hs1⟩, Hq0, Hq1, Hq2, Hq3, Hq4, Hq5, Hq6, Hq7, Hq9, Hq10, Hq11, Hc0, Hc1, ⟨%W, Hw⟩⟩, Hk⟩
  sl_exec
  rename_i u a0 a1 a2 a3 a4 a5 a6 a7
  have f0e : fL0 = C10 XX (xg c arg2 f2) := f_C10 c XX _ _ (fun i => (whole9_at c _ _ i).trans rfl) _ _ (by decide) hL2
  have f1e : fL1 = C11 XX (xg c arg2 f2) := f_C11 c XX _ _ (fun i => (whole9_at c _ _ i).trans rfl) _ _ (by decide) hL4
  have f2e : fL2 = C12 XX (xg c arg2 f2) := f_C12 c XX _ _ (fun i => (whole9_at c _ _ i).trans rfl) _ _ (by decide) hL6
  clear hL2 hL4 hL6
  have b0 : a0 = G (WV XW) (0 + 34) := ga_step (WV XW) _ 0 _ 34 _ _ hL8 (by decide) (by decide) (fun i h1 h2 => slab_on c XW 0 _ inb_S4304x1152_S544x1152_0_0 _ _ (fun _ => rfl) i h1 h2) rfl
  have b1 : a1 = G (WV XW) (34 + 34) := ga_step (WV XW) _ 34 _ 34 _ _ hL10 (by decide) (by decide) (fun i h1 h2 => slab_on c XW 544 _ inb_S4304x1152_S544x1152_544_0 _ _ (fun _ => rfl) i h1 h2) b0
  have b2 : a2 = G (WV XW) (68 + 34) := ga_step (WV XW) _ 68 _ 34 _ _ hL12 (by decide) (by decide) (fun i h1 h2 => slab_on c XW 1088 _ inb_S4304x1152_S544x1152_1088_0 _ _ (fun _ => rfl) i h1 h2) b1
  have b3 : a3 = G (WV XW) (102 + 34) := ga_step (WV XW) _ 102 _ 34 _ _ hL14 (by decide) (by decide) (fun i h1 h2 => slab_on c XW 1632 _ inb_S4304x1152_S544x1152_1632_0 _ _ (fun _ => rfl) i h1 h2) b2
  have b4 : a4 = G (WV XW) (136 + 34) := ga_step (WV XW) _ 136 _ 34 _ _ hL16 (by decide) (by decide) (fun i h1 h2 => slab_on c XW 2176 _ inb_S4304x1152_S544x1152_2176_0 _ _ (fun _ => rfl) i h1 h2) b3
  have b5 : a5 = G (WV XW) (170 + 34) := ga_step (WV XW) _ 170 _ 34 _ _ hL18 (by decide) (by decide) (fun i h1 h2 => slab_on c XW 2720 _ inb_S4304x1152_S544x1152_2720_0 _ _ (fun _ => rfl) i h1 h2) b4
  have b6 : a6 = G (WV XW) (204 + 34) := ga_step (WV XW) _ 204 _ 34 _ _ hL20 (by decide) (by decide) (fun i h1 h2 => slab_on c XW 3264 _ inb_S4304x1152_S544x1152_3264_0 _ _ (fun _ => rfl) i h1 h2) b5
  have b7 : a7 = G (WV XW) 269 := ga_step (WV XW) _ 238 _ 31 _ _ hL22 (by decide) (by decide) (fun i h1 h2 => slab7_on c XW _ _ (fun _ => rfl) i h1 h2) b6
  clear hL8 hL10 hL12 hL14 hL16 hL18 hL20 hL22 b0 b1 b2 b3 b4 b5 b6 a0 a1 a2 a3 a4 a5 a6
  subst f0e f1e f2e b7
  have v0 : body_run.sl.v134 XW = wtile (WV XW) 0 := tile0_read c XW (body_run.sl.dma0_1 XW) (fun _ => rfl) (slab 0 inb_S4352x1152_S544x1152_0_0).view.junk
  have v1 := tile1_read c XW (body_run.sl.dma0_1 XW) (fun _ => rfl) (slab 0 inb_S4352x1152_S544x1152_0_0).view.junk
  have d0 : body_run.sl.v712 XW (G (WV XW) 269) = P0 (gam XW) (wtile (WV XW) 0) := by rw [← v0]; rfl
  have d1 : body_run.sl.v717 XW (G (WV XW) 269) = P1 (gam XW) (wtile (WV XW) 0) := by rw [← v0]; rfl
  have d2 : body_run.sl.v723 XW (G (WV XW) 269) = P2 (gam XW) (wtile (WV XW) 0) := by rw [← v0]; rfl
  have d3 : body_run.sl.v1320 XW (G (WV XW) 269) = P0 (gam XW) (wtile (WV XW) 1) := by rw [← v1]; rfl
  have d4 : body_run.sl.v1325 XW (G (WV XW) 269) = P1 (gam XW) (wtile (WV XW) 1) := by rw [← v1]; rfl
  have d5 : k0_pay169 (body_run.sl.v1328 XW (G (WV XW) 269)) = P2 (gam XW) (wtile (WV XW) 1) := by rw [← v1]; rfl
  have t0 : body_run.sl.v725 XW (G (WV XW) 269) = k0_pay8 (gam XW) (wtile (WV XW) 0) := by
    rw [← v0]; unfold body_run.sl.v725 body_run.sl.H13_1; exact View.readCov_cons_toLoadRect _ _ _ _
  have t1 : body_run.sl.v1333 XW (G (WV XW) 269) = k0_pay8 (gam XW) (wtile (WV XW) 1) := by
    rw [← v1]; unfold body_run.sl.v1333 body_run.sl.H13_2; exact View.readCov_cons_toLoadRect _ _ _ _

  ihave HW0 := slab_landed c XW 0 inb_S4352x1152_S544x1152_0_0 inb_S4304x1152_S544x1152_0_0 (slab 0 inb_S4352x1152_S544x1152_0_0).view.junk (body_run.sl.dma0_1 XW) (fun _ => rfl) $$ HW0
  ihave HW1 := slab_landed c XW 544 inb_S4352x1152_S544x1152_544_0 inb_S4304x1152_S544x1152_544_0 (slab 544 inb_S4352x1152_S544x1152_544_0).view.junk (body_run.sl.dma0_2 XW) (fun _ => rfl) $$ HW1
  ihave HW2 := slab_landed c XW 1088 inb_S4352x1152_S544x1152_1088_0 inb_S4304x1152_S544x1152_1088_0 (slab 1088 inb_S4352x1152_S544x1152_1088_0).view.junk (body_run.sl.dma0_3 XW) (fun _ => rfl) $$ HW2
  ihave HW3 := slab_landed c XW 1632 inb_S4352x1152_S544x1152_1632_0 inb_S4304x1152_S544x1152_1632_0 (slab 1632 inb_S4352x1152_S544x1152_1632_0).view.junk (body_run.sl.dma0_4 XW) (fun _ => rfl) $$ HW3
  ihave HW4 := slab_landed c XW 2176 inb_S4352x1152_S544x1152_2176_0 inb_S4304x1152_S544x1152_2176_0 (slab 2176 inb_S4352x1152_S544x1152_2176_0).view.junk (body_run.sl.dma0_5 XW) (fun _ => rfl) $$ HW4
  ihave HW5 := slab_landed c XW 2720 inb_S4352x1152_S544x1152_2720_0 inb_S4304x1152_S544x1152_2720_0 (slab 2720 inb_S4352x1152_S544x1152_2720_0).view.junk (body_run.sl.dma0_6 XW) (fun _ => rfl) $$ HW5
  ihave HW6 := slab_landed c XW 3264 inb_S4352x1152_S544x1152_3264_0 inb_S4304x1152_S544x1152_3264_0 (slab 3264 inb_S4352x1152_S544x1152_3264_0).view.junk (body_run.sl.dma0_7 XW) (fun _ => rfl) $$ HW6
  ihave HW7 := slab7_landed c XW slab7.view.junk (body_run.sl.dma0_8 XW) (fun _ => rfl) $$ HW7
  ihave Hp := padw_landed c XW fp $$ [Hp]
  · irw [← padw_write c fp]
    iexact Hp
  ihave HM := pack_weights c (WV XW) $$ [HW0 HW1 HW2 HW3 HW4 HW5 HW6 HW7 Hp]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    iexact Hp
  have h14 := packed_ext c (gam XW) (WV XW) 1 _ (fun i hi => packed_ext c (gam XW) (WV XW) 0 f14 (fun i h => absurd h (by omega))
    ![0, 0] ![0, 128] ![0, 256] inb_S4352x288_S256x128_0_0 inb_S4352x288_S256x128_0_128 inb_S4352x288_S256x32_0_256 rfl rfl rfl _ _ _ d0 d1 d2 i hi)
    ![256, 0] ![256, 128] ![256, 256] inb_S4352x288_S256x128_256_0 inb_S4352x288_S256x128_256_128 inb_S4352x288_S256x32_256_256 rfl rfl rfl _ _ _ d3 d4 d5
  have s0 : ∀ i, (slotM 0).view.read (Elt F) (body_run.sl.Hs0_w1 c XW g0 (C11 XX (xg c arg2 f2)) (C12 XX (xg c arg2 f2)) (G (WV XW) 269)) i
      = YT (gam XW) (WV XW) (C11 XX (xg c arg2 f2)) (C12 XX (xg c arg2 f2)) 0 i :=
    slot_stored (gam XW) (WV XW) _ _ 0 0 g0 ![0, 0, 0] inb_S2x1280x256_S1x1280x256_0_0_0 rfl _ _ (congrArg₂ k0_pay55 (readA _ _) t0) (readCol0 _ _)
  have s1 : ∀ i, (slotM 1).view.read (Elt F) (body_run.sl.Hs1_w2 c XW g1 (C11 XX (xg c arg2 f2)) (C12 XX (xg c arg2 f2)) (G (WV XW) 269)) i
      = YT (gam XW) (WV XW) (C11 XX (xg c arg2 f2)) (C12 XX (xg c arg2 f2)) 1 i :=
    slot_stored (gam XW) (WV XW) _ _ 1 1 g1 ![1, 0, 0] inb_S2x1280x256_S1x1280x256_1_0_0 rfl _ _ (congrArg₂ k0_pay55 (readA _ _) t1) (readCol0 _ _)
  ihave Hinv := inv10_start c (gam XW) (WV XW) (C11 XX (xg c arg2 f2)) (C12 XX (xg c arg2 f2)) _ fy0 fy1 _ _ h14 s0 s1 $$ [HM H11 H12 H13 H14 Hw Hys Hc0 Hc1]
  · isplitl [HM]; · iexact HM
    isplitl [H11]; · iexact H11
    isplitl [H12]; · iexact H12
    isplitl [H13]; · iexists _; iexact H13
    isplitl [H14]; · iexact H14
    isplitl [Hw]; · iexists _; iexact Hw
    isplitl [Hys]; · iexact Hys
    isplitl [Hc0]; · iexact Hc0
    iexact Hc1
  clear d0 d1 d2 d3 d4 d5 t0 t1 v0 v1 h14 s0 s1
  ihave Hinv := inv10_open c (gam XW) (WV XW) (C11 XX (xg c arg2 f2)) (C12 XX (xg c arg2 f2)) $$ Hinv
  icases Hinv with ⟨I8, I11, I12, ⟨%i13, I13⟩, ⟨%i14, I14, %hi14⟩, ⟨%W2, IW⟩, Iy, ⟨%if0, %ig0, %ie0, IF0⟩, ⟨%if1, %ig1, %ie1, IF1⟩⟩
  sl_exec
  sl_step
  have hp := packed_read c XW _ (fun i => hL5 i (Nat.lt_of_lt_of_le (show (i 0).val < 4352 from (i 0).isLt) (by decide))) inb_S4352x288_S4304x288_0_0 (fun _ => rfl)
  ihave Hy := y_landed c (k0_pay78 (G (WV XW) 269)) (WV XW) (C11 XX (xg c arg2 f2)) (C12 XX (xg c arg2 f2)) (Scf.trips k0_t10_loop.lb k0_t10_loop.ub k0_t10_loop.st) (Scf.trips k0_t10_loop.lb k0_t10_loop.ub k0_t10_loop.st) ((Scf.trips k0_t10_loop.lb k0_t10_loop.ub k0_t10_loop.st) + 1) (Ring.bk 17 (Scf.trips k0_t10_loop.lb k0_t10_loop.ub k0_t10_loop.st)) (Ring.bk 17 ((Scf.trips k0_t10_loop.lb k0_t10_loop.ub k0_t10_loop.st) + 1)) (Ring.sl 2 (Scf.trips k0_t10_loop.lb k0_t10_loop.ub k0_t10_loop.st)) (Ring.sl 2 ((Scf.trips k0_t10_loop.lb k0_t10_loop.ub k0_t10_loop.st) + 1)) (by decide) (by decide) (by decide) (by decide) (by decide) fL3 gL4 fL5 gL6 hL8 hL10 $$ [Iy IF0_dst IF1_dst]
  · isplitl [Iy]; · iexact Iy
    isplitl [IF0_dst]; · iexact IF0_dst
    iexact IF1_dst
  ihave Hs := slots_end c (Ring.sl 2 (Scf.trips k0_t10_loop.lb k0_t10_loop.ub k0_t10_loop.st)) (Ring.sl 2 ((Scf.trips k0_t10_loop.lb k0_t10_loop.ub k0_t10_loop.st) + 1)) (by decide) (by decide) gL4 gL6 $$ [IF0_src IF1_src]
  · isplitl [IF0_src]; · iexact IF0_src
    iexact IF1_src
  icases Hs with ⟨Hs0, Hs1⟩
  ihave H4 := packed_out c XW f4 (body_run.sl.dma0_10 c fL1) hp $$ H4
  ihave H6 := codes_out c f6 (body_run.sl.dma0_9 c (C10 XX (xg c arg2 f2))) (C10 XX (xg c arg2 f2)) (fun _ => rfl) $$ H6
  iapply Hk
  unfold POST
  isplitl [H0]; · iexact H0
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [H2]; · iexact H2
  isplitl [Hy]; · iexact Hy
  isplitl [H4]; · iexact H4
  isplitl [H5]
  · iexists _; isplitl [H5]; · iexact H5
    ipureintro
    exact gamma_read c arg5 _ _ _
  isplitl [H6]; · iexact H6
  isplitl [H7]
  · iexists _; isplitl [H7]; · iexact H7
    ipureintro
    exact scales_read c arg7 _ (C12 XX (xg c arg2 f2)) _ _ _ _ _ _ _ _ _ _
      (congrArg k0_pay59 (readS c (C12 XX (xg c arg2 f2)) 0 (by decide) 0 rfl inb_S1280x128_S128x128_0_0))
      (congrArg k0_pay59 (readS c (C12 XX (xg c arg2 f2)) 1 (by decide) 128 rfl inb_S1280x128_S128x128_128_0))
      (congrArg k0_pay59 (readS c (C12 XX (xg c arg2 f2)) 2 (by decide) 256 rfl inb_S1280x128_S128x128_256_0))
      (congrArg k0_pay59 (readS c (C12 XX (xg c arg2 f2)) 3 (by decide) 384 rfl inb_S1280x128_S128x128_384_0))
      (congrArg k0_pay59 (readS c (C12 XX (xg c arg2 f2)) 4 (by decide) 512 rfl inb_S1280x128_S128x128_512_0))
      (congrArg k0_pay59 (readS c (C12 XX (xg c arg2 f2)) 5 (by decide) 640 rfl inb_S1280x128_S128x128_640_0))
      (congrArg k0_pay59 (readS c (C12 XX (xg c arg2 f2)) 6 (by decide) 768 rfl inb_S1280x128_S128x128_768_0))
      (congrArg k0_pay59 (readS c (C12 XX (xg c arg2 f2)) 7 (by decide) 896 rfl inb_S1280x128_S128x128_896_0))
      (congrArg k0_pay59 (readS c (C12 XX (xg c arg2 f2)) 8 (by decide) 1024 rfl inb_S1280x128_S128x128_1024_0))
      (congrArg k0_pay59 (readS c (C12 XX (xg c arg2 f2)) 9 (by decide) 1152 rfl inb_S1280x128_S128x128_1152_0))
  isplitl [I8]; · iexact I8
  isplitl [H9]; · iexists _; iexact H9
  isplitl [H10]; · iexists _; iexact H10
  isplitl [I11]; · iexists _; iexact I11
  isplitl [I12]; · iexists _; iexact I12
  isplitl [I13]; · iexists _; iexact I13
  isplitl [I14]; · iexists _; iexact I14
  isplitl [Hs0]; · iexact Hs0
  isplitl [Hs1]; · iexact Hs1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq9]; · iexact Hq9
  isplitl [Hq10]; · iexact Hq10
  isplitl [Hq11]; · iexact Hq11
  isplitl [IF1]; · iexact IF1
  isplitl [IF0]; · iexact IF0
  iexists _; iexact IW
end Body

end Cert.Kernel.Hand
end
-- ==== Proof.KernF.lean ====
/-
  The launch: the one region around the body, the buffers the body finds and leaves, the run of the whole program, and the
  frame (the program ends, its arguments as they were, every semaphore at zero).
-/
module

public import proofs.«01_k».proof.Proof.Kern3
public import proofs.«01_k».proof.Proof.Gen.Kernel.Frame
public import Idealize.ShloMosaic.Lib.Pipeline.FrameSuffixV

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## What the region hands the body beside the windows -/

/-- The body's thirteen semaphore cells. -/
abbrev osem0 : Fin 13 → SemLoc sig := fun j => (![SemLoc.dma 3, SemLoc.dma 4, SemLoc.dma 5, SemLoc.dma 6, SemLoc.dma 7,
  SemLoc.dma 8, SemLoc.dma 9, SemLoc.dma 10, SemLoc.dma 11, SemLoc.dma 12, SemLoc.dma 13, SemLoc.dma 14, SemLoc.dma 15] : Fin 13 → SemLoc sig) j
theorem ownSemFacts0 : Pipeline.OwnSemFacts spec0 osem0 := by decide
/-- The arguments the body copies from: the activations reshaped, the weights. -/
def H0 : Finset (Ref sig .tc) := {main_v0, main_arg1}
/-- The results the body copies out itself: `y`, the packed weights, the activations' codes. -/
def R0 : Finset (Ref sig .tc) := {main_v2_0, main_v2_1, main_v2_3}
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), wsem0) 0 ∗ semVal ((c : Thread nD τ), wsem1) 0 ∗ semVal ((c : Thread nD τ), wsem2) 0
          ∗ semVal ((c : Thread nD τ), wsem3) 0 ∗ semVal ((c : Thread nD τ), wsem4) 0 ∗ semVal ((c : Thread nD τ), wsem5) 0
          ∗ semVal ((c : Thread nD τ), wsem6) 0 ∗ semVal ((c : Thread nD τ), wsem7) 0
          ∗ semVal ((c : Thread nD τ), SemLoc.dma cc0_scratch9.sem) 0 ∗ semVal ((c : Thread nD τ), SemLoc.dma cc0_scratch10.sem) 0
          ∗ semVal ((c : Thread nD τ), SemLoc.dma cc0_scratch11.sem) 0 ∗ cellP c 0 ∗ cellP c 1) := by
  rw [Pipeline.ownSems0_eq_of_list c osem0 [0, 1, 2, 3, 4, 5, 6, 7, 8, 9, 10, 11, 12] (by decide) (by decide)]; rfl
theorem H0_eq (c : Dev nD) (V : (b : Ref sig .tc) → Buf (Elt F) ((c : Thread nD τ).loc b)) :
    (bigSep H0 (fun b => ((c : Thread nD τ).loc b) ↦{fullShare} V b) : sProp 𝕄)
      = iprop((((c : Thread nD τ).loc main_v0) ↦{fullShare} V main_v0) ∗ (((c : Thread nD τ).loc main_arg1) ↦{fullShare} V main_arg1)) := by
  rw [BI.bigSep_eq_bigSepL_of_eq [main_v0, main_arg1] (by decide) (by decide)]; rfl
theorem R0_eq (c : Dev nD) (V : (b : Ref sig .tc) → Buf (Elt F) ((c : Thread nD τ).loc b)) :
    (bigSep R0 (fun b => ((c : Thread nD τ).loc b) ↦{fullShare} V b) : sProp 𝕄)
      = iprop((((c : Thread nD τ).loc main_v2_0) ↦{fullShare} V main_v2_0) ∗ (((c : Thread nD τ).loc main_v2_1) ↦{fullShare} V main_v2_1)
          ∗ (((c : Thread nD τ).loc main_v2_3) ↦{fullShare} V main_v2_3)) := by
  rw [BI.bigSep_eq_bigSepL_of_eq [main_v2_0, main_v2_1, main_v2_3] (by decide) (by decide)]; rfl

/-- A buffer held whole, by its elements or by its location. -/
theorem whole_pt (c : Dev nD) (b : Ref sig .tc) (f : Buf (Elt F) ((c : Thread nD τ).loc b)) :
    (((c : Thread nD τ).loc b) ↦{fullShare} f : sProp 𝕄) = (((c : Thread nD τ).loc b) ↦[(View.whole b).set]{fullShare} f) :=
  congrArg (fun S => (((c : Thread nD τ).loc b) ↦[S]{fullShare} f : sProp 𝕄)) (View.set_whole b).symm
theorem whole_some (c : Dev nD) (b : Ref sig .tc) :
    (iprop(∃ f : Buf (Elt F) ((c : Thread nD τ).loc b), ((c : Thread nD τ).loc b) ↦{fullShare} f) : sProp 𝕄)
      = iprop(∃ f : Buf (Elt F) ((c : Thread nD τ).loc b), ((c : Thread nD τ).loc b) ↦[(View.whole b).set]{fullShare} f) :=
  congrArg (fun P : Buf (Elt F) ((c : Thread nD τ).loc b) → sProp 𝕄 => iprop(∃ f, P f)) (funext fun f => whole_pt c b f)

/-- The gain as the body loads it is what its staging buffer reads. -/
theorem xg_eq (c : Dev nD) (arg2 : Memref sig .tc .vmem S1x1152 .f32) (f2 : Bf (F := F) c arg2) : xg c arg2 f2 = arg2.view.read (Elt F) f2 :=
  funext fun i => congrArg (arg2.view.read (Elt F) f2) (funext fun a => Fin.ext (by
    match a with
    | ⟨0, _⟩ => show 0 + 1 * (i 0).val = (i 0).val; omega
    | ⟨1, _⟩ => show 0 + 1 * (i 1).val = (i 1).val; omega))

section Run
variable (m : (ℓ : Loc nD τ sig) → Buf (Elt F) ℓ) (ρ : Dev nD → PrngReg)

abbrev XX (c : Dev nD) : S1280x1152.Idx → Elt F .bf16 := V m c main_v0
abbrev XW (c : Dev nD) : S4304x1152.Idx → Elt F .bf16 := V m c main_arg1
abbrev XG (c : Dev nD) (t : Fin cfg0.N) : Vec F S1x1152 .f32 := iblk m c 0 t
/-- The one point. -/
abbrev t0 : Fin cfg0.N := ⟨0, by decide⟩
theorem t_eq (t : Fin cfg0.N) : t = t0 := by revert t; decide

/-- What the body leaves in the buffers it copies out to. -/
def G0 (c : Dev nD) (b : Ref sig .tc) : Buf (Elt F) ((c : Thread nD τ).loc b) :=
  if h : b = main_v2_0 then h ▸ (YV (gam (XW m c)) (WV (XW m c)) (C11 (XX m c) (XG m c t0)) (C12 (XX m c) (XG m c t0)) : Buf (Elt F) ((c : Thread nD τ).loc main_v2_0))
  else if h : b = main_v2_1 then h ▸ (P4 (XW m c) : Buf (Elt F) ((c : Thread nD τ).loc main_v2_1))
  else if h : b = main_v2_3 then h ▸ (C10 (XX m c) (XG m c t0) : Buf (Elt F) ((c : Thread nD τ).loc main_v2_3))
  else V m c b
theorem G0_y (c : Dev nD) : G0 m c main_v2_0 = YV (gam (XW m c)) (WV (XW m c)) (C11 (XX m c) (XG m c t0)) (C12 (XX m c) (XG m c t0)) := by
  unfold G0; rw [dif_pos rfl]
theorem G0_w (c : Dev nD) : G0 m c main_v2_1 = P4 (XW m c) := by
  unfold G0; rw [dif_neg (by decide), dif_pos rfl]
theorem G0_x (c : Dev nD) : G0 m c main_v2_3 = C10 (XX m c) (XG m c t0) := by
  unfold G0; rw [dif_neg (by decide), dif_neg (by decide), dif_pos rfl]

/-- The proof data of the region: the windows' buffers after the body, and what is held beside them before and after. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (fun _ => gam (XW m c) : S1x1.Idx → Elt F .f32)
    | ⟨2, _⟩ => (SC (C12 (XX m c) (XG m c t0)) : S5x256.Idx → Elt F .f32)
  Φ t := if t.val = 0 then Pipeline.ΦDRV osem0 spec0 H0 R0 (V m) (V m) c else Pipeline.ΦDRV osem0 spec0 H0 R0 (V m) (G0 m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = (fun _ => gam (XW m c) : S1x1.Idx → Elt F .f32) := by dsimp only [dats]
theorem after0_2 (c : Dev nD) (t : Fin cfg0.N) : (dats m 0 c).after 2 t = (SC (C12 (XX m c) (XG m c t0)) : S5x256.Idx → Elt F .f32) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

abbrev ms0 (t : Fin cfg0.N) : Memref sig .tc .vmem S1x1152 .f32 := win0_0.stage (cfg0.slots t 0)
abbrev ms1 (t : Fin cfg0.N) : Memref sig .tc .smem S1x1 .f32 := win0_1.stage (cfg0.slots t 1)
abbrev ms2 (t : Fin cfg0.N) : Memref sig .tc .vmem S5x256 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- What is held beside the windows before the body, and after it. -/
theorem Phi_pre (c : Dev nD) (t : Fin cfg0.N) : (dats m 0 c).Φ t.castSucc = Pipeline.ΦDRV osem0 spec0 H0 R0 (V m) (V m) c := by
  rw [t_eq t]; dsimp only [dats]; exact if_pos rfl
theorem Phi_post (c : Dev nD) (t : Fin cfg0.N) : (dats m 0 c).Φ t.succ = Pipeline.ΦDRV osem0 spec0 H0 R0 (V m) (G0 m) c := by
  rw [t_eq t]; dsimp only [dats]; exact if_neg Nat.one_ne_zero

end Run

/-- Windows of `y` held at known contents are held at some. -/
theorem ys_some (c : Dev nD) (f : Bf (F := F) c M3) :
    (bigSep (Ring.homeSet 2 0) (fun b : Fin 17 => Pt c (ywin b) f) : sProp 𝕄) ⊢ bigSep (Ring.homeSet 2 0) (fun b : Fin 17 => iprop(∃ f, Pt (F := F) c (ywin b) f)) :=
  bigSep_mono fun b _ => (show (Pt c (ywin b) f : sProp 𝕄) ⊢ iprop(∃ f, Pt (F := F) c (ywin b) f) from by iintro H; iexists f; iexact H)

/-- The pieces that enter the body, from the buffers held whole. -/
theorem enter (c : Dev nD) (arg2 : Memref sig .tc .vmem S1x1152 .f32) (arg5 : Memref sig .tc .smem S1x1 .f32) (arg7 : Memref sig .tc .vmem S5x256 .f32)
    (Vc : (b : Ref sig .tc) → Buf (Elt F) ((c : Thread nD τ).loc b)) (f2 : Bf (F := F) c arg2) (f5 : Bf (F := F) c arg5) (f7 : Bf (F := F) c arg7) :
    iprop((Pipeline.scopedRest (Ix := Unit) (Name := ℕ) (U := Pipeline.UD sig nD τ) (Lvl := ℕ) (Val := Elt F) spec0 c
        ∗ Pipeline.ownSems0 (Ix := Unit) (Name := ℕ) (U := Pipeline.UD sig nD τ) (Lvl := ℕ) (Val := Elt F) (τ := τ) osem0 c
        ∗ (bigSep H0 fun b => ((c : Thread nD τ).loc b) ↦{fullShare} Vc b) ∗ bigSep R0 fun b => ((c : Thread nD τ).loc b) ↦{fullShare} Vc b)
      ∗ (∃ W, owes (c : Thread nD τ) 0 W) ∗ Pt c arg2 f2 ∗ Pt c arg5 f5 ∗ Pt c arg7 f7)
      ⊢ (PRE c arg2 arg5 arg7 (Vc main_v0) (Vc main_arg1) f2 : sProp 𝕄) := by
  rw [ownSems00_eq, H0_eq, R0_eq, scopedRest0_eq, weights_eq, y_eq, homes_zero, whole_pt c main_v0, whole_pt c main_v2_1, whole_pt c main_v2_3]
  rw [whole_some c cc0_scratch1, whole_some c cc0_scratch2, whole_some c cc0_scratch3, whole_some c cc0_scratch4, whole_some c cc0_scratch5, whole_some c cc0_scratch6]
  unfold PRE
  iintro ⟨⟨⟨⟨%f8, S0⟩, S1, S2, S3, S4, S5, S6, S7⟩, ⟨Q0, Q1, Q2, Q3, Q4, Q5, Q6, Q7, Q8, Q9, Q10, Q11, Q12⟩, ⟨X, HX0, HX1, HX2, HX3, HX4, HX5, HX6, HX7⟩, ⟨⟨Y0, Y1, Y⟩, H4, H6⟩⟩, HW, H2, H5, H7⟩
  ihave S0 := (entails_of_eq (scratch_eq c f8)) $$ S0
  icases S0 with ⟨T0, T1, T2, T3, T4, T5, T6, T7, T8⟩
  ihave S7 := slots_split c $$ S7
  icases S7 with ⟨K0, K1⟩
  isplitl [X]; · iexact X
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [H2]; · iexact H2
  isplitl [Y0]; · iexists _; iexact Y0
  isplitl [Y1]; · iexists _; iexact Y1
  isplitl [Y]; · iapply (ys_some c (Vc main_v2_0)); iexact Y
  isplitl [H4]; · iexists _; iexact H4
  isplitl [H5]; · iexists _; iexact H5
  isplitl [H6]; · iexists _; iexact H6
  isplitl [H7]; · iexists _; iexact H7
  isplitl [T0]; · iexists _; iexact T0
  isplitl [T1]; · iexists _; iexact T1
  isplitl [T2]; · iexists _; iexact T2
  isplitl [T3]; · iexists _; iexact T3
  isplitl [T4]; · iexists _; iexact T4
  isplitl [T5]; · iexists _; iexact T5
  isplitl [T6]; · iexists _; iexact T6
  isplitl [T7]; · iexists _; iexact T7
  isplitl [T8]; · iexists _; iexact T8
  isplitl [S1]; · iexact S1
  isplitl [S2]; · iexact S2
  isplitl [S3]; · iexact S3
  isplitl [S4]; · iexact S4
  isplitl [S5]; · iexact S5
  isplitl [S6]; · iexact S6
  isplitl [K0]; · iexact K0
  isplitl [K1]; · iexact K1
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  iexact HW

/-- The buffers held whole again, from the pieces the body leaves. -/
theorem leave (c : Dev nD) (arg2 : Memref sig .tc .vmem S1x1152 .f32) (arg5 : Memref sig .tc .smem S1x1 .f32) (arg7 : Memref sig .tc .vmem S5x256 .f32)
    (Vc Gc : (b : Ref sig .tc) → Buf (Elt F) ((c : Thread nD τ).loc b)) (f2 : Bf (F := F) c arg2)
    (gy : Gc main_v2_0 = YV (gam (Vc main_arg1)) (WV (Vc main_arg1)) (C11 (Vc main_v0) (xg c arg2 f2)) (C12 (Vc main_v0) (xg c arg2 f2)))
    (gw : Gc main_v2_1 = P4 (Vc main_arg1)) (gx : Gc main_v2_3 = C10 (Vc main_v0) (xg c arg2 f2)) :
    (POST c arg2 arg5 arg7 (Vc main_v0) (Vc main_arg1) f2 : sProp 𝕄) ⊢
    iprop((Pipeline.scopedRest (Ix := Unit) (Name := ℕ) (U := Pipeline.UD sig nD τ) (Lvl := ℕ) (Val := Elt F) spec0 c
        ∗ Pipeline.ownSems0 (Ix := Unit) (Name := ℕ) (U := Pipeline.UD sig nD τ) (Lvl := ℕ) (Val := Elt F) (τ := τ) osem0 c
        ∗ (bigSep H0 fun b => ((c : Thread nD τ).loc b) ↦{fullShare} Vc b) ∗ bigSep R0 fun b => ((c : Thread nD τ).loc b) ↦{fullShare} Gc b)
      ∗ (∃ W, owes (c : Thread nD τ) 0 W) ∗ Pt c arg2 f2
      ∗ (∃ f : Bf (F := F) c arg5, Pt c arg5 f ∗ ⌜∀ i, arg5.view.read (Elt F) f i = gam (Vc main_arg1)⌝)
      ∗ (∃ f : Bf (F := F) c arg7, Pt c arg7 f ∗ ⌜∀ i, arg7.view.read (Elt F) f i = SC (C12 (Vc main_v0) (xg c arg2 f2)) i⌝)) := by
  rw [ownSems00_eq, H0_eq, R0_eq, scopedRest0_eq, weights_eq, gy, gw, gx, y_eq, whole_pt c main_v0, whole_pt c main_v2_1, whole_pt c main_v2_3]
  rw [whole_some c cc0_scratch0, whole_some c cc0_scratch1, whole_some c cc0_scratch2, whole_some c cc0_scratch3, whole_some c cc0_scratch4, whole_some c cc0_scratch5, whole_some c cc0_scratch6]
  unfold POST
  iintro ⟨X, HX0, HX1, HX2, HX3, HX4, HX5, HX6, HX7, H2, Y, H4, H5, H6, H7, S0, S1, S2, S3, S4, S5, S6, K0, K1, Q0, Q1, Q2, Q3, Q4, Q5, Q6, Q7, Q8, Q9, Q10, Q11, Q12, HW⟩
  isplitl [X HX0 HX1 HX2 HX3 HX4 HX5 HX6 HX7 Y H4 H6 S0 S1 S2 S3 S4 S5 S6 K0 K1 Q0 Q1 Q2 Q3 Q4 Q5 Q6 Q7 Q8 Q9 Q10 Q11 Q12]
  · isplitl [S0 S1 S2 S3 S4 S5 S6 K0 K1]
    · isplitl [S0]; · iexists _; iexact S0
      isplitl [S1]; · iexact S1
      isplitl [S2]; · iexact S2
      isplitl [S3]; · iexact S3
      isplitl [S4]; · iexact S4
      isplitl [S5]; · iexact S5
      isplitl [S6]; · iexact S6
      iapply (slots_join c)
      isplitl [K0]; · iexact K0
      iexact K1
    isplitl [Q0 Q1 Q2 Q3 Q4 Q5 Q6 Q7 Q8 Q9 Q10 Q11 Q12]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      iexact Q12
    isplitl [X HX0 HX1 HX2 HX3 HX4 HX5 HX6 HX7]
    · isplitl [X]; · iexact X
      isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    isplitl [Y]; · iexact Y
    isplitl [H4]; · iexact H4
    iexact H6
  isplitl [HW]; · iexact HW
  isplitl [H2]; · iexact H2
  isplitl [H5]; · iexact H5
  iexact H7

section Run
variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, after0_0, after0_1, after0_2]
  simp only [before0_0]
  unfold Dat.owesAt Pipeline.owesWithin
  rw [show (dats m 0 c).owed t.castSucc = 0 from rfl, show (dats m 0 c).owed t.succ = 0 from rfl]
  unfold Pipeline.ΦDRV
  iintro ⟨HΦ, ⟨%W, -, HW⟩, ⟨%d0, H0⟩, ⟨%d1, H1⟩, ⟨%d2, H2⟩⟩
  unfold owns
  icases H0 with ⟨%f2, %e2, H0⟩
  icases H1 with ⟨%f5, -, H1⟩
  icases H2 with ⟨%f7, -, H2⟩
  have ex : xg c (ms0 t) f2 = XG m c t0 := ((xg_eq c (ms0 t) f2).trans e2).trans (congrArg (fun t => XG m c t) (t_eq t))
  iapply (body_run c (ms0 t) (hstage0_0 0) (ms1 t) (hstage0_1 0) (ms2 t) (hstage0_2 0) (XX m c) (XW m c) f2 _)
  isplitl [HΦ HW H0 H1 H2]
  · iapply (enter c (ms0 t) (ms1 t) (ms2 t) (V m c) f2 f5 f7)
    isplitl [HΦ]; · iexact HΦ
    isplitl [HW]; · iexists W; iexact HW
    isplitl [H0]; · iexact H0
    isplitl [H1]; · iexact H1
    iexact H2
  iintro HP
  ihave HP := (leave c (ms0 t) (ms1 t) (ms2 t) (V m c) (G0 m c) f2 (by rw [ex]; exact G0_y m c) (G0_w m c) (by rw [ex]; exact G0_x m c)) $$ HP
  icases HP with ⟨HΦ, ⟨%W', HW'⟩, H0, ⟨%g5, H1, %e5⟩, ⟨%g7, H2, %e7⟩⟩
  isplitl [HΦ]; · iexact HΦ
  isplitl [HW']
  · iexists W'; isplitr; · ipureintro; exact fun _ _ => Or.inl trivial
    iexact HW'
  isplitl [H0]
  · iexists f2; isplitr; · ipureintro; exact e2
    iexact H0
  isplitl [H1]
  · iexists g5; isplitr; · ipureintro; exact funext e5
    iexact H1
  iexists g7; isplitr
  · ipureintro; rw [← ex]; exact funext e7
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer no window stages holds at the end. -/
abbrev endAt (c : Dev nD) (b : Ref sig .tc) : Buf (Elt F) ((c : Thread nD τ).loc b) :=
  StableHlo.after ([hostOps1] : List (List (HloOp τ sig (Elt F)))).flatten
    (Pipeline.withArrays spec0 c (Pipeline.withR (V0 m c) R0 c (G0 m c)) fun w => (dats m 0 c).arrAt w cfg0.N) (Proc.devRef .tc b)

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endAt m c b)
    ∧ r.2.sem = fun _ => 0) :=
  Pipeline.θ_run_frame_dmaR_aroundV (Q' := _) (hQ' := fun _ h => ⟨fun c => h.1 c, h.2⟩) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G0 m)
    (hmain := hmain m Variants.none) (hA := A_eq m)
    (hin := fun c => entails_of_eq (Phi_pre m c t0).symm) (hout := fun c => entails_of_eq (Phi_post m c t0))

/-! ## The arguments at the end -/

theorem end_keep (c : Dev nD) (b : Ref sig .tc) (h1 : b ≠ main_v3 ∧ b ≠ main_v4 ∧ b ≠ main_v5 ∧ b ≠ main_v6) (hw : ∀ w, Pipeline.arrRef spec0 w ≠ b) (hR : b ∉ R0) :
    endAt m c b = V m c b := by
  unfold endAt
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne h1.1, StableHlo.devRef_ne_of_ne h1.2.1, StableHlo.devRef_ne_of_ne h1.2.2.1, StableHlo.devRef_ne_of_ne h1.2.2.2⟩)),
    Pipeline.withArrays_of_ne _ c _ _ b hw, Pipeline.withR_of_not_mem _ _ _ _ _ hR]

/-- The frame: the program ends, its arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans ((end_keep m c main_arg0 (by decide) (by decide) (by decide)).trans (V_main_arg0 m c)),
      ((h.1 c).2 main_arg1 (Pipeline.mem_restRefs_of main_arg1 (by decide) (by decide))).trans ((end_keep m c main_arg1 (by decide) (by decide) (by decide)).trans (V_main_arg1 m c)),
      ((h.1 c).2 main_arg2 (Pipeline.mem_restRefs_of main_arg2 (by decide) (by decide))).trans ((end_keep m c main_arg2 (by decide) (by decide) (by decide)).trans (V_main_arg2 m c))⟩, h.2⟩) (run_main m ρ)
end Run

end Cert.Kernel.Hand
end
-- ==== Proof.KernI1.lean ====
/-
  The kernel's buffers, what each of them holds, and its ten counted loops.

  `XW`, `XX` and `XG` are the contents of the weights, of the activations and of the gain as the kernel finds them.
  From them come what the kernel's scratch buffers hold once it has filled them: `WV` the padded weights, `C10`, `C11`,
  `C12` the codes, the codes in bf16 and the scales, all by blocks of 64 rows; `G j` the partial sums of absolute values
  after `j` blocks of 16 weight rows.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## The buffers -/

abbrev M0 : Memref sig .tc .hbm S1280x1152 .bf16 := Memref.whole main_v0
abbrev M1 : Memref sig .tc .hbm S4304x1152 .bf16 := Memref.whole main_arg1
abbrev M3 : Memref sig .tc .hbm S1280x4352 .bf16 := Memref.whole main_v2_0
abbrev M4 : Memref sig .tc .hbm S4304x288 .i8 := Memref.whole main_v2_1
abbrev M6 : Memref sig .tc .hbm S1280x1152 .i8 := Memref.whole main_v2_3
abbrev M8 : Memref sig .tc .vmem S4352x1152 .bf16 := Memref.whole cc0_scratch0
abbrev M9 : Memref sig .tc .vmem S1280x1152 .bf16 := Memref.whole cc0_scratch1
abbrev M10 : Memref sig .tc .vmem S1280x1152 .i8 := Memref.whole cc0_scratch2
abbrev M11 : Memref sig .tc .vmem S1280x1152 .bf16 := Memref.whole cc0_scratch3
abbrev M12 : Memref sig .tc .vmem S1280x128 .f32 := Memref.whole cc0_scratch4
abbrev M13 : Memref sig .tc .vmem S256x1152 .bf16 := Memref.whole cc0_scratch5
abbrev M14 : Memref sig .tc .vmem S4352x288 .i8 := Memref.whole cc0_scratch6
abbrev M15 : Memref sig .tc .vmem S2x1280x256 .bf16 := Memref.whole cc0_scratch7

abbrev Bf (c : Dev nD) {sp : Space} {S : Shape} {e : EltTy} (M : Memref sig .tc sp S e) : Type := Buf (Elt F) (M.view.loc (c : Thread nD τ))
/-- A view's elements held at `f`. -/
abbrev Pt (c : Dev nD) {sp : Space} {S : Shape} {e : EltTy} (M : Memref sig .tc sp S e) (f : Bf (F := F) c M) : sProp 𝕄 :=
  M.view.loc (c : Thread nD τ) ↦[M.view.set]{fullShare} f

/-! ## The weights, by the slabs the copies land -/

abbrev slabOff (i : ℕ) : Fin 2 → Nat := ![544 * i, 0]
/-- Slab `i < 7` of the padded weights: rows `544 i` to `544 (i + 1)`. -/
abbrev slab (o : ℕ) (h : ∀ a, (![o, 0] : Fin 2 → Nat) a + S544x1152.size a ≤ S4352x1152.size a) : Memref sig .tc .vmem S544x1152 .bf16 :=
  M8.slice (Rect.unit (s := S4352x1152) ![o, 0] S544x1152.size h) (fun _ => rfl)
/-- The last slab, 496 rows. -/
abbrev slab7 : Memref sig .tc .vmem S496x1152 .bf16 :=
  M8.slice (Rect.unit (s := S4352x1152) ![3808, 0] S496x1152.size inb_S4352x1152_S496x1152_3808_0) (fun _ => rfl)

section Sums
variable (WV : S4352x1152.Idx → Elt F .bf16)

/-- The 16 rows of the weights from row `16 j` on. -/
def wblk (j : ℕ) : S16x1152.Idx → Elt F .bf16 := fun i =>
  WV (fun | ⟨0, _⟩ => (⟨(16 * j + (i 0).val) % 4352, Nat.mod_lt _ (by decide)⟩ : Fin 4352) | ⟨1, _⟩ => (i 1 : Fin 1152))
/-- The partial sums of absolute values after the first `j` blocks of 16 rows. -/
def G : ℕ → FVec F S16x128 .f32
  | 0 => k0_pay69
  | j + 1 => k0_pay70 (G j) (wblk WV j)
/-- The partial sums `a`, carried on over the `k` blocks of 16 rows from block `j0` on. -/
def GA (a : FVec F S16x128 .f32) (j0 : ℕ) : ℕ → FVec F S16x128 .f32
  | 0 => a
  | k + 1 => k0_pay70 (GA a j0 k) (wblk WV (j0 + k))
/-- `acc` is the sums `a` carried on over the `k` blocks from block `j0` on. -/
structure IsGA (j0 : ℕ) (WV : S4352x1152.Idx → Elt F .bf16) (a : FVec F S16x128 .f32) (k : ℕ) (acc : FVec F S16x128 .f32) : Prop where
  eq : acc = GA WV a j0 k
@[simp] theorem isGA_zero (a : FVec F S16x128 .f32) (j0 : ℕ) : IsGA j0 WV a 0 a := ⟨rfl⟩
/-- Carried on over the weights' own blocks, they are the sums of one block more after another. -/
theorem GA_eq (V : S4352x1152.Idx → Elt F .bf16) (j0 n : ℕ) (h : ∀ k < n, wblk V (j0 + k) = wblk WV (j0 + k)) :
    GA V (G WV j0) j0 n = G WV (j0 + n) := by
  induction n with
  | zero => rfl
  | succ n ih => exact congrArg₂ k0_pay70 (ih fun k hk => h k (Nat.lt_succ_of_lt hk)) (h n (Nat.lt_succ_self n))

theorem readBlk (c : Dev nD) (j : ℕ) (hj : j < 272) (off : Fin 2 → Nat) (e : off = ![16 * j, 0]) (h) :
    M8.view.readAt (Elt F) (Rect.unit (s := S4352x1152) off S16x1152.size h).toLoadRect (WV : Bf (F := F) c M8) = wblk WV j := by
  subst e
  funext i
  rw [View.readAt_apply]
  unfold wblk
  refine congrArg WV (funext fun a => ?_)
  match a with
  | ⟨0, _⟩ =>
    refine Fin.ext ?_
    show 16 * j + 1 * (i 0).val = (16 * j + (i 0).val) % 4352
    have : (i 0).val < 16 := (i 0).isLt
    omega
  | ⟨1, _⟩ =>
    refine Fin.ext ?_
    show 0 + 1 * (i 1).val = (i 1).val
    omega
end Sums

section Loops
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole)

theorem trip2_run (WV : Bf (F := F) c M8) (a : FVec F S16x128 .f32) (v73 : FVec F S1x128 .f32) (k : Fin k0_t2_loop.trips) :
    Pt c (slab 0 inb_S4352x1152_S544x1152_0_0) WV ⊢ wp frame (wpE (defs₀ (F := F)) Variants.none (c : Thread nD τ) none) Set.univ
      (k0_t2_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 k (GA WV a 0 k.val))
      (fun y => iprop(⌜y = GA WV a 0 (k.val + 1)⌝ ∗ Pt c (slab 0 inb_S4352x1152_S544x1152_0_0) WV)) := by
  have hk : k.val < 34 := Nat.lt_of_lt_of_le k.isLt k0_t2_abs.2.1
  unfold k0_t2_body
  iintro H
  sl_exec
  sl_step
  isplitr
  · ipureintro
    show k0_pay70 _ _ = k0_pay70 (GA WV a 0 k.val) (wblk WV (0 + k.val))
    rw [← readBlk WV c (0 + k.val) (by omega) (k0_off3 k) (by rw [k0_off3_eq]; congr 1; omega) (k0_off3_inb k)]
  · iexact H

set_option warn.classDefReducibility false in
/-- Chunk 0's loop: the partial sums after its blocks so far. -/
@[sl_loop] def loopInv2 (WV : Bf (F := F) c M8) (a : FVec F S16x128 .f32) (v73 : FVec F S1x128 .f32) :
    LoopInvTy_k0_t2 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 a where
  inv k acc := iprop(Pt c (slab 0 inb_S4352x1152_S544x1152_0_0) WV ∗ ⌜IsGA 0 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip2_run c arg2 harg2 arg5 harg5 arg7 harg7 WV a v73 k); iexact H
    · iintro %_ ⟨%h', H⟩
      isplitl [H]; · iexact H
      ipureintro; exact ⟨h'⟩

theorem trip3_run (WV : Bf (F := F) c M8) (a : FVec F S16x128 .f32) (v73 : FVec F S1x128 .f32) (k : Fin k0_t3_loop.trips) :
    Pt c (slab 544 inb_S4352x1152_S544x1152_544_0) WV ⊢ wp frame (wpE (defs₀ (F := F)) Variants.none (c : Thread nD τ) none) Set.univ
      (k0_t3_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 k (GA WV a 34 k.val))
      (fun y => iprop(⌜y = GA WV a 34 (k.val + 1)⌝ ∗ Pt c (slab 544 inb_S4352x1152_S544x1152_544_0) WV)) := by
  have hk : k.val < 34 := Nat.lt_of_lt_of_le k.isLt k0_t3_abs.2.1
  unfold k0_t3_body
  iintro H
  sl_exec
  sl_step
  isplitr
  · ipureintro
    show k0_pay71 _ _ = k0_pay70 (GA WV a 34 k.val) (wblk WV (34 + k.val))
    rw [← readBlk WV c (34 + k.val) (by omega) (k0_off4 k) (by rw [k0_off4_eq]; congr 1; omega) (k0_off4_inb k)]
    rfl
  · iexact H

set_option warn.classDefReducibility false in
/-- Chunk 1's loop: the partial sums after its blocks so far. -/
@[sl_loop] def loopInv3 (WV : Bf (F := F) c M8) (a : FVec F S16x128 .f32) (v73 : FVec F S1x128 .f32) :
    LoopInvTy_k0_t3 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 a where
  inv k acc := iprop(Pt c (slab 544 inb_S4352x1152_S544x1152_544_0) WV ∗ ⌜IsGA 34 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip3_run c arg2 harg2 arg5 harg5 arg7 harg7 WV a v73 k); iexact H
    · iintro %_ ⟨%h', H⟩
      isplitl [H]; · iexact H
      ipureintro; exact ⟨h'⟩

theorem trip4_run (WV : Bf (F := F) c M8) (a : FVec F S16x128 .f32) (v73 : FVec F S1x128 .f32) (k : Fin k0_t4_loop.trips) :
    Pt c (slab 1088 inb_S4352x1152_S544x1152_1088_0) WV ⊢ wp frame (wpE (defs₀ (F := F)) Variants.none (c : Thread nD τ) none) Set.univ
      (k0_t4_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 k (GA WV a 68 k.val))
      (fun y => iprop(⌜y = GA WV a 68 (k.val + 1)⌝ ∗ Pt c (slab 1088 inb_S4352x1152_S544x1152_1088_0) WV)) := by
  have hk : k.val < 34 := Nat.lt_of_lt_of_le k.isLt k0_t4_abs.2.1
  unfold k0_t4_body
  iintro H
  sl_exec
  sl_step
  isplitr
  · ipureintro
    show k0_pay72 _ _ = k0_pay70 (GA WV a 68 k.val) (wblk WV (68 + k.val))
    rw [← readBlk WV c (68 + k.val) (by omega) (k0_off5 k) (by rw [k0_off5_eq]; congr 1; omega) (k0_off5_inb k)]
    rfl
  · iexact H

set_option warn.classDefReducibility false in
/-- Chunk 2's loop: the partial sums after its blocks so far. -/
@[sl_loop] def loopInv4 (WV : Bf (F := F) c M8) (a : FVec F S16x128 .f32) (v73 : FVec F S1x128 .f32) :
    LoopInvTy_k0_t4 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v73 a where
  inv k acc := iprop(Pt c (slab 1088 inb_S4352x1152_S544x1152_1088_0) WV ∗ ⌜IsGA 68 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip4_run c arg2 harg2 arg5 harg5 arg7 harg7 WV a v73 k); iexact H
    · iintro %_ ⟨%h', H⟩
      isplitl [H]; · iexact H
      ipureintro; exact ⟨h'⟩

theorem trip5_run (WV : Bf (F := F) c M8) (a : FVec F S16x128 .f32) (v97 : FVec F S16x128 .f32) (k : Fin k0_t5_loop.trips) :
    Pt c (slab 1632 inb_S4352x1152_S544x1152_1632_0) WV ⊢ wp frame (wpE (defs₀ (F := F)) Variants.none (c : Thread nD τ) none) Set.univ
      (k0_t5_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 k (GA WV a 102 k.val))
      (fun y => iprop(⌜y = GA WV a 102 (k.val + 1)⌝ ∗ Pt c (slab 1632 inb_S4352x1152_S544x1152_1632_0) WV)) := by
  have hk : k.val < 34 := Nat.lt_of_lt_of_le k.isLt k0_t5_abs.2.1
  unfold k0_t5_body
  iintro H
  sl_exec
  sl_step
  isplitr
  · ipureintro
    show k0_pay73 _ _ = k0_pay70 (GA WV a 102 k.val) (wblk WV (102 + k.val))
    rw [← readBlk WV c (102 + k.val) (by omega) (k0_off6 k) (by rw [k0_off6_eq]; congr 1; omega) (k0_off6_inb k)]
    rfl
  · iexact H

set_option warn.classDefReducibility false in
/-- Chunk 3's loop: the partial sums after its blocks so far. -/
@[sl_loop] def loopInv5 (WV : Bf (F := F) c M8) (a : FVec F S16x128 .f32) (v97 : FVec F S16x128 .f32) :
    LoopInvTy_k0_t5 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 a where
  inv k acc := iprop(Pt c (slab 1632 inb_S4352x1152_S544x1152_1632_0) WV ∗ ⌜IsGA 102 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip5_run c arg2 harg2 arg5 harg5 arg7 harg7 WV a v97 k); iexact H
    · iintro %_ ⟨%h', H⟩
      isplitl [H]; · iexact H
      ipureintro; exact ⟨h'⟩

theorem trip6_run (WV : Bf (F := F) c M8) (a : FVec F S16x128 .f32) (v97 : FVec F S16x128 .f32) (k : Fin k0_t6_loop.trips) :
    Pt c (slab 2176 inb_S4352x1152_S544x1152_2176_0) WV ⊢ wp frame (wpE (defs₀ (F := F)) Variants.none (c : Thread nD τ) none) Set.univ
      (k0_t6_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 k (GA WV a 136 k.val))
      (fun y => iprop(⌜y = GA WV a 136 (k.val + 1)⌝ ∗ Pt c (slab 2176 inb_S4352x1152_S544x1152_2176_0) WV)) := by
  have hk : k.val < 34 := Nat.lt_of_lt_of_le k.isLt k0_t6_abs.2.1
  unfold k0_t6_body
  iintro H
  sl_exec
  sl_step
  isplitr
  · ipureintro
    show k0_pay74 _ _ = k0_pay70 (GA WV a 136 k.val) (wblk WV (136 + k.val))
    rw [← readBlk WV c (136 + k.val) (by omega) (k0_off7 k) (by rw [k0_off7_eq]; congr 1; omega) (k0_off7_inb k)]
    rfl
  · iexact H

set_option warn.classDefReducibility false in
/-- Chunk 4's loop: the partial sums after its blocks so far. -/
@[sl_loop] def loopInv6 (WV : Bf (F := F) c M8) (a : FVec F S16x128 .f32) (v97 : FVec F S16x128 .f32) :
    LoopInvTy_k0_t6 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 a where
  inv k acc := iprop(Pt c (slab 2176 inb_S4352x1152_S544x1152_2176_0) WV ∗ ⌜IsGA 136 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip6_run c arg2 harg2 arg5 harg5 arg7 harg7 WV a v97 k); iexact H
    · iintro %_ ⟨%h', H⟩
      isplitl [H]; · iexact H
      ipureintro; exact ⟨h'⟩

theorem trip7_run (WV : Bf (F := F) c M8) (a : FVec F S16x128 .f32) (v97 : FVec F S16x128 .f32) (k : Fin k0_t7_loop.trips) :
    Pt c (slab 2720 inb_S4352x1152_S544x1152_2720_0) WV ⊢ wp frame (wpE (defs₀ (F := F)) Variants.none (c : Thread nD τ) none) Set.univ
      (k0_t7_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 k (GA WV a 170 k.val))
      (fun y => iprop(⌜y = GA WV a 170 (k.val + 1)⌝ ∗ Pt c (slab 2720 inb_S4352x1152_S544x1152_2720_0) WV)) := by
  have hk : k.val < 34 := Nat.lt_of_lt_of_le k.isLt k0_t7_abs.2.1
  unfold k0_t7_body
  iintro H
  sl_exec
  sl_step
  isplitr
  · ipureintro
    show k0_pay75 _ _ = k0_pay70 (GA WV a 170 k.val) (wblk WV (170 + k.val))
    rw [← readBlk WV c (170 + k.val) (by omega) (k0_off8 k) (by rw [k0_off8_eq]; congr 1; omega) (k0_off8_inb k)]
    rfl
  · iexact H

set_option warn.classDefReducibility false in
/-- Chunk 5's loop: the partial sums after its blocks so far. -/
@[sl_loop] def loopInv7 (WV : Bf (F := F) c M8) (a : FVec F S16x128 .f32) (v97 : FVec F S16x128 .f32) :
    LoopInvTy_k0_t7 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v97 a where
  inv k acc := iprop(Pt c (slab 2720 inb_S4352x1152_S544x1152_2720_0) WV ∗ ⌜IsGA 170 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip7_run c arg2 harg2 arg5 harg5 arg7 harg7 WV a v97 k); iexact H
    · iintro %_ ⟨%h', H⟩
      isplitl [H]; · iexact H
      ipureintro; exact ⟨h'⟩

theorem trip8_run (WV : Bf (F := F) c M8) (a : FVec F S16x128 .f32) (v115 : FVec F S16x128 .f32) (c0_i32_116 : BitVec 32) (k : Fin k0_t8_loop.trips) :
    Pt c (slab 3264 inb_S4352x1152_S544x1152_3264_0) WV ⊢ wp frame (wpE (defs₀ (F := F)) Variants.none (c : Thread nD τ) none) Set.univ
      (k0_t8_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 k (GA WV a 204 k.val))
      (fun y => iprop(⌜y = GA WV a 204 (k.val + 1)⌝ ∗ Pt c (slab 3264 inb_S4352x1152_S544x1152_3264_0) WV)) := by
  have hk : k.val < 34 := Nat.lt_of_lt_of_le k.isLt k0_t8_abs.2.1
  unfold k0_t8_body
  iintro H
  sl_exec
  sl_step
  isplitr
  · ipureintro
    show k0_pay76 _ _ = k0_pay70 (GA WV a 204 k.val) (wblk WV (204 + k.val))
    rw [← readBlk WV c (204 + k.val) (by omega) (k0_off9 k) (by rw [k0_off9_eq]; congr 1; omega) (k0_off9_inb k)]
    rfl
  · iexact H

set_option warn.classDefReducibility false in
/-- Chunk 6's loop: the partial sums after its blocks so far. -/
@[sl_loop] def loopInv8 (WV : Bf (F := F) c M8) (a : FVec F S16x128 .f32) (v115 : FVec F S16x128 .f32) (c0_i32_116 : BitVec 32) :
    LoopInvTy_k0_t8 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 a where
  inv k acc := iprop(Pt c (slab 3264 inb_S4352x1152_S544x1152_3264_0) WV ∗ ⌜IsGA 204 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip8_run c arg2 harg2 arg5 harg5 arg7 harg7 WV a v115 c0_i32_116 k); iexact H
    · iintro %_ ⟨%h', H⟩
      isplitl [H]; · iexact H
      ipureintro; exact ⟨h'⟩

theorem trip9_run (WV : Bf (F := F) c M8) (a : FVec F S16x128 .f32) (v115 : FVec F S16x128 .f32) (c0_i32_116 : BitVec 32) (k : Fin k0_t9_loop.trips) :
    Pt c slab7 WV ⊢ wp frame (wpE (defs₀ (F := F)) Variants.none (c : Thread nD τ) none) Set.univ
      (k0_t9_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 k (GA WV a 238 k.val))
      (fun y => iprop(⌜y = GA WV a 238 (k.val + 1)⌝ ∗ Pt c slab7 WV)) := by
  have hk : k.val < 31 := Nat.lt_of_lt_of_le k.isLt k0_t9_abs.2.1
  unfold k0_t9_body
  iintro H
  sl_exec
  sl_step
  isplitr
  · ipureintro
    show k0_pay77 _ _ = k0_pay70 (GA WV a 238 k.val) (wblk WV (238 + k.val))
    rw [← readBlk WV c (238 + k.val) (by omega) (k0_off10 k) (by rw [k0_off10_eq]; congr 1; omega) (k0_off10_inb k)]
    rfl
  · iexact H

set_option warn.classDefReducibility false in
/-- Chunk 7's loop: the partial sums after its blocks so far. -/
@[sl_loop] def loopInv9 (WV : Bf (F := F) c M8) (a : FVec F S16x128 .f32) (v115 : FVec F S16x128 .f32) (c0_i32_116 : BitVec 32) :
    LoopInvTy_k0_t9 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 v115 c0_i32_116 a where
  inv k acc := iprop(Pt c slab7 WV ∗ ⌜IsGA 238 WV a k acc⌝)
  step k acc := by
    iintro ⟨H, %h⟩
    obtain ⟨h⟩ := h
    subst h
    iapply (wp_wand_r Idealize.ShloMosaic.frame (wpE (defs₀ (F := F)) Variants.none (c : Thread nD τ) none) Set.univ)
    isplitl [H]
    · iapply (trip9_run c arg2 harg2 arg5 harg5 arg7 harg7 WV a v115 c0_i32_116 k); iexact H
    · iintro %_ ⟨%h', H⟩
      isplitl [H]; · iexact H
      ipureintro; exact ⟨h'⟩
end Loops

section Rows
variable (XX : S1280x1152.Idx → Elt F .bf16) (XG : Vec F S1x1152 .f32)
/-- The 64 rows of the activations from row `64 j` on. -/
def xblk (j : ℕ) : S64x1152.Idx → Elt F .bf16 := fun i =>
  XX (fun | ⟨0, _⟩ => (⟨(64 * j + (i 0).val) % 1280, Nat.mod_lt _ (by decide)⟩ : Fin 1280) | ⟨1, _⟩ => (i 1 : Fin 1152))
/-- Row `r` among the 64 of its block. -/
abbrev in64 (r : Fin 1280) : Fin 64 := ⟨r.val % 64, Nat.mod_lt _ (by decide)⟩
abbrev at64 (r : Fin 1280) (l : Fin 1152) : S64x1152.Idx := fun | ⟨0, _⟩ => in64 r | ⟨1, _⟩ => l
abbrev at64s (r : Fin 1280) (l : Fin 128) : S64x128.Idx := fun | ⟨0, _⟩ => in64 r | ⟨1, _⟩ => l
/-- The codes, the codes in bf16, and the scales over 128 lanes, row `r` computed with the 64 rows of its block. -/
def C10 : S1280x1152.Idx → Elt F .i8 := fun i => k0_pay4 (k0_pay57 XG) (xblk XX ((i 0).val / 64)) (at64 (i 0) (i 1))
def C11 : S1280x1152.Idx → Elt F .bf16 := fun i => k0_pay5 (k0_pay57 XG) (xblk XX ((i 0).val / 64)) (at64 (i 0) (i 1))
def C12 : S1280x128.Idx → Elt F .f32 := fun i => k0_pay58 (k0_pay2 (k0_pay57 XG) (xblk XX ((i 0).val / 64))) (at64s (i 0) (i 1))

theorem readXBlk (c : Dev nD) (j : ℕ) (hj : j < 20) (off : Fin 2 → Nat) (e : off = ![64 * j, 0]) (h) :
    M9.view.readAt (Elt F) (Rect.unit (s := S1280x1152) off S64x1152.size h).toLoadRect (XX : Bf (F := F) c M9) = xblk XX j := by
  subst e
  funext i
  rw [View.readAt_apply]
  unfold xblk
  refine congrArg XX (funext fun a => ?_)
  match a with
  | ⟨0, _⟩ =>
    refine Fin.ext ?_
    show 64 * j + 1 * (i 0).val = (64 * j + (i 0).val) % 1280
    have : (i 0).val < 64 := (i 0).isLt
    omega
  | ⟨1, _⟩ =>
    refine Fin.ext ?_
    show 0 + 1 * (i 1).val = (i 1).val
    omega
end Rows

section Loop1
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole) (XX : S1280x1152.Idx → Elt F .bf16) (XG : Vec F S1x1152 .f32)

/-- Before trip `k` of the first loop: the rows below `64 k` of the three buffers are computed. -/
def inv1 (k : ℕ) : sProp 𝕄 :=
  iprop(Pt c M9 XX
    ∗ (∃ f : Bf (F := F) c M10, Pt c M10 f ∗ ⌜∀ i : S1280x1152.Idx, (i 0).val < 64 * k → M10.view.read (Elt F) f i = C10 XX XG i⌝)
    ∗ (∃ f : Bf (F := F) c M11, Pt c M11 f ∗ ⌜∀ i : S1280x1152.Idx, (i 0).val < 64 * k → M11.view.read (Elt F) f i = C11 XX XG i⌝)
    ∗ (∃ f : Bf (F := F) c M12, Pt c M12 f ∗ ⌜∀ i : S1280x128.Idx, (i 0).val < 64 * k → M12.view.read (Elt F) f i = C12 XX XG i⌝))

theorem trip1_run (k : Fin k0_t1_loop.trips) :
    inv1 c XX XG k.val ⊢ wp frame (wpE (defs₀ (F := F)) Variants.none (c : Thread nD τ) none) Set.univ
      (k0_t1_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 XG k ())
      (fun _ => inv1 c XX XG (k.val + 1)) := by
  have hk : k.val < 20 := Nat.lt_of_lt_of_le k.isLt k0_t1_abs.2.1
  unfold inv1 k0_t1_body
  iintro ⟨H9, ⟨%f10, H10, %h10⟩, ⟨%f11, H11, %h11⟩, ⟨%f12, H12, %h12⟩⟩
  sl_exec
  sl_step
  isplitl [H9]; · iexact H9
  isplitl [H10]
  · iexists _; isplitl [H10]; · iexact H10
    ipureintro
    intro i hi
    by_cases hlt : (i 0).val < 64 * k.val
    · refine Eq.trans (View.read_writes_cons_unit_of_not_mem (v := M10.view) (f := f10) (off' := ![64 * k.val, 0]) _ _ [] i (by rw [k0_off1_eq]) 0 (Or.inl hlt)) (h10 i hlt)
    · have h64 : (i 0).val / 64 = k.val := by omega
      have e := readXBlk XX c k.val hk (k0_off1 k) (by rw [k0_off1_eq]) (k0_off1_inb k)
      refine Eq.trans (View.read_writes_cons_unit_of_mem (v := M10.view) (f := f10) (off' := ![64 * k.val, 0]) _ _ [] i (at64 (i 0) (i 1)) (by rw [k0_off1_eq]) ?_) ?_
      · intro a
        match a with
        | ⟨0, _⟩ => show (i 0).val = 64 * k.val + (i 0).val % 64; omega
        | ⟨1, _⟩ => show (i 1).val = 0 + (i 1).val; omega
      · unfold C10; rw [h64, ← e]
  isplitl [H11]
  · iexists _; isplitl [H11]; · iexact H11
    ipureintro
    intro i hi
    by_cases hlt : (i 0).val < 64 * k.val
    · refine Eq.trans (View.read_writes_cons_unit_of_not_mem (v := M11.view) (f := f11) (off' := ![64 * k.val, 0]) _ _ [] i (by rw [k0_off1_eq]) 0 (Or.inl hlt)) (h11 i hlt)
    · have h64 : (i 0).val / 64 = k.val := by omega
      have e := readXBlk XX c k.val hk (k0_off1 k) (by rw [k0_off1_eq]) (k0_off1_inb k)
      refine Eq.trans (View.read_writes_cons_unit_of_mem (v := M11.view) (f := f11) (off' := ![64 * k.val, 0]) _ _ [] i (at64 (i 0) (i 1)) (by rw [k0_off1_eq]) ?_) ?_
      · intro a
        match a with
        | ⟨0, _⟩ => show (i 0).val = 64 * k.val + (i 0).val % 64; omega
        | ⟨1, _⟩ => show (i 1).val = 0 + (i 1).val; omega
      · unfold C11; rw [h64, ← e]; rfl
  · iexists _; isplitl [H12]; · iexact H12
    ipureintro
    intro i hi
    by_cases hlt : (i 0).val < 64 * k.val
    · refine Eq.trans (View.read_writes_cons_unit_of_not_mem (v := M12.view) (f := f12) (off' := ![64 * k.val, 0]) _ _ [] i (by rw [k0_off2_eq]) 0 (Or.inl hlt)) (h12 i hlt)
    · have h64 : (i 0).val / 64 = k.val := by omega
      have e := readXBlk XX c k.val hk (k0_off1 k) (by rw [k0_off1_eq]) (k0_off1_inb k)
      refine Eq.trans (View.read_writes_cons_unit_of_mem (v := M12.view) (f := f12) (off' := ![64 * k.val, 0]) _ _ [] i (at64s (i 0) (i 1)) (by rw [k0_off2_eq]) ?_) ?_
      · intro a
        match a with
        | ⟨0, _⟩ => show (i 0).val = 64 * k.val + (i 0).val % 64; omega
        | ⟨1, _⟩ => show (i 1).val = 0 + (i 1).val; omega
      · unfold C12; rw [h64, ← e]; rfl

set_option warn.classDefReducibility false in
@[sl_loop] def loopInv1 :
    LoopInvTy_k0_t1 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 XG where
  inv k _ := inv1 c XX XG k
  step k _ := trip1_run c arg2 harg2 arg5 harg5 arg7 harg7 XX XG k
end Loop1

end Cert.KernelIdeal.Hand
end
-- ==== Proof.KernI2.lean ====
/-
  The last of the kernel's loops: one trip is one tile of 256 weight rows.

  Each trip waits for the copy that its half of the staging buffer is under, makes the tile ternary, packs it, multiplies
  it with the activations' codes, and starts the copy of the product to its 256 columns of the result. Before trip `k` tiles `k` and
  `k + 1` are under way, the tiles before have landed.
-/
module

public import proofs.«01_k».proof.Proof.KernI1
public import Idealize.ShloMosaic.Lib.Pipeline.Value
public import Idealize.ShloMosaic.Lib.ViewIndex

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## What a tile computes -/

section Tile
/-! The packing of one tile `w` of weights at scale `γ`, statement group by statement group. -/

def q1396 (γ : F .f32) (w : Vec F S256x1152 .bf16) : IVec S256x1152 1 := k0_pay9 γ w
def q1402 (γ : F .f32) (w : Vec F S256x1152 .bf16) : IVec S256x1152 16 := k0_pay10 γ w
def q1413 (γ : F .f32) (w : Vec F S256x1152 .bf16) : IVec S128x128 32 := k0_pay12 (q1396 γ w) (q1402 γ w)
def q1414 (γ : F .f32) (w : Vec F S256x1152 .bf16) : IVec S128x128 32 := k0_pay13 (q1396 γ w) (q1402 γ w)
def q1415 : IVec S128x128 32 := iota .tc S128x128 32 [1] iota_S128x128_d1_w32
def q1447 (γ : F .f32) (w : Vec F S256x1152 .bf16) : IVec S128x128 32 := k0_pay14 (q1396 γ w) (q1402 γ w)
def q1452 (γ : F .f32) (w : Vec F S256x1152 .bf16) : IVec S128x128 32 := k0_pay15 (q1413 γ w) (q1447 γ w) (2155905152#32)
def q1454 (γ : F .f32) (w : Vec F S256x1152 .bf16) : IVec S128x128 32 := k0_pay16 (q1414 γ w)
def q1480 (γ : F .f32) (w : Vec F S256x1152 .bf16) : IVec S128x128 32 := k0_pay17 q1415
def q1482 (γ : F .f32) (w : Vec F S256x1152 .bf16) : BitVec 32 := (Scalar.select (Scalar.cmpi .eq 32#32 0#32) 1#32 32#32)
def q1484 (γ : F .f32) (w : Vec F S256x1152 .bf16) : IVec S128x128 32 := k0_pay18 q1415
def q1486 (γ : F .f32) (w : Vec F S256x1152 .bf16) : IVec S128x128 1 := k0_pay19 q1415
def q1488 (γ : F .f32) (w : Vec F S256x1152 .bf16) : IVec S128x128 1 := k0_pay20 q1415
def q1491 (γ : F .f32) (w : Vec F S256x1152 .bf16) : IVec S128x128 1 := k0_pay21
def q1513 (γ : F .f32) (w : Vec F S256x1152 .bf16) : IVec S128x128 32 := k0_pay22 (q1452 γ w) (q1480 γ w) (q1482 γ w) (q1484 γ w) (q1486 γ w) (q1488 γ w) (q1491 γ w)
def q1533 (γ : F .f32) (w : Vec F S256x1152 .bf16) : IVec S128x128 32 := k0_pay23 q1415
def q1535 (γ : F .f32) (w : Vec F S256x1152 .bf16) : IVec S128x128 1 := k0_pay24 q1415
def q1581 (γ : F .f32) (w : Vec F S256x1152 .bf16) : IVec S128x128 32 := k0_pay25 q1415 (q1452 γ w) (q1480 γ w) (q1513 γ w) (q1533 γ w) (q1535 γ w) (128#32)
def q1617 (γ : F .f32) (w : Vec F S256x1152 .bf16) : IVec S128x128 32 := k0_pay27 q1415 (q1452 γ w) (q1480 γ w) (q1581 γ w)
def q1623 (γ : F .f32) (w : Vec F S256x1152 .bf16) : IVec S128x128 32 := k0_pay28 q1415 (q1452 γ w) (q1480 γ w) (q1581 γ w)
def q1624 (γ : F .f32) (w : Vec F S256x1152 .bf16) : IVec S128x128 32 := k0_pay29
def q1628 (γ : F .f32) (w : Vec F S256x1152 .bf16) : IVec S128x128 32 := k0_pay30 (q1617 γ w) (q1623 γ w) (q1624 γ w)
def q1654 (γ : F .f32) (w : Vec F S256x1152 .bf16) : IVec S128x128 32 := k0_pay31 q1415
def q1658 (γ : F .f32) (w : Vec F S256x1152 .bf16) : IVec S128x128 32 := k0_pay32 q1415
def q1667 (γ : F .f32) (w : Vec F S256x1152 .bf16) : IVec S128x128 1 := k0_pay33 q1415
def q1669 (γ : F .f32) (w : Vec F S256x1152 .bf16) : IVec S128x128 32 := k0_pay34 q1415
def q1687 (γ : F .f32) (w : Vec F S256x1152 .bf16) : IVec S128x128 32 := k0_pay35 (q1452 γ w) (q1654 γ w) (q1658 γ w) (q1667 γ w) (q1669 γ w)
def q1713 (γ : F .f32) (w : Vec F S256x1152 .bf16) : IVec S128x128x1 32 := k0_pay36 q1415
def q1755 (γ : F .f32) (w : Vec F S256x1152 .bf16) : IVec S128x128 32 := k0_pay37 q1415 (q1452 γ w) (q1654 γ w) (q1687 γ w) (q1713 γ w)
def q1756 (γ : F .f32) (w : Vec F S256x1152 .bf16) : BitVec 1 := (Scalar.cmpi .eq 32#32 0#32)
def q1799 (γ : F .f32) (w : Vec F S256x1152 .bf16) : IVec S128x128 32 := k0_pay40 q1415 (q1452 γ w) (q1654 γ w) (q1755 γ w) (32#32) (q1756 γ w) (1#32)
def q1801 (γ : F .f32) (w : Vec F S256x1152 .bf16) : IVec S128x128 32 := k0_pay41 q1415 (q1452 γ w) (q1654 γ w) (q1755 γ w) (32#32) (q1756 γ w) (1#32)
def q1802 (γ : F .f32) (w : Vec F S256x1152 .bf16) : IVec S128x128 32 := k0_pay42 (q1799 γ w) (q1801 γ w)
def q1803 (γ : F .f32) (w : Vec F S256x1152 .bf16) : IVec S128x128 32 := k0_pay43
def q1836 (γ : F .f32) (w : Vec F S256x1152 .bf16) : IVec S128x128 32 := k0_pay44 q1415 (q1454 γ w)
def q1838 (γ : F .f32) (w : Vec F S256x1152 .bf16) : BitVec 32 := (Scalar.select (Scalar.cmpi .eq 32#32 0#32) 1#32 32#32)
def q1840 (γ : F .f32) (w : Vec F S256x1152 .bf16) : IVec S128x128 32 := k0_pay45 q1415
def q1842 (γ : F .f32) (w : Vec F S256x1152 .bf16) : IVec S128x128 1 := k0_pay46 q1415
def q1843 (γ : F .f32) (w : Vec F S256x1152 .bf16) : IVec S128x128 32 := k0_pay47
def q1870 (γ : F .f32) (w : Vec F S256x1152 .bf16) : IVec S128x128 32 := k0_pay48 (q1454 γ w) (q1803 γ w) (q1836 γ w) (q1838 γ w) (q1840 γ w) (q1842 γ w) (q1843 γ w)
def q1888 (γ : F .f32) (w : Vec F S256x1152 .bf16) : IVec S128x128 32 := k0_pay49 q1415
def q1904 (γ : F .f32) (w : Vec F S256x1152 .bf16) : IVec S128x128 32 := k0_pay50 (q1454 γ w) (q1803 γ w) (q1870 γ w) (q1888 γ w) (2#32)
def q1933 (γ : F .f32) (w : Vec F S256x1152 .bf16) : IVec S128x128 32 := k0_pay51 q1415 (q1454 γ w) (q1803 γ w)

/-- Columns 0 to 127, 128 to 255 and 256 to 287 of the packed tile. -/
def P0 (γ : F .f32) (w : Vec F S256x1152 .bf16) : IVec S256x128 8 := k0_pay52 (q1628 γ w)
def P1 (γ : F .f32) (w : Vec F S256x1152 .bf16) : IVec S256x128 8 := k0_pay53 (q1802 γ w)
def P2 (γ : F .f32) (w : Vec F S256x1152 .bf16) : IVec S256x32 8 := k0_pay54 (q1904 γ w) (q1933 γ w) (2155905152#32)
end Tile

section Whole
variable (γ : F .f32) (WV : S4352x1152.Idx → Elt F .bf16) (A : S1280x1152.Idx → Elt F .bf16) (B : S1280x128.Idx → Elt F .f32)

/-- Tile `j` of the padded weights: rows `256 j` to `256 (j + 1)`. -/
def wtile (j : ℕ) : Vec F S256x1152 .bf16 := fun i =>
  WV (fun | ⟨0, _⟩ => (⟨(256 * j + (i 0).val) % 4352, Nat.mod_lt _ (by decide)⟩ : Fin 4352) | ⟨1, _⟩ => (i 1 : Fin 1152))
abbrev in256 (n : ℕ) : Fin 256 := ⟨n % 256, Nat.mod_lt _ (by decide)⟩
/-- The packed weights. -/
def PV : S4352x288.Idx → Elt F .i8 := fun i =>
  if (i 1).val < 128 then P0 γ (wtile WV ((i 0).val / 256)) (fun | ⟨0, _⟩ => in256 (i 0).val | ⟨1, _⟩ => (⟨(i 1).val % 128, Nat.mod_lt _ (by decide)⟩ : Fin 128))
  else if (i 1).val < 256 then P1 γ (wtile WV ((i 0).val / 256)) (fun | ⟨0, _⟩ => in256 (i 0).val | ⟨1, _⟩ => (⟨(i 1).val % 128, Nat.mod_lt _ (by decide)⟩ : Fin 128))
  else P2 γ (wtile WV ((i 0).val / 256)) (fun | ⟨0, _⟩ => in256 (i 0).val | ⟨1, _⟩ => (⟨(i 1).val % 32, Nat.mod_lt _ (by decide)⟩ : Fin 32))
/-- The first lane of the scales. -/
def col0 : Vec F S1280x1 .f32 := fun i => B (fun | ⟨0, _⟩ => (i 0 : Fin 1280) | ⟨1, _⟩ => (⟨0, by decide⟩ : Fin 128))
/-- Tile `j` of the product, scaled. -/
def YT (j : ℕ) : S1280x256.Idx → Elt F .bf16 := fun i =>
  k0_pay171 γ (k0_pay55 A (k0_pay8 γ (wtile WV j))) (col0 B) (fun | ⟨0, _⟩ => (⟨0, by decide⟩ : Fin 1) | ⟨1, _⟩ => (i 0 : Fin 1280) | ⟨2, _⟩ => (i 1 : Fin 256))
/-- The padded product. -/
def YV : S1280x4352.Idx → Elt F .bf16 := fun i => YT γ WV A B ((i 1).val / 256) (fun | ⟨0, _⟩ => (i 0 : Fin 1280) | ⟨1, _⟩ => in256 (i 1).val)
end Whole

/-! ## The two slots of the staging buffer, their semaphores, the result's 17 windows of columns -/

abbrev ywOff (b : Fin 17) : Fin 2 → Nat := ![0, 256 * b.val]
theorem ywOff_inb (b : Fin 17) : ∀ a, ywOff b a + S1280x256.size a ≤ S1280x4352.size a := by
  have := b.isLt; intro a; fin_cases a
  · show 0 + 1280 ≤ 1280; omega
  · show 256 * b.val + 256 ≤ 4352; omega
abbrev slotOff (s : Fin 2) : Fin 3 → Nat := ![s.val, 0, 0]
theorem slotOff_inb (s : Fin 2) : ∀ a, slotOff s a + S1x1280x256.size a ≤ S2x1280x256.size a := by
  have := s.isLt; intro a; fin_cases a
  · show s.val + 1 ≤ 2; omega
  · show 0 + 1280 ≤ 1280; omega
  · show 0 + 256 ≤ 256; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Window `b` of the result. -/
def ywin (b : Fin 17) : Memref sig .tc .hbm S1280x256 .bf16 :=
  M3.slice (Rect.unit (s := S1280x4352) (ywOff b) S1280x256.size (ywOff_inb b)) (fun _ => rfl)
/-- Slot `s` of the staging buffer. -/
def slotM (s : Fin 2) : Memref sig .tc .vmem S1280x256 .bf16 :=
  (M15.slice (Rect.unit (s := S2x1280x256) (slotOff s) S1x1280x256.size (slotOff_inb s)) (fun _ => rfl)).squeeze S1280x256 squeezes_S1x1280x256_S1280x256
/-- Slot `s`'s semaphore. -/
def csm (s : Fin 2) : DmaSems sig S_ := (cc0_scratch12.slice (Rect.unit (s := S2) (semOff s) S1.size (semOff_inb s))).squeeze S_ squeezes_S1_S_

instance (s : Fin 2) : ClosedOff (slotOff s) := ⟨slotOff s, rfl⟩
instance (b : Fin 17) : ClosedOff (ywOff b) := ⟨ywOff b, rfl⟩

section Canon
private theorem csm_congr {off : Fin 1 → Nat} {s : Fin 2} (e : off = semOff s) (hh) :
    (cc0_scratch12.slice (Rect.unit (s := S2) off S1.size hh)).squeeze S_ squeezes_S1_S_ = csm s :=
  congrArg (fun A : DmaSems sig S1 => A.squeeze S_ squeezes_S1_S_) (SemArray.slice_unit_congr _ e _ _)
private theorem slot_congr {off : Fin 3 → Nat} {s : Fin 2} (e : off = slotOff s) (hh hs) :
    (M15.slice (Rect.unit (s := S2x1280x256) off S1x1280x256.size hh) hs).squeeze S1280x256 squeezes_S1x1280x256_S1280x256 = slotM s :=
  congrArg (fun M : Memref sig .tc .vmem S1x1280x256 .bf16 => M.squeeze S1280x256 squeezes_S1x1280x256_S1280x256) (Memref.slice_unit_congr _ e _ _ _ _)
private theorem ywin_congr {off : Fin 2 → Nat} {b : Fin 17} (e : off = ywOff b) (hh hs) :
    M3.slice (Rect.unit (s := S1280x4352) off S1280x256.size hh) hs = ywin b := Memref.slice_unit_congr _ e _ _ _ (fun _ => rfl)

@[sl_canon] theorem semL0 (hh) : (cc0_scratch12.slice (Rect.unit (s := S2) ![0] S1.size hh)).squeeze S_ squeezes_S1_S_ = csm 0 := csm_congr (by decide) _
@[sl_canon] theorem semL1 (hh) : (cc0_scratch12.slice (Rect.unit (s := S2) ![1] S1.size hh)).squeeze S_ squeezes_S1_S_ = csm 1 := csm_congr (by decide) _
@[sl_canon] theorem slotL0 (hh hs) : (M15.slice (Rect.unit (s := S2x1280x256) ![0, 0, 0] S1x1280x256.size hh) hs).squeeze S1280x256 squeezes_S1x1280x256_S1280x256 = slotM 0 := slot_congr (by decide) _ _
@[sl_canon] theorem slotL1 (hh hs) : (M15.slice (Rect.unit (s := S2x1280x256) ![1, 0, 0] S1x1280x256.size hh) hs).squeeze S1280x256 squeezes_S1x1280x256_S1280x256 = slotM 1 := slot_congr (by decide) _ _
@[sl_canon] theorem ywinL0 (hh hs) : M3.slice (Rect.unit (s := S1280x4352) ![0, 0] S1280x256.size hh) hs = ywin 0 := ywin_congr (by decide) _ _
@[sl_canon] theorem ywinL1 (hh hs) : M3.slice (Rect.unit (s := S1280x4352) ![0, 256] S1280x256.size hh) hs = ywin 1 := ywin_congr (by decide) _ _
@[sl_canon] theorem ywinL15 (hh hs) : M3.slice (Rect.unit (s := S1280x4352) ![0, 3840] S1280x256.size hh) hs = ywin 15 := ywin_congr (by decide) _ _
@[sl_canon] theorem ywinL16 (hh hs) : M3.slice (Rect.unit (s := S1280x4352) ![0, 4096] S1280x256.size hh) hs = ywin 16 := ywin_congr (by decide) _ _

theorem trips10 (k : Fin k0_t10_loop.trips) : k.val < 15 := Nat.lt_of_lt_of_le k.isLt k0_t10_abs.2.1

theorem off11_eq (k : Fin k0_t10_loop.trips) : k0_off11 k = semOff (Ring.sl 2 k.val) := by
  rw [k0_off11_eq]; unfold semOff; congr 1; simp [Ring.sl, Fin.ofNat]
theorem off13_eq (k : Fin k0_t10_loop.trips) : k0_off13 k = slotOff (Ring.sl 2 k.val) := by
  rw [k0_off13_eq]; unfold slotOff; congr 1; simp [Ring.sl, Fin.ofNat]
theorem off18_eq (k : Fin k0_t10_loop.trips) : k0_off18 k = slotOff (Ring.sl 2 k.val) := by
  rw [k0_off18_eq]; unfold slotOff; congr 1; simp [Ring.sl, Fin.ofNat]
theorem off12_eq (k : Fin k0_t10_loop.trips) : k0_off12 k = ywOff (Ring.bk 17 k.val) := by
  have := trips10 k; rw [k0_off12_eq]; unfold ywOff; rw [Ring.bk_val (by omega)]
theorem off19_eq (k : Fin k0_t10_loop.trips) : k0_off19 k = ywOff (Ring.bk 17 (k.val + 2)) := by
  have := trips10 k; rw [k0_off19_eq]; unfold ywOff; rw [Ring.bk_val (by omega), show 256 * (k.val + 2) = 256 * k.val + 512 by omega]

@[sl_canon] theorem semK (k : Fin k0_t10_loop.trips) (hh) :
    (cc0_scratch12.slice (Rect.unit (s := S2) (k0_off11 k) S1.size hh)).squeeze S_ squeezes_S1_S_ = csm (Ring.sl 2 k.val) := csm_congr (off11_eq k) _
@[sl_canon] theorem slotK (k : Fin k0_t10_loop.trips) (hh hs) :
    (M15.slice (Rect.unit (s := S2x1280x256) (k0_off13 k) S1x1280x256.size hh) hs).squeeze S1280x256 squeezes_S1x1280x256_S1280x256 = slotM (Ring.sl 2 k.val) := slot_congr (off13_eq k) _ _
@[sl_canon] theorem ywinW (k : Fin k0_t10_loop.trips) (hh hs) :
    M3.slice (Rect.unit (s := S1280x4352) (k0_off12 k) S1280x256.size hh) hs = ywin (Ring.bk 17 k.val) := ywin_congr (off12_eq k) _ _
@[sl_canon] theorem ywinI (k : Fin k0_t10_loop.trips) (hh hs) :
    M3.slice (Rect.unit (s := S1280x4352) (k0_off19 k) S1280x256.size hh) hs = ywin (Ring.bk 17 (k.val + 2)) := ywin_congr (off19_eq k) _ _
/-- The same slot's offset, as the loads and stores through the whole buffer have it. -/
instance (priority := high) (k : Fin k0_t10_loop.trips) : ClosedOff (k0_off18 k) := ⟨slotOff (Ring.sl 2 k.val), off18_eq k⟩
instance (priority := high) (k : Fin k0_t10_loop.trips) : ClosedOff (k0_off13 k) := ⟨slotOff (Ring.sl 2 k.val), off13_eq k⟩
end Canon

/-! ## Reading the windows -/

/-- Held on its elements, a buffer may be restated at any contents its view reads the same. -/
theorem pt_of_read (c : Dev nD) {sp : Space} {S : Shape} {e : EltTy} (M : Memref sig .tc sp S e) (f g : Bf (F := F) c M)
    (h : ∀ x, M.view.read (Elt F) f x = M.view.read (Elt F) g x) : Pt c M f = Pt c M g :=
  pointsTo_congr fun i hi => by
    obtain ⟨x, rfl⟩ := View.exists_emb_of_mem_set M.view hi
    exact View.eq_of_read_eq (h x)

abbrev ix3 (s : Fin 2) (i : S1280x256.Idx) : S2x1280x256.Idx := fun | ⟨0, _⟩ => s | ⟨1, _⟩ => (i 0 : Fin 1280) | ⟨2, _⟩ => (i 1 : Fin 256)
abbrev ix3' (i : S1280x256.Idx) : S1x1280x256.Idx := fun | ⟨0, _⟩ => (⟨0, by decide⟩ : Fin 1) | ⟨1, _⟩ => (i 0 : Fin 1280) | ⟨2, _⟩ => (i 1 : Fin 256)

theorem slot_read (s : Fin 2) (g : M15.view.ty.Contents (Elt F)) (i : S1280x256.Idx) :
    (slotM s).view.read (Elt F) g i = M15.view.read (Elt F) g (ix3 s i) := by
  unfold slotM
  rw [Memref.read_squeeze_slice M15 _ _ _ (by decide : S1x1280x256.ShapeCasts S1280x256)]
  refine (shapeCast_dropUnit_apply ![1280, 256] _ _ i).trans ?_
  refine congrArg (M15.view.read (Elt F) g) (funext fun a => Fin.ext ?_)
  match a with
  | ⟨0, _⟩ => show s.val + 1 * 0 = s.val; omega
  | ⟨1, _⟩ => show 0 + 1 * (i 0).val = (i 0).val; omega
  | ⟨2, _⟩ => show 0 + 1 * (i 1).val = (i 1).val; omega

section Reads
variable (c : Dev nD) (γ : F .f32) (WV : S4352x1152.Idx → Elt F .bf16) (A : S1280x1152.Idx → Elt F .bf16) (B : S1280x128.Idx → Elt F .f32)

theorem readTile (j : ℕ) (hj : j < 17) (off : Fin 2 → Nat) (e : off = ![256 * j, 0]) (h) :
    M8.view.readAt (Elt F) (Rect.unit (s := S4352x1152) off S256x1152.size h).toLoadRect (WV : Bf (F := F) c M8) = wtile WV j := by
  subst e
  funext i
  rw [View.readAt_apply]
  unfold wtile
  refine congrArg WV (funext fun a => ?_)
  match a with
  | ⟨0, _⟩ =>
    refine Fin.ext ?_
    show 256 * j + 1 * (i 0).val = (256 * j + (i 0).val) % 4352
    have : (i 0).val < 256 := (i 0).isLt
    omega
  | ⟨1, _⟩ =>
    refine Fin.ext ?_
    show 0 + 1 * (i 1).val = (i 1).val
    omega
theorem readCol0 (h) : M12.view.readAt (Elt F) (Rect.unit (s := S1280x128) ![0, 0] S1280x1.size h).toLoadRect (B : Bf (F := F) c M12) = col0 B := by
  funext i
  rw [View.readAt_apply]
  unfold col0
  refine congrArg B (funext fun a => ?_)
  match a with
  | ⟨0, _⟩ =>
    refine Fin.ext ?_
    show 0 + 1 * (i 0).val = (i 0).val
    omega
  | ⟨1, _⟩ =>
    refine Fin.ext ?_
    show 0 + 1 * (i 1).val = 0
    have : (i 1).val < 1 := (i 1).isLt
    omega
theorem readA (h) : M11.view.readAt (Elt F) (Rect.unit (s := S1280x1152) ![0, 0] S1280x1152.size h).toLoadRect (A : Bf (F := F) c M11) = A := by
  funext i
  rw [View.readAt_apply]
  refine congrArg A (funext fun a => Fin.ext ?_)
  match a with
  | ⟨0, _⟩ => show 0 + 1 * (i 0).val = (i 0).val; omega
  | ⟨1, _⟩ => show 0 + 1 * (i 1).val = (i 1).val; omega

/-- What a slot holding tile `j` leaves in window `j`. -/
theorem landed_eq (b : Fin 17) (f : Bf (F := F) c (ywin b)) (x : S1280x256.Idx → Elt F .bf16) (h : ∀ i, x i = YT γ WV A B b.val i) :
    Pt c (ywin b) ((ywin b).view.writes (Elt F) f [⟨Rect.whole S1280x256, x⟩]) = Pt c (ywin b) (YV γ WV A B) := by
  refine pt_of_read c (ywin b) _ _ fun i => ?_
  rw [View.read_writes_whole, h]
  have h1 : (i 1).val < 256 := (i 1).isLt
  show YT γ WV A B b.val i = YV γ WV A B ((Rect.unit (s := S1280x4352) (ywOff b) S1280x256.size (ywOff_inb b)).emb i)
  have e0 : ((Rect.unit (s := S1280x4352) (ywOff b) S1280x256.size (ywOff_inb b)).emb i 0).val = (i 0).val := by
    show 0 + 1 * (i 0).val = (i 0).val; omega
  have e1 : ((Rect.unit (s := S1280x4352) (ywOff b) S1280x256.size (ywOff_inb b)).emb i 1).val = 256 * b.val + (i 1).val := by
    show 256 * b.val + 1 * (i 1).val = 256 * b.val + (i 1).val; omega
  unfold YV
  rw [show ((Rect.unit (s := S1280x4352) (ywOff b) S1280x256.size (ywOff_inb b)).emb i 1).val / 256 = b.val by omega]
  refine congrArg _ (funext fun a => Fin.ext ?_)
  match a with
  | ⟨0, _⟩ => exact e0.symm
  | ⟨1, _⟩ => show (i 1).val = ((Rect.unit (s := S1280x4352) (ywOff b) S1280x256.size (ywOff_inb b)).emb i 1).val % 256; omega

/-- The three stores of tile `j` into the packed weights extend the rows that agree with `PV`. -/
theorem packed_ext (j : ℕ) (f : Bf (F := F) c M14)
    (hf : ∀ i : S4352x288.Idx, (i 0).val < 256 * j → M14.view.read (Elt F) f i = PV γ WV i)
    (o0 o1 o2 : Fin 2 → Nat) (h0 h1 h2) (e0 : o0 = ![256 * j, 0]) (e1 : o1 = ![256 * j, 128]) (e2 : o2 = ![256 * j, 256])
    (p0 : IVec S256x128 8) (p1 : IVec S256x128 8) (p2 : IVec S256x32 8)
    (d0 : p0 = P0 γ (wtile WV j)) (d1 : p1 = P1 γ (wtile WV j)) (d2 : p2 = P2 γ (wtile WV j))
    (i : S4352x288.Idx) (hi : (i 0).val < 256 * (j + 1)) :
    M14.view.read (Elt F) (M14.view.writes (Elt F) f [⟨Rect.unit (s := S4352x288) o2 S256x32.size h2, p2⟩,
      ⟨Rect.unit (s := S4352x288) o1 S256x128.size h1, p1⟩, ⟨Rect.unit (s := S4352x288) o0 S256x128.size h0, p0⟩]) i = PV γ WV i := by
  have hc : (i 1).val < 288 := (i 1).isLt
  by_cases hlt : (i 0).val < 256 * j
  · rw [View.read_writes_cons_unit_of_not_mem _ _ _ _ _ i e2 0 (Or.inl hlt),
      View.read_writes_cons_unit_of_not_mem _ _ _ _ _ i e1 0 (Or.inl hlt),
      View.read_writes_cons_unit_of_not_mem _ _ _ _ _ i e0 0 (Or.inl hlt)]
    exact hf i hlt
  · have hj : (i 0).val / 256 = j := by omega
    unfold PV
    rw [hj]
    by_cases c1 : (i 1).val < 128
    · rw [if_pos c1, ← d0, View.read_writes_cons_unit_of_not_mem _ _ _ _ _ i e2 1 (Or.inl (by show (i 1).val < 256; omega)),
        View.read_writes_cons_unit_of_not_mem _ _ _ _ _ i e1 1 (Or.inl c1)]
      refine View.read_writes_cons_unit_of_mem _ _ _ _ _ i _ e0 fun a => ?_
      match a with
      | ⟨0, _⟩ => show (i 0).val = 256 * j + (i 0).val % 256; omega
      | ⟨1, _⟩ => show (i 1).val = 0 + (i 1).val % 128; omega
    · rw [if_neg c1]
      by_cases c2 : (i 1).val < 256
      · rw [if_pos c2, ← d1, View.read_writes_cons_unit_of_not_mem _ _ _ _ _ i e2 1 (Or.inl c2)]
        refine View.read_writes_cons_unit_of_mem _ _ _ _ _ i _ e1 fun a => ?_
        match a with
        | ⟨0, _⟩ => show (i 0).val = 256 * j + (i 0).val % 256; omega
        | ⟨1, _⟩ => show (i 1).val = 128 + (i 1).val % 128; omega
      · rw [if_neg c2, ← d2]
        refine View.read_writes_cons_unit_of_mem _ _ _ _ _ i _ e2 fun a => ?_
        match a with
        | ⟨0, _⟩ => show (i 0).val = 256 * j + (i 0).val % 256; omega
        | ⟨1, _⟩ => show (i 1).val = 256 + (i 1).val % 32; omega
/-- A slot stored with tile `j`'s product reads as that tile. -/
theorem slot_stored (j : ℕ) (s : Fin 2) (g : M15.view.ty.Contents (Elt F)) (off : Fin 3 → Nat) (h) (e : off = slotOff s)
    (t : FVec F S1280x256 .f32) (u : Vec F S1280x1 .f32) (ht : t = k0_pay55 A (k0_pay8 γ (wtile WV j))) (hu : u = col0 B) (i : S1280x256.Idx) :
    (slotM s).view.read (Elt F) (M15.view.writes (Elt F) g [⟨Rect.unit (s := S2x1280x256) off S1x1280x256.size h, k0_pay171 γ t u⟩]) i = YT γ WV A B j i := by
  rw [slot_read]
  subst ht hu
  refine View.read_writes_cons_unit_of_mem _ _ _ _ _ (ix3 s i) (ix3' i) e fun a => ?_
  match a with
  | ⟨0, _⟩ => rfl
  | ⟨1, _⟩ => show (i 0).val = 0 + (i 0).val; omega
  | ⟨2, _⟩ => show (i 1).val = 0 + (i 1).val; omega
end Reads

section Loop10
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole)
  (γ : F .f32) (WV : S4352x1152.Idx → Elt F .bf16) (A : S1280x1152.Idx → Elt F .bf16) (B : S1280x128.Idx → Elt F .f32)

abbrev cellP (s : Fin 2) : sProp 𝕄 := semVal ((c : Thread nD τ), SemLoc.dma (csm s).sem) 0
/-- Window `b` before trip `k`: landed if before `k`, else at anything. -/
def homeY (k : ℕ) (b : Fin 17) : sProp 𝕄 :=
  if b.val < k then Pt c (ywin b) (YV γ WV A B) else iprop(∃ f, Pt (F := F) c (ywin b) f)
abbrev landed (s : Fin 2) (b : Fin 17) (f : Bf (F := F) c (ywin b)) (g : Bf (F := F) c (slotM s)) : Bf (F := F) c (ywin b) :=
  (ywin b).view.writes (Elt F) f [⟨Rect.whole S1280x256, ReadAs.same.apply ((slotM s).view.read (Elt F) g)⟩]
abbrev NN : ℕ := 20480
/-- Slot `s` under way to window `b`, holding tile `j`. -/
def flightP (s : Fin 2) (b : Fin 17) (j : ℕ) : sProp 𝕄 :=
  iprop(∃ f g, ⌜∀ i, (slotM s).view.read (Elt F) g i = YT γ WV A B j i⌝
    ∗ Transfers.Flight countersEmb (c : Thread nD τ) (SemLoc.dma (csm s).sem) () NN iprop(Pt c (ywin b) (landed c s b f g) ∗ Pt c (slotM s) g))
/-- Before trip `k`. -/
def inv10 (k : ℕ) : sProp 𝕄 :=
  iprop(Pt c M8 WV ∗ Pt c M11 A ∗ Pt c M12 B ∗ (∃ f, Pt (F := F) c M13 f)
    ∗ (∃ f : Bf (F := F) c M14, Pt c M14 f ∗ ⌜∀ i : S4352x288.Idx, (i 0).val < 256 * (k + 2) → M14.view.read (Elt F) f i = PV γ WV i⌝)
    ∗ (∃ W, owes (c : Thread nD τ) 0 W)
    ∗ bigSep (Ring.homeSet 2 k) (homeY c γ WV A B k)
    ∗ flightP c γ WV A B (Ring.sl 2 k) (Ring.bk 17 k) k ∗ flightP c γ WV A B (Ring.sl 2 (k + 1)) (Ring.bk 17 (k + 1)) (k + 1))

theorem home_here (k : ℕ) (hk : k + 2 < 17) :
    bigSep (Ring.homeSet 2 k) (homeY c γ WV A B k)
      = iprop((∃ f, Pt (F := F) c (ywin (Ring.bk 17 (k + 2))) f) ∗ bigSep ((Ring.homeSet 2 k).erase (Ring.bk 17 (k + 2))) (homeY c γ WV A B k)) := by
  conv_lhs => rw [Ring.homeSet_out 2 k hk, bigSep_insert (Ring.bkL_not_mem_erase 2 k)]
  have e : homeY c γ WV A B k (Ring.bk 17 (k + 2)) = iprop(∃ f, Pt (F := F) c (ywin (Ring.bk 17 (k + 2))) f) :=
    if_neg (by rw [Ring.bk_val hk]; omega)
  rw [e]; rfl
theorem home_next (k : ℕ) (hk : k + 2 < 17) :
    bigSep (Ring.homeSet 2 (k + 1)) (homeY c γ WV A B (k + 1))
      = iprop(Pt c (ywin (Ring.bk 17 k)) (YV γ WV A B) ∗ bigSep ((Ring.homeSet 2 k).erase (Ring.bk 17 (k + 2))) (homeY c γ WV A B k)) := by
  conv_lhs => rw [Ring.homeSet_succ 2 k hk, bigSep_insert (Ring.bk_not_mem_erase 2 k (by omega) (by decide))]
  have e : homeY c γ WV A B (k + 1) (Ring.bk 17 k) = Pt c (ywin (Ring.bk 17 k)) (YV γ WV A B) :=
    if_pos (by rw [Ring.bk_val (by omega)]; omega)
  have e2 : bigSep ((Ring.homeSet 2 k).erase (Ring.bk 17 (k + 2))) (homeY c γ WV A B (k + 1))
      = bigSep ((Ring.homeSet 2 k).erase (Ring.bk 17 (k + 2))) (homeY c γ WV A B k) := by
    refine bigSep_congr fun b hb => ?_
    rw [Finset.mem_erase, Ring.mem_homeSet] at hb
    unfold homeY
    have : (b.val < k + 1) = (b.val < k) := by
      have h2 := hb.2
      exact propext ⟨fun h => by omega, fun h => by omega⟩
    simp only [this]
  rw [e, e2]; rfl

theorem sl2_add2 (k : ℕ) : Ring.sl 2 (k + 1 + 1) = Ring.sl 2 k := by rw [show k + 1 + 1 = k + 2 from rfl, Ring.sl_add]

theorem trip10_run (v1328 : IVec S256x32 8) (k : Fin k0_t10_loop.trips) :
    inv10 c γ WV A B k.val ⊢ wp frame (wpE (defs₀ (F := F)) Variants.none (c : Thread nD τ) none) Set.univ
      (k0_t10_body (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 γ v1328 k ())
      (fun _ => inv10 c γ WV A B (k.val + 1)) := by
  have hk : k.val < 15 := trips10 k
  unfold inv10
  rw [home_here c γ WV A B k.val (by omega), home_next c γ WV A B k.val (by omega), sl2_add2]
  unfold flightP
  iintro ⟨H8, H11, H12, ⟨%f13, H13⟩, ⟨%f14, H14, %h14⟩, ⟨%W, HW⟩, ⟨⟨%fy, Hy⟩, Hrest⟩, ⟨%f0, %g0, %e0, HF0⟩, HF1⟩
  unfold k0_t10_body
  sl_exec
  sl_step
  have et := readTile WV (k.val + 2) (by omega) (k0_off14 k) (by rw [k0_off14_eq, show 256 * (k.val + 2) = 256 * k.val + 512 by omega]) (k0_off14_inb k)
  have eL := landed_eq c γ WV A B (Ring.bk 17 k.val) f0 (ReadAs.same.apply ((slotM (Ring.sl 2 k.val)).view.read (Elt F) g0))
    (fun i => (e0 i).trans (by rw [Ring.bk_val (by omega : k.val < 17)]))
  isplitl [H8]; · iexact H8
  isplitl [H11]; · iexact H11
  isplitl [H12]; · iexact H12
  isplitl [H13]; · iexists _; iexact H13
  isplitl [H14]
  · iexists _; isplitl [H14]; · iexact H14
    ipureintro
    intro i hi
    refine packed_ext c γ WV (k.val + 2) f14 h14 _ _ _ _ _ _ (by rw [k0_off15_eq, show 256 * (k.val + 2) = 256 * k.val + 512 by omega])
      (by rw [k0_off16_eq, show 256 * (k.val + 2) = 256 * k.val + 512 by omega]) (by rw [k0_off17_eq, show 256 * (k.val + 2) = 256 * k.val + 512 by omega])
      _ _ _ ?_ ?_ ?_ i hi
    · rw [← et]; rfl
    · rw [← et]; rfl
    · rw [← et]; rfl
  isplitl [HW]; · iexists _; iexact HW
  isplitl [HF0_dst Hrest]
  · isplitl [HF0_dst]
    · irw [← eL]
      iexact HF0_dst
    iexact Hrest
  isplitl [HF1]; · iexact HF1
  iexists fy
  iexists (trip10_run.sl.HF0_src_w1 γ WV A B k g0)
  isplitr
  · ipureintro
    intro i
    refine slot_stored γ WV A B (k.val + 2) (Ring.sl 2 k.val) g0 _ (k0_off18_inb k) (off18_eq k) (trip10_run.sl.r_2 γ WV A k) _ ?_ (readCol0 B _) i
    unfold trip10_run.sl.r_2
    refine congrArg₂ k0_pay55 (readA A _) (Eq.trans ?_ (congrArg (k0_pay8 γ) et))
    unfold trip10_run.sl.v1972 trip10_run.sl.H13_1
    exact View.readCov_cons_toLoadRect _ _ _ _
  iexact HF0

set_option warn.classDefReducibility false in
@[sl_loop] def loopInv10 (v1328 : IVec S256x32 8) :
    LoopInvTy_k0_t10 (F := F) Unit ℕ (Pipeline.UD sig nD τ) ℕ Variants.none c none Set.univ (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 γ v1328 where
  inv k _ := inv10 c γ WV A B k
  step k _ := trip10_run c arg2 harg2 arg5 harg5 arg7 harg7 γ WV A B v1328 k
end Loop10

end Cert.KernelIdeal.Hand
end
-- ==== Proof.KernIP.lean ====
/-
  The buffers the copies move in pieces: the weights and their scratch by slabs of rows, `y` by its 17 windows of columns,
  the two slots of the staging buffer. Each buffer held whole is its pieces.
-/
module

public import proofs.«01_k».proof.Proof.KernI2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-- The rows of the weights that slab `o` is copied from. -/
abbrev xslab (o : ℕ) (h : ∀ a, (![o, 0] : Fin 2 → Nat) a + S544x1152.size a ≤ S4304x1152.size a) : Memref sig .tc .hbm S544x1152 .bf16 :=
  M1.slice (Rect.unit (s := S4304x1152) ![o, 0] S544x1152.size h) (fun _ => rfl)
abbrev xslab7 : Memref sig .tc .hbm S496x1152 .bf16 :=
  M1.slice (Rect.unit (s := S4304x1152) ![3808, 0] S496x1152.size inb_S4304x1152_S496x1152_3808_0) (fun _ => rfl)
/-- The 48 rows of padding below the weights. -/
abbrev padw : Memref sig .tc .vmem S48x1152 .bf16 :=
  M8.slice (Rect.unit (s := S4352x1152) ![4304, 0] S48x1152.size inb_S4352x1152_S48x1152_4304_0) (fun _ => rfl)

theorem entails_of_eq {P Q : sProp 𝕄} (e : P = Q) : P ⊢ Q := e ▸ .rfl

/-! ## Sets of rows and columns -/

abbrev rowsW (lo hi : ℕ) : Finset S4352x1152.Idx := Finset.univ.filter fun y => lo ≤ (y 0).val ∧ (y 0).val < hi
abbrev rowsX (lo hi : ℕ) : Finset S4304x1152.Idx := Finset.univ.filter fun y => lo ≤ (y 0).val ∧ (y 0).val < hi

theorem set_rowsW (o k : ℕ) (sz : Fin 2 → ℕ) (h) (h0 : sz 0 = k) (h1 : sz 1 = 1152) :
    (Rect.unit (s := S4352x1152) ![o, 0] sz h).set = rowsW o (o + k) := by
  ext y
  rw [Rect.mem_set_unit, Finset.mem_filter]
  have hy : (y 1).val < 1152 := (y 1).isLt
  constructor
  · intro H; have a0 : o ≤ (y 0).val ∧ (y 0).val < o + sz 0 := H 0; rw [h0] at a0; exact ⟨Finset.mem_univ _, a0⟩
  · rintro ⟨-, H⟩ i
    fin_cases i
    · show o ≤ (y 0).val ∧ (y 0).val < o + sz 0; rw [h0]; exact H
    · show 0 ≤ (y 1).val ∧ (y 1).val < 0 + sz 1; rw [h1]; omega
theorem set_rowsX (o k : ℕ) (sz : Fin 2 → ℕ) (h) (h0 : sz 0 = k) (h1 : sz 1 = 1152) :
    (Rect.unit (s := S4304x1152) ![o, 0] sz h).set = rowsX o (o + k) := by
  ext y
  rw [Rect.mem_set_unit, Finset.mem_filter]
  have hy : (y 1).val < 1152 := (y 1).isLt
  constructor
  · intro H; have a0 : o ≤ (y 0).val ∧ (y 0).val < o + sz 0 := H 0; rw [h0] at a0; exact ⟨Finset.mem_univ _, a0⟩
  · rintro ⟨-, H⟩ i
    fin_cases i
    · show o ≤ (y 0).val ∧ (y 0).val < o + sz 0; rw [h0]; exact H
    · show 0 ≤ (y 1).val ∧ (y 1).val < 0 + sz 1; rw [h1]; omega

/-- The nine pieces of the scratch: seven slabs of 544 rows, one of 496, the 48 rows of padding. -/
abbrev loW (b : ℕ) : ℕ := if b < 8 then 544 * b else 4304
abbrev hiW (b : ℕ) : ℕ := if b < 7 then 544 * b + 544 else if b < 8 then 4304 else 4352
abbrev setW (b : Fin 9) : Finset S4352x1152.Idx := rowsW (loW b.val) (hiW b.val)
abbrev hiX (b : ℕ) : ℕ := if b < 7 then 544 * b + 544 else 4304
abbrev setX (b : Fin 8) : Finset S4304x1152.Idx := rowsX (544 * b.val) (hiX b.val)
theorem setW_disjoint : ∀ b b' : Fin 9, b ≠ b' → Disjoint (setW b) (setW b') := by
  intro b b' hne
  rw [Finset.disjoint_left]
  intro y hy hy'
  rw [Finset.mem_filter] at hy hy'
  have := b.isLt
  have := b'.isLt
  refine hne (Fin.ext ?_)
  have h1 := hy.2; have h2 := hy'.2
  unfold loW hiW at h1 h2
  split_ifs at h1 h2 <;> omega
theorem setW_cover : (Finset.univ : Finset (Fin 9)).biUnion setW = Finset.univ := by
  ext y
  simp only [Finset.mem_biUnion, Finset.mem_univ, true_and, iff_true, Finset.mem_filter]
  have hy : (y 0).val < 4352 := (y 0).isLt
  by_cases h : (y 0).val < 4304
  · refine ⟨⟨(y 0).val / 544, by omega⟩, ?_⟩
    show loW ((y 0).val / 544) ≤ (y 0).val ∧ (y 0).val < hiW ((y 0).val / 544)
    unfold loW hiW
    split_ifs <;> omega
  · refine ⟨⟨8, by omega⟩, ?_⟩
    show 4304 ≤ (y 0).val ∧ (y 0).val < 4352
    omega
theorem setX_disjoint : ∀ b b' : Fin 8, b ≠ b' → Disjoint (setX b) (setX b') := by
  intro b b' hne
  rw [Finset.disjoint_left]
  intro y hy hy'
  rw [Finset.mem_filter] at hy hy'
  have := b.isLt
  have := b'.isLt
  refine hne (Fin.ext ?_)
  have h1 := hy.2; have h2 := hy'.2
  unfold hiX at h1 h2
  split_ifs at h1 h2 <;> omega
theorem setX_cover : (Finset.univ : Finset (Fin 8)).biUnion setX = Finset.univ := by
  ext y
  simp only [Finset.mem_biUnion, Finset.mem_univ, true_and, iff_true, Finset.mem_filter]
  have hy : (y 0).val < 4304 := (y 0).isLt
  refine ⟨⟨(y 0).val / 544, by omega⟩, ?_⟩
  show 544 * ((y 0).val / 544) ≤ (y 0).val ∧ (y 0).val < hiX ((y 0).val / 544)
  unfold hiX
  split_ifs <;> omega

theorem slab_set (o : ℕ) (h) : (slab o h).view.set = rowsW o (o + 544) := (View.set_slice_whole _ _).trans (set_rowsW o 544 _ h rfl rfl)
theorem slab7_set : slab7.view.set = rowsW 3808 4304 := (View.set_slice_whole _ _).trans (set_rowsW 3808 496 _ _ rfl rfl)
theorem padw_set : padw.view.set = rowsW 4304 4352 := (View.set_slice_whole _ _).trans (set_rowsW 4304 48 _ _ rfl rfl)
theorem xslab_set (o : ℕ) (h) : (xslab o h).view.set = rowsX o (o + 544) := (View.set_slice_whole _ _).trans (set_rowsX o 544 _ h rfl rfl)
theorem xslab7_set : xslab7.view.set = rowsX 3808 4304 := (View.set_slice_whole _ _).trans (set_rowsX 3808 496 _ _ rfl rfl)

section Whole
variable (c : Dev nD)

theorem slabP_eq (o : ℕ) (h) (f : Bf (F := F) c M8) : Pt c (slab o h) f = (((c : Thread nD τ).loc cc0_scratch0) ↦[rowsW o (o + 544)]{fullShare} f : sProp 𝕄) :=
  congrArg (fun S => (_ ↦[S]{fullShare} f : sProp 𝕄)) (slab_set o h)
theorem slab7P_eq (f : Bf (F := F) c M8) : Pt c slab7 f = (((c : Thread nD τ).loc cc0_scratch0) ↦[rowsW 3808 4304]{fullShare} f : sProp 𝕄) :=
  congrArg (fun S => (_ ↦[S]{fullShare} f : sProp 𝕄)) slab7_set
theorem padwP_eq (f : Bf (F := F) c M8) : Pt c padw f = (((c : Thread nD τ).loc cc0_scratch0) ↦[rowsW 4304 4352]{fullShare} f : sProp 𝕄) :=
  congrArg (fun S => (_ ↦[S]{fullShare} f : sProp 𝕄)) padw_set
theorem xslabP_eq (o : ℕ) (h) (f : Bf (F := F) c M1) : Pt c (xslab o h) f = (((c : Thread nD τ).loc main_arg1) ↦[rowsX o (o + 544)]{fullShare} f : sProp 𝕄) :=
  congrArg (fun S => (_ ↦[S]{fullShare} f : sProp 𝕄)) (xslab_set o h)
theorem xslab7P_eq (f : Bf (F := F) c M1) : Pt c xslab7 f = (((c : Thread nD τ).loc main_arg1) ↦[rowsX 3808 4304]{fullShare} f : sProp 𝕄) :=
  congrArg (fun S => (_ ↦[S]{fullShare} f : sProp 𝕄)) xslab7_set

/-- The scratch of the weights whole is its nine pieces. -/
theorem scratch_eq (f : Bf (F := F) c M8) : (((c : Thread nD τ).loc cc0_scratch0) ↦{fullShare} f : sProp 𝕄) =
    iprop(Pt c (slab 0 inb_S4352x1152_S544x1152_0_0) f ∗ Pt c (slab 544 inb_S4352x1152_S544x1152_544_0) f ∗ Pt c (slab 1088 inb_S4352x1152_S544x1152_1088_0) f ∗ Pt c (slab 1632 inb_S4352x1152_S544x1152_1632_0) f ∗ Pt c (slab 2176 inb_S4352x1152_S544x1152_2176_0) f ∗ Pt c (slab 2720 inb_S4352x1152_S544x1152_2720_0) f ∗ Pt c (slab 3264 inb_S4352x1152_S544x1152_3264_0) f ∗ Pt c slab7 f ∗ Pt c padw f) := by
  rw [Ring.pointsTo_blocks (Ix := Unit) (Name := ℕ) (Lvl := ℕ) (ℓ := (c : Thread nD τ).loc cc0_scratch0) setW setW_disjoint setW_cover,
    bigSep_univ_eq_bigSepL [(0 : Fin 9), 1, 2, 3, 4, 5, 6, 7, 8] (by decide) (by decide)]
  exact ((congrArg₂ BIBase.sep (slabP_eq c 0 _ f) (congrArg₂ BIBase.sep (slabP_eq c 544 _ f) (congrArg₂ BIBase.sep (slabP_eq c 1088 _ f) (congrArg₂ BIBase.sep (slabP_eq c 1632 _ f) (congrArg₂ BIBase.sep (slabP_eq c 2176 _ f) (congrArg₂ BIBase.sep (slabP_eq c 2720 _ f) (congrArg₂ BIBase.sep (slabP_eq c 3264 _ f) (congrArg₂ BIBase.sep (slab7P_eq c f) (padwP_eq c f)))))))))).symm
/-- The weights whole are their eight slabs. -/
theorem weights_eq (f : Bf (F := F) c M1) : (((c : Thread nD τ).loc main_arg1) ↦{fullShare} f : sProp 𝕄) =
    iprop(Pt c (xslab 0 inb_S4304x1152_S544x1152_0_0) f ∗ Pt c (xslab 544 inb_S4304x1152_S544x1152_544_0) f ∗ Pt c (xslab 1088 inb_S4304x1152_S544x1152_1088_0) f ∗ Pt c (xslab 1632 inb_S4304x1152_S544x1152_1632_0) f ∗ Pt c (xslab 2176 inb_S4304x1152_S544x1152_2176_0) f ∗ Pt c (xslab 2720 inb_S4304x1152_S544x1152_2720_0) f ∗ Pt c (xslab 3264 inb_S4304x1152_S544x1152_3264_0) f ∗ Pt c xslab7 f) := by
  rw [Ring.pointsTo_blocks (Ix := Unit) (Name := ℕ) (Lvl := ℕ) (ℓ := (c : Thread nD τ).loc main_arg1) setX setX_disjoint setX_cover,
    bigSep_univ_eq_bigSepL [(0 : Fin 8), 1, 2, 3, 4, 5, 6, 7] (by decide) (by decide)]
  exact ((congrArg₂ BIBase.sep (xslabP_eq c 0 _ f) (congrArg₂ BIBase.sep (xslabP_eq c 544 _ f) (congrArg₂ BIBase.sep (xslabP_eq c 1088 _ f) (congrArg₂ BIBase.sep (xslabP_eq c 1632 _ f) (congrArg₂ BIBase.sep (xslabP_eq c 2176 _ f) (congrArg₂ BIBase.sep (xslabP_eq c 2720 _ f) (congrArg₂ BIBase.sep (xslabP_eq c 3264 _ f) (xslab7P_eq c f))))))))).symm

/-! ## `y`'s windows and the two slots -/

abbrev setY (b : Fin 17) : Finset S1280x4352.Idx := (Rect.unit (s := S1280x4352) (ywOff b) S1280x256.size (ywOff_inb b)).set
theorem mem_setY (b : Fin 17) (y : S1280x4352.Idx) : y ∈ setY b ↔ 256 * b.val ≤ (y 1).val ∧ (y 1).val < 256 * b.val + 256 := by
  rw [Rect.mem_set_unit]
  have h0 : (y 0).val < 1280 := (y 0).isLt
  constructor
  · intro H; exact H 1
  · intro H i; fin_cases i
    · show 0 ≤ (y 0).val ∧ (y 0).val < 0 + 1280; omega
    · exact H
theorem setY_disjoint : ∀ b b' : Fin 17, b ≠ b' → Disjoint (setY b) (setY b') := by
  intro b b' hne
  rw [Finset.disjoint_left]
  intro y hy hy'
  rw [mem_setY] at hy hy'
  exact hne (Fin.ext (by omega))
theorem setY_cover : (Finset.univ : Finset (Fin 17)).biUnion setY = Finset.univ := by
  ext y
  simp only [Finset.mem_biUnion, Finset.mem_univ, true_and, iff_true]
  have hy : (y 1).val < 4352 := (y 1).isLt
  refine ⟨⟨(y 1).val / 256, by omega⟩, ?_⟩
  rw [mem_setY]
  show 256 * ((y 1).val / 256) ≤ _ ∧ _ < 256 * ((y 1).val / 256) + 256
  omega
theorem ywin_set (b : Fin 17) : (ywin b).view.set = setY b := View.set_slice_whole _ _
/-- `y` whole is its 17 windows. -/
theorem y_eq (f : Bf (F := F) c M3) : (((c : Thread nD τ).loc main_v2_0) ↦{fullShare} f : sProp 𝕄) = bigSep Finset.univ (fun b : Fin 17 => Pt c (ywin b) f) := by
  rw [Ring.pointsTo_blocks (Ix := Unit) (Name := ℕ) (Lvl := ℕ) (ℓ := (c : Thread nD τ).loc main_v2_0) setY setY_disjoint setY_cover]
  exact bigSep_congr fun b _ => (congrArg (fun S => (_ ↦[S]{fullShare} f : sProp 𝕄)) (ywin_set b)).symm
theorem homes_zero (P : Fin 17 → sProp 𝕄) :
    bigSep Finset.univ P = iprop(P 0 ∗ P 1 ∗ bigSep (Ring.homeSet 2 0) P) := by
  have e : (Finset.univ : Finset (Fin 17)) = insert 0 (insert 1 (Ring.homeSet (NB := 17) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl
theorem homes_last (P : Fin 17 → sProp 𝕄) :
    iprop(P 15 ∗ P 16 ∗ bigSep (Ring.homeSet 2 15) P) ⊢ bigSep Finset.univ P := by
  have e : (Finset.univ : Finset (Fin 17)) = insert 15 (insert 16 (Ring.homeSet (NB := 17) 2 15)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; exact .rfl

abbrev setS (s : Fin 2) : Finset S2x1280x256.Idx := (Rect.unit (s := S2x1280x256) (slotOff s) S1x1280x256.size (slotOff_inb s)).set
theorem mem_setS (s : Fin 2) (y : S2x1280x256.Idx) : y ∈ setS s ↔ (y 0).val = s.val := by
  rw [Rect.mem_set_unit]
  have h1 : (y 1).val < 1280 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1280; omega
    · show 0 ≤ (y 2).val ∧ (y 2).val < 0 + 256; omega
theorem setS_disjoint : ∀ s s' : Fin 2, s ≠ s' → Disjoint (setS s) (setS s') := by
  intro s s' hne; rw [Finset.disjoint_left]; intro y hy hy'; rw [mem_setS] at hy hy'; exact hne (Fin.ext (hy.symm.trans hy'))
theorem setS_cover : (Finset.univ : Finset (Fin 2)).biUnion setS = Finset.univ := by
  ext y; simp only [Finset.mem_biUnion, Finset.mem_univ, true_and, iff_true]; exact ⟨(y 0).cast (by decide), by rw [mem_setS]; rfl⟩
theorem slot_set (s : Fin 2) : (slotM s).view.set = setS s := (View.set_reshape _ _).trans (View.set_slice_whole _ _)
theorem slotP_eq (s : Fin 2) (f : Bf (F := F) c (slotM s)) : Pt c (slotM s) f = (((c : Thread nD τ).loc cc0_scratch7) ↦[setS s]{fullShare} f : sProp 𝕄) :=
  congrArg (fun S => (_ ↦[S]{fullShare} f : sProp 𝕄)) (slot_set s)
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem slots_split : iprop(∃ f : Buf (Elt F) ((c : Thread nD τ).loc cc0_scratch7), ((c : Thread nD τ).loc cc0_scratch7) ↦{fullShare} f)
      ⊢ (iprop((∃ f, Pt c (slotM 0) f) ∗ ∃ f, Pt c (slotM 1) f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch7) setS setS_disjoint setS_cover f).trans
    (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem slots_join : iprop((∃ f, Pt c (slotM 0) f) ∗ ∃ f, Pt c (slotM 1) f)
      ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩⟩
  iapply (Ring.pointsTo_blocks_join_exists (ℓ := (c : Thread nD τ).loc cc0_scratch7) setS setS_disjoint setS_cover f0)
  irw [bigSep_fin2]
  isplitl [H0]
  · iexists f0; iapply (entails_of_eq (slotP_eq c 0 f0)); iexact H0
  · iexists f1; iapply (entails_of_eq (slotP_eq c 1 f1)); iexact H1
end Whole

end Cert.KernelIdeal.Hand
end
-- ==== Proof.KernIQ.lean ====
/-
  What the body's pieces hold once the copies in have landed, and the values it leaves.
-/
module

public import proofs.«01_k».proof.Proof.KernIP

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## The pieces the body is handed -/

/-- The semaphore of slab 0's copy. -/
abbrev wsem0 : SemLoc sig := SemLoc.dma ((cc0_scratch8.slice (Rect.unit (s := S8) ![0] S1.size inb_S8_S1_0)).squeeze S_ squeezes_S1_S_).sem
/-- The semaphore of slab 1's copy. -/
abbrev wsem1 : SemLoc sig := SemLoc.dma ((cc0_scratch8.slice (Rect.unit (s := S8) ![1] S1.size inb_S8_S1_1)).squeeze S_ squeezes_S1_S_).sem
/-- The semaphore of slab 2's copy. -/
abbrev wsem2 : SemLoc sig := SemLoc.dma ((cc0_scratch8.slice (Rect.unit (s := S8) ![2] S1.size inb_S8_S1_2)).squeeze S_ squeezes_S1_S_).sem
/-- The semaphore of slab 3's copy. -/
abbrev wsem3 : SemLoc sig := SemLoc.dma ((cc0_scratch8.slice (Rect.unit (s := S8) ![3] S1.size inb_S8_S1_3)).squeeze S_ squeezes_S1_S_).sem
/-- The semaphore of slab 4's copy. -/
abbrev wsem4 : SemLoc sig := SemLoc.dma ((cc0_scratch8.slice (Rect.unit (s := S8) ![4] S1.size inb_S8_S1_4)).squeeze S_ squeezes_S1_S_).sem
/-- The semaphore of slab 5's copy. -/
abbrev wsem5 : SemLoc sig := SemLoc.dma ((cc0_scratch8.slice (Rect.unit (s := S8) ![5] S1.size inb_S8_S1_5)).squeeze S_ squeezes_S1_S_).sem
/-- The semaphore of slab 6's copy. -/
abbrev wsem6 : SemLoc sig := SemLoc.dma ((cc0_scratch8.slice (Rect.unit (s := S8) ![6] S1.size inb_S8_S1_6)).squeeze S_ squeezes_S1_S_).sem
/-- The semaphore of slab 7's copy. -/
abbrev wsem7 : SemLoc sig := SemLoc.dma ((cc0_scratch8.slice (Rect.unit (s := S8) ![7] S1.size inb_S8_S1_7)).squeeze S_ squeezes_S1_S_).sem

/-- The weights with 48 rows of zeros below them. -/
def WV (XW : S4304x1152.Idx → Elt F .bf16) : S4352x1152.Idx → Elt F .bf16 := fun i =>
  if h : (i 0).val < 4304 then XW (fun | ⟨0, _⟩ => (⟨(i 0).val, h⟩ : Fin 4304) | ⟨1, _⟩ => (i 1 : Fin 1152))
  else k0_pay56 (F := F) (fun | ⟨0, _⟩ => (⟨((i 0).val - 4304) % 48, Nat.mod_lt _ (by decide)⟩ : Fin 48) | ⟨1, _⟩ => (i 1 : Fin 1152))

/-- A slab of the scratch reads the weights' own rows. -/
theorem WV_slab (XW : S4304x1152.Idx → Elt F .bf16) (o : ℕ) (h h') (x : S544x1152.Idx) :
    WV XW ((Rect.unit (s := S4352x1152) ![o, 0] S544x1152.size h).emb x) = XW ((Rect.unit (s := S4304x1152) ![o, 0] S544x1152.size h').emb x) := by
  have hx : (x 0).val < 544 := (x 0).isLt
  have e0 : o + 544 ≤ 4304 := h' 0
  unfold WV
  refine (dif_pos (show o + 1 * (x 0).val < 4304 by omega)).trans ?_
  refine congrArg XW (funext fun a => ?_)
  match a with
  | ⟨0, _⟩ => exact Fin.ext rfl
  | ⟨1, _⟩ => exact Fin.ext rfl
theorem WV_slab7 (XW : S4304x1152.Idx → Elt F .bf16) (h h') (x : S496x1152.Idx) :
    WV XW ((Rect.unit (s := S4352x1152) ![3808, 0] S496x1152.size h).emb x) = XW ((Rect.unit (s := S4304x1152) ![3808, 0] S496x1152.size h').emb x) := by
  have hx : (x 0).val < 496 := (x 0).isLt
  unfold WV
  refine (dif_pos (show 3808 + 1 * (x 0).val < 4304 by omega)).trans ?_
  refine congrArg XW (funext fun a => ?_)
  match a with
  | ⟨0, _⟩ => exact Fin.ext rfl
  | ⟨1, _⟩ => exact Fin.ext rfl

theorem slab_on (c : Dev nD) (XW : S4304x1152.Idx → Elt F .bf16) (o : ℕ) (h h') (f) (x : S544x1152.Idx → Elt F .bf16)
    (hx : ∀ i, x i = XW ((Rect.unit (s := S4304x1152) ![o, 0] S544x1152.size h').emb i)) (i : S4352x1152.Idx) (h1 : o ≤ (i 0).val) (h2 : (i 0).val < o + 544) :
    ((slab o h).view.writes (Elt F) f [⟨Rect.whole S544x1152, x⟩] : Bf (F := F) c M8) i = WV XW i := by
  have hi : i ∈ (slab o h).view.set := by rw [slab_set, Finset.mem_filter]; exact ⟨Finset.mem_univ _, h1, h2⟩
  obtain ⟨y, rfl⟩ := View.exists_emb_of_mem_set (slab o h).view hi
  refine View.eq_of_read_eq (v := (slab o h).view) (f := ((slab o h).view.writes (Elt F) f [⟨Rect.whole S544x1152, x⟩] : Bf (F := F) c M8)) (g := (WV XW : Bf (F := F) c M8)) ?_
  rw [View.read_writes_whole, hx]
  exact (WV_slab XW o h h' y).symm
theorem slab7_on (c : Dev nD) (XW : S4304x1152.Idx → Elt F .bf16) (f) (x : S496x1152.Idx → Elt F .bf16)
    (hx : ∀ i, x i = XW ((Rect.unit (s := S4304x1152) ![3808, 0] S496x1152.size inb_S4304x1152_S496x1152_3808_0).emb i)) (i : S4352x1152.Idx) (h1 : 3808 ≤ (i 0).val) (h2 : (i 0).val < 4304) :
    (slab7.view.writes (Elt F) f [⟨Rect.whole S496x1152, x⟩] : Bf (F := F) c M8) i = WV XW i := by
  have hi : i ∈ slab7.view.set := by rw [slab7_set, Finset.mem_filter]; exact ⟨Finset.mem_univ _, h1, h2⟩
  obtain ⟨y, rfl⟩ := View.exists_emb_of_mem_set slab7.view hi
  refine View.eq_of_read_eq (v := slab7.view) (f := (slab7.view.writes (Elt F) f [⟨Rect.whole S496x1152, x⟩] : Bf (F := F) c M8)) (g := (WV XW : Bf (F := F) c M8)) ?_
  rw [View.read_writes_whole, hx]
  exact (WV_slab7 XW _ _ y).symm
theorem slab_landed (c : Dev nD) (XW : S4304x1152.Idx → Elt F .bf16) (o : ℕ) (h h') (f) (x : S544x1152.Idx → Elt F .bf16)
    (hx : ∀ i, x i = XW ((Rect.unit (s := S4304x1152) ![o, 0] S544x1152.size h').emb i)) :
    Pt c (slab o h) ((slab o h).view.writes (Elt F) f [⟨Rect.whole S544x1152, x⟩]) ⊢ Pt c (slab o h) (WV XW) :=
  entails_of_eq (pt_of_read c (slab o h) _ _ fun i => by
    rw [View.read_writes_whole, hx]
    exact (WV_slab XW o h h' i).symm)
theorem slab7_landed (c : Dev nD) (XW : S4304x1152.Idx → Elt F .bf16) (f) (x : S496x1152.Idx → Elt F .bf16)
    (hx : ∀ i, x i = XW ((Rect.unit (s := S4304x1152) ![3808, 0] S496x1152.size inb_S4304x1152_S496x1152_3808_0).emb i)) :
    Pt c slab7 (slab7.view.writes (Elt F) f [⟨Rect.whole S496x1152, x⟩]) ⊢ Pt c slab7 (WV XW) :=
  entails_of_eq (pt_of_read c slab7 _ _ fun i => by
    rw [View.read_writes_whole, hx]
    exact (WV_slab7 XW _ _ i).symm)
theorem WV_pad (XW : S4304x1152.Idx → Elt F .bf16) (h) (x : S48x1152.Idx) :
    WV XW ((Rect.unit (s := S4352x1152) ![4304, 0] S48x1152.size h).emb x) = k0_pay56 (F := F) x := by
  have hx : (x 0).val < 48 := (x 0).isLt
  unfold WV
  refine (dif_neg (show ¬ 4304 + 1 * (x 0).val < 4304 by omega)).trans ?_
  refine congrArg (k0_pay56 (F := F)) (funext fun a => ?_)
  match a with
  | ⟨0, _⟩ => exact Fin.ext (show (4304 + 1 * (x 0).val - 4304) % 48 = (x 0).val by omega)
  | ⟨1, _⟩ => exact Fin.ext (show 0 + 1 * (x 1).val = (x 1).val by omega)
theorem padw_landed (c : Dev nD) (XW : S4304x1152.Idx → Elt F .bf16) (f : Bf (F := F) c M8) :
    Pt c padw (padw.view.writes (Elt F) f [⟨Rect.whole S48x1152, k0_pay56 (F := F)⟩]) ⊢ Pt c padw (WV XW) :=
  entails_of_eq (pt_of_read c padw _ _ fun i => by
    rw [View.read_writes_whole]
    exact (WV_pad XW _ i).symm)
theorem padw_write (c : Dev nD) (f : Bf (F := F) c M8) :
    View.write (Elt F) (M8.access (Rect.unit (s := S4352x1152) ![4304, 0] S48x1152.size inb_S4352x1152_S48x1152_4304_0)) f (k0_pay56 (F := F)) Finset.univ
      = (padw.view.writes (Elt F) f [⟨Rect.whole S48x1152, k0_pay56 (F := F)⟩]) :=
  View.write_univ_eq_writes_whole padw.view f [] _

/-- One slab's loop takes the sums on over that slab. -/
theorem ga_step (W V : S4352x1152.Idx → Elt F .bf16) (j0 n N : ℕ) (a acc : FVec F S16x128 .f32) (hI : IsGA j0 V a n acc) (hn : n = N) (hN : j0 + N ≤ 272)
    (hV : ∀ i : S4352x1152.Idx, 16 * j0 ≤ (i 0).val → (i 0).val < 16 * j0 + 16 * N → V i = W i) (ha : a = G W j0) : acc = G W (j0 + N) := by
  subst hn ha
  rw [hI.eq]
  refine GA_eq W V j0 n fun k hk => funext fun i => ?_
  have h0 : (i 0).val < 16 := (i 0).isLt
  unfold wblk
  refine hV _ ?_ ?_
  · show 16 * j0 ≤ (16 * (j0 + k) + (i 0).val) % 4352
    omega
  · show (16 * (j0 + k) + (i 0).val) % 4352 < _
    omega

/-- Rows of slab 0 read alike from two contents alike there. -/
theorem readAt_slab0 (c : Dev nD) (V V' : Bf (F := F) c M8) (o : ℕ) (h) (ho : o + 256 ≤ 544) (hV : ∀ i : S4352x1152.Idx, (i 0).val < 544 → V i = V' i) :
    M8.view.readAt (Elt F) (Rect.unit (s := S4352x1152) ![o, 0] S256x1152.size h).toLoadRect V = M8.view.readAt (Elt F) (Rect.unit (s := S4352x1152) ![o, 0] S256x1152.size h).toLoadRect V' := by
  funext i
  have h0 : (i 0).val < 256 := (i 0).isLt
  rw [View.readAt_apply, View.readAt_apply]
  refine hV _ ?_
  show o + 1 * (i 0).val < 544
  omega

/-- Buffers known by what their views read. -/
theorem whole9_at (c : Dev nD) (x : S1280x1152.Idx → Elt F .bf16) (f : Bf (F := F) c M9) (i : S1280x1152.Idx) : ((M9.view.writes (Elt F) f [⟨Rect.whole S1280x1152, x⟩]) : Bf (F := F) c M9) i = x i := by
  refine View.eq_of_read_eq (v := M9.view) (f := ((M9.view.writes (Elt F) f [⟨Rect.whole S1280x1152, x⟩]) : Bf (F := F) c M9)) (g := (x : Bf (F := F) c M9)) (x := i) ?_
  rw [View.read_writes_whole]
  rfl
theorem rd10 (c : Dev nD) (f g : Bf (F := F) c M10) (h : ∀ i : S1280x1152.Idx, M10.view.read (Elt F) f i = M10.view.read (Elt F) g i) : f = g :=
  funext fun i => View.eq_of_read_eq (v := M10.view) (f := f) (g := g) (x := (i : S1280x1152.Idx)) (h i)
theorem f_C10 (c : Dev nD) (XX) (XG) (V : Bf (F := F) c M9) (hV : ∀ i : S1280x1152.Idx, V i = XX i) (f : Bf (F := F) c M10) (n : ℕ) (hn : n = 20) (h : ∀ i : S1280x1152.Idx, (i 0).val < 64 * n → M10.view.read (Elt F) f i = C10 V XG i) :
    f = C10 XX XG := by
  have e : (V : S1280x1152.Idx → Elt F .bf16) = XX := funext hV
  subst hn
  refine rd10 c f _ fun i => ?_
  have h0 : (i 0).val < 1280 := (i 0).isLt
  refine (h i (by omega)).trans ?_
  rw [e]
  rfl
theorem rd11 (c : Dev nD) (f g : Bf (F := F) c M11) (h : ∀ i : S1280x1152.Idx, M11.view.read (Elt F) f i = M11.view.read (Elt F) g i) : f = g :=
  funext fun i => View.eq_of_read_eq (v := M11.view) (f := f) (g := g) (x := (i : S1280x1152.Idx)) (h i)
theorem f_C11 (c : Dev nD) (XX) (XG) (V : Bf (F := F) c M9) (hV : ∀ i : S1280x1152.Idx, V i = XX i) (f : Bf (F := F) c M11) (n : ℕ) (hn : n = 20) (h : ∀ i : S1280x1152.Idx, (i 0).val < 64 * n → M11.view.read (Elt F) f i = C11 V XG i) :
    f = C11 XX XG := by
  have e : (V : S1280x1152.Idx → Elt F .bf16) = XX := funext hV
  subst hn
  refine rd11 c f _ fun i => ?_
  have h0 : (i 0).val < 1280 := (i 0).isLt
  refine (h i (by omega)).trans ?_
  rw [e]
  rfl
theorem rd12 (c : Dev nD) (f g : Bf (F := F) c M12) (h : ∀ i : S1280x128.Idx, M12.view.read (Elt F) f i = M12.view.read (Elt F) g i) : f = g :=
  funext fun i => View.eq_of_read_eq (v := M12.view) (f := f) (g := g) (x := (i : S1280x128.Idx)) (h i)
theorem f_C12 (c : Dev nD) (XX) (XG) (V : Bf (F := F) c M9) (hV : ∀ i : S1280x1152.Idx, V i = XX i) (f : Bf (F := F) c M12) (n : ℕ) (hn : n = 20) (h : ∀ i : S1280x128.Idx, (i 0).val < 64 * n → M12.view.read (Elt F) f i = C12 V XG i) :
    f = C12 XX XG := by
  have e : (V : S1280x1152.Idx → Elt F .bf16) = XX := funext hV
  subst hn
  refine rd12 c f _ fun i => ?_
  have h0 : (i 0).val < 1280 := (i 0).isLt
  refine (h i (by omega)).trans ?_
  rw [e]
  rfl

/-! ## What the body leaves -/

/-- The norm's weights as loaded. -/
abbrev xg (c : Dev nD) (arg2 : Memref sig .tc .vmem S1x1152 .f32) (f2 : Bf (F := F) c arg2) : Vec F S1x1152 .f32 :=
  arg2.view.readAt (Elt F) (Rect.unit (s := S1x1152) ![0, 0] S1x1152.size inb_S1x1152_S1x1152_0_0).toLoadRect f2
/-- The weights' scale. -/
abbrev gam (XW : S4304x1152.Idx → Elt F .bf16) : Elt F .f32 := k0_pay78 (G (WV XW) 269)
/-- The packed weights, without the padding. -/
def P4 (XW : S4304x1152.Idx → Elt F .bf16) : S4304x288.Idx → Elt F .i8 := fun i =>
  PV (gam XW) (WV XW) (fun | ⟨0, _⟩ => (⟨(i 0).val, Nat.lt_of_lt_of_le (i 0).isLt (by decide)⟩ : Fin 4352) | ⟨1, _⟩ => (i 1 : Fin 288))
/-- 128 rows of the scales, from row `128 j`. -/
def sblk (B : S1280x128.Idx → Elt F .f32) (j : ℕ) : S128x128.Idx → Elt F .f32 := fun i =>
  B (fun | ⟨0, _⟩ => (⟨(128 * j + (i 0).val) % 1280, Nat.mod_lt _ (by decide)⟩ : Fin 1280) | ⟨1, _⟩ => (i 1 : Fin 128))
/-- The scales, one per row, laid out by batch. -/
def SC (B : S1280x128.Idx → Elt F .f32) : S5x256.Idx → Elt F .f32 := fun i =>
  k0_pay59 (sblk B (2 * (i 0).val + (i 1).val / 128)) (fun | ⟨0, _⟩ => (⟨0, by decide⟩ : Fin 1) | ⟨1, _⟩ => (⟨(i 1).val % 128, Nat.mod_lt _ (by decide)⟩ : Fin 128))
theorem readS (c : Dev nD) (B : S1280x128.Idx → Elt F .f32) (j : ℕ) (hj : j < 10) (o : ℕ) (e : o = 128 * j) (h) :
    M12.view.readAt (Elt F) (Rect.unit (s := S1280x128) ![o, 0] S128x128.size h).toLoadRect (B : Bf (F := F) c M12) = sblk B j := by
  subst e
  funext i
  have h0 : (i 0).val < 128 := (i 0).isLt
  rw [View.readAt_apply]
  unfold sblk
  refine congrArg B (funext fun a => ?_)
  match a with
  | ⟨0, _⟩ => refine Fin.ext ?_; show 128 * j + 1 * (i 0).val = (128 * j + (i 0).val) % 1280; omega
  | ⟨1, _⟩ => refine Fin.ext ?_; show 0 + 1 * (i 1).val = (i 1).val; omega
/-- One piece of the scales is the scales' own values there. -/
theorem SC_piece (B : S1280x128.Idx → Elt F .f32) (p q : ℕ) (hp : p < 5) (hq : q < 2) (o1 : ℕ) (e1 : o1 = 128 * q) (h) (x : S1x128.Idx) :
    k0_pay59 (sblk B (2 * p + q)) x = SC B ((Rect.unit (s := S5x256) ![p, o1] S1x128.size h).emb x) := by
  subst e1
  have h0 : (x 0).val < 1 := (x 0).isLt
  have h1 : (x 1).val < 128 := (x 1).isLt
  unfold SC
  have a0 : ((Rect.unit (s := S5x256) ![p, 128 * q] S1x128.size h).emb x 0).val = p := by show p + 1 * (x 0).val = p; omega
  have a1 : ((Rect.unit (s := S5x256) ![p, 128 * q] S1x128.size h).emb x 1).val = 128 * q + (x 1).val := by show 128 * q + 1 * (x 1).val = _; omega
  have b0 : 2 * ((Rect.unit (s := S5x256) ![p, 128 * q] S1x128.size h).emb x 0).val + ((Rect.unit (s := S5x256) ![p, 128 * q] S1x128.size h).emb x 1).val / 128 = 2 * p + q := by
    rw [a0, a1]; omega
  refine (congr (congrArg (fun j => k0_pay59 (sblk B j)) b0) (funext fun a => ?_)).symm
  match a with
  | ⟨0, _⟩ => refine Fin.ext ?_; show 0 = (x 0).val; omega
  | ⟨1, _⟩ => refine Fin.ext ?_; show _ % 128 = (x 1).val; rw [a1]; omega

end Cert.KernelIdeal.Hand
end
-- ==== Proof.KernIR.lean ====
/-
  What the body's tile loop starts from and what it ends with, and the results as the copies out read them.
-/
module

public import proofs.«01_k».proof.Proof.KernIQ

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

section Pack
variable (c : Dev nD) (γ : F .f32) (WV : S4352x1152.Idx → Elt F .bf16) (A : S1280x1152.Idx → Elt F .bf16) (B : S1280x128.Idx → Elt F .f32)

/-- The weights' scratch whole, of its nine pieces. -/
theorem pack_weights (f : Bf (F := F) c M8) :
    iprop(Pt c (slab 0 inb_S4352x1152_S544x1152_0_0) f ∗ Pt c (slab 544 inb_S4352x1152_S544x1152_544_0) f ∗ Pt c (slab 1088 inb_S4352x1152_S544x1152_1088_0) f
      ∗ Pt c (slab 1632 inb_S4352x1152_S544x1152_1632_0) f ∗ Pt c (slab 2176 inb_S4352x1152_S544x1152_2176_0) f ∗ Pt c (slab 2720 inb_S4352x1152_S544x1152_2720_0) f
      ∗ Pt c (slab 3264 inb_S4352x1152_S544x1152_3264_0) f ∗ Pt c slab7 f ∗ Pt c padw f) ⊢ Pt c M8 f :=
  entails_of_eq ((scratch_eq c f).symm.trans (congrArg (fun S => (_ ↦[S]{fullShare} f : sProp 𝕄)) (View.set_whole cc0_scratch0).symm))

/-- The tile loop's start. -/
theorem inv10_start (f14 : Bf (F := F) c M14) (fy0 : Bf (F := F) c (ywin 0)) (fy1 : Bf (F := F) c (ywin 1)) (g0 : Bf (F := F) c (slotM 0)) (g1 : Bf (F := F) c (slotM 1))
    (h14 : ∀ i : S4352x288.Idx, (i 0).val < 512 → M14.view.read (Elt F) f14 i = PV γ WV i)
    (e0 : ∀ i, (slotM 0).view.read (Elt F) g0 i = YT γ WV A B 0 i) (e1 : ∀ i, (slotM 1).view.read (Elt F) g1 i = YT γ WV A B 1 i) :
    iprop(Pt c M8 WV ∗ Pt c M11 A ∗ Pt c M12 B ∗ (∃ f, Pt (F := F) c M13 f) ∗ Pt c M14 f14 ∗ (∃ W, owes (c : Thread nD τ) 0 W)
      ∗ bigSep (Ring.homeSet 2 0) (fun b : Fin 17 => iprop(∃ f, Pt (F := F) c (ywin b) f))
      ∗ Transfers.Flight countersEmb (c : Thread nD τ) (SemLoc.dma (csm 0).sem) () NN iprop(Pt c (ywin 0) (landed c 0 0 fy0 g0) ∗ Pt c (slotM 0) g0)
      ∗ Transfers.Flight countersEmb (c : Thread nD τ) (SemLoc.dma (csm 1).sem) () NN iprop(Pt c (ywin 1) (landed c 1 1 fy1 g1) ∗ Pt c (slotM 1) g1))
      ⊢ inv10 c γ WV A B 0 := by
  unfold inv10 flightP
  rw [show Ring.sl 2 0 = (0 : Fin 2) from by decide, show Ring.sl 2 (0 + 1) = (1 : Fin 2) from by decide, show Ring.bk 17 0 = (0 : Fin 17) from by decide, show Ring.bk 17 (0 + 1) = (1 : Fin 17) from by decide]
  iintro ⟨H8, H11, H12, H13, H14, HW, Hy, HF0, HF1⟩
  isplitl [H8]; · iexact H8
  isplitl [H11]; · iexact H11
  isplitl [H12]; · iexact H12
  isplitl [H13]; · iexact H13
  isplitl [H14]
  · iexists f14; isplitl [H14]; · iexact H14
    ipureintro; intro i hi; exact h14 i (by omega)
  isplitl [HW]; · iexact HW
  isplitl [Hy]
  · ihave H := (show bigSep (Ring.homeSet 2 0) (fun b : Fin 17 => iprop(∃ f, Pt (F := F) c (ywin b) f)) ⊢ bigSep (Ring.homeSet 2 0) (homeY c γ WV A B 0) from
      bigSep_mono fun b _ => entails_of_eq (if_neg (Nat.not_lt_zero _)).symm) $$ Hy
    iexact H
  isplitl [HF0]
  · iexists fy0; iexists g0; isplitr
    · ipureintro; exact e0
    iexact HF0
  · iexists fy1; iexists g1; isplitr
    · ipureintro; exact e1
    iexact HF1

theorem inv10_open : inv10 c γ WV A B 0 ⊢
    iprop(Pt c M8 WV ∗ Pt c M11 A ∗ Pt c M12 B ∗ (∃ f, Pt (F := F) c M13 f)
    ∗ (∃ f : Bf (F := F) c M14, Pt c M14 f ∗ ⌜∀ i : S4352x288.Idx, (i 0).val < 256 * (0 + 2) → M14.view.read (Elt F) f i = PV γ WV i⌝)
    ∗ (∃ W, owes (c : Thread nD τ) 0 W)
    ∗ bigSep (Ring.homeSet 2 0) (homeY c γ WV A B 0)
    ∗ (∃ (f : Bf (F := F) c (ywin (Ring.bk 17 0))) (g : Bf (F := F) c (slotM (Ring.sl 2 0))), ⌜∀ i, (slotM (Ring.sl 2 0)).view.read (Elt F) g i = YT γ WV A B (0) i⌝
      ∗ Transfers.Flight countersEmb (c : Thread nD τ) (SemLoc.dma (csm (Ring.sl 2 0)).sem) () NN iprop(Pt c (ywin (Ring.bk 17 0)) (landed c (Ring.sl 2 0) (Ring.bk 17 0) f g) ∗ Pt c (slotM (Ring.sl 2 0)) g))
    ∗ (∃ (f : Bf (F := F) c (ywin (Ring.bk 17 (0 + 1)))) (g : Bf (F := F) c (slotM (Ring.sl 2 (0 + 1)))), ⌜∀ i, (slotM (Ring.sl 2 (0 + 1))).view.read (Elt F) g i = YT γ WV A B (0 + 1) i⌝
      ∗ Transfers.Flight countersEmb (c : Thread nD τ) (SemLoc.dma (csm (Ring.sl 2 (0 + 1))).sem) () NN iprop(Pt c (ywin (Ring.bk 17 (0 + 1))) (landed c (Ring.sl 2 (0 + 1)) (Ring.bk 17 (0 + 1)) f g) ∗ Pt c (slotM (Ring.sl 2 (0 + 1))) g))) := by
  unfold inv10 flightP
  exact .rfl

/-- After the last two copies: the result's windows all landed. -/
theorem y_landed (k j0 j1 : ℕ) (b0 b1 : Fin 17) (s0 s1 : Fin 2) (hk : k = 15) (hb0 : b0 = 15) (hb1 : b1 = 16) (hj0 : j0 = 15) (hj1 : j1 = 16)
    (f3 : Bf (F := F) c (ywin b0)) (g4 : (slotM s0).view.ty.Contents (Elt F)) (f5 : Bf (F := F) c (ywin b1)) (g6 : (slotM s1).view.ty.Contents (Elt F))
    (h8 : ∀ i, (slotM s0).view.read (Elt F) g4 i = YT γ WV A B j0 i) (h10 : ∀ i, (slotM s1).view.read (Elt F) g6 i = YT γ WV A B j1 i) :
    iprop(bigSep (Ring.homeSet 2 k) (homeY c γ WV A B k) ∗ Pt c (ywin b0) (landed c s0 b0 f3 g4) ∗ Pt c (ywin b1) (landed c s1 b1 f5 g6))
      ⊢ bigSep Finset.univ (fun b : Fin 17 => Pt c (ywin b) (YV γ WV A B)) := by
  subst hk hb0 hb1 hj0 hj1
  iintro ⟨Hy, H0, H1⟩
  ihave H := (show bigSep (Ring.homeSet 2 15) (homeY c γ WV A B 15) ⊢ bigSep (Ring.homeSet 2 15) (fun b : Fin 17 => Pt c (ywin b) (YV γ WV A B)) from
      bigSep_mono fun b hb => entails_of_eq (if_pos (by rw [Ring.mem_homeSet] at hb; have := b.isLt; omega))) $$ Hy
  ihave H0 := (entails_of_eq (landed_eq c γ WV A B 15 f3 _ h8)) $$ H0
  ihave H1 := (entails_of_eq (landed_eq c γ WV A B 16 f5 _ h10)) $$ H1
  ihave HH := homes_last (fun b : Fin 17 => Pt c (ywin b) (YV γ WV A B)) $$ [H H0 H1]
  · isplitl [H0]; · iexact H0
    isplitl [H1]; · iexact H1
    iexact H
  iexact HH
theorem slots_end (s0 s1 : Fin 2) (hs0 : s0 = 1) (hs1 : s1 = 0) (g4 : (slotM s0).view.ty.Contents (Elt F)) (g6 : (slotM s1).view.ty.Contents (Elt F)) :
    iprop(Pt c (slotM s0) g4 ∗ Pt c (slotM s1) g6) ⊢ iprop((∃ f, Pt (F := F) c (slotM 0) f) ∗ (∃ f, Pt (F := F) c (slotM 1) f)) := by
  subst hs0 hs1
  iintro ⟨H0, H1⟩
  isplitl [H1]
  · iexists g6; iexact H1
  iexists g4; iexact H0
end Pack

section Tiles
/-- Tiles 0 and 1, as loaded from slab 0 as its copy left it. -/
theorem tile0_read (c : Dev nD) (XW : S4304x1152.Idx → Elt F .bf16) (x : S544x1152.Idx → Elt F .bf16)
    (hx : ∀ i, x i = XW ((Rect.unit (s := S4304x1152) ![0, 0] S544x1152.size inb_S4304x1152_S544x1152_0_0).emb i)) (f : Bf (F := F) c M8) :
    M8.view.readAt (Elt F) (Rect.unit (s := S4352x1152) ![0, 0] S256x1152.size inb_S4352x1152_S256x1152_0_0).toLoadRect
      ((slab 0 inb_S4352x1152_S544x1152_0_0).view.writes (Elt F) f [⟨Rect.whole S544x1152, x⟩] : Bf (F := F) c M8) = wtile (WV XW) 0 := by
  have hs : ∀ i : S4352x1152.Idx, (i 0).val < 544 → ((slab 0 inb_S4352x1152_S544x1152_0_0).view.writes (Elt F) f [⟨Rect.whole S544x1152, x⟩] : Bf (F := F) c M8) i = WV XW i :=
    fun i h => slab_on c XW 0 inb_S4352x1152_S544x1152_0_0 inb_S4304x1152_S544x1152_0_0 f x hx i (Nat.zero_le _) (by omega)
  generalize ((slab 0 inb_S4352x1152_S544x1152_0_0).view.writes (Elt F) f [⟨Rect.whole S544x1152, x⟩] : Bf (F := F) c M8) = V at hs ⊢
  have e := readAt_slab0 c V (WV XW) 0 inb_S4352x1152_S256x1152_0_0 (by decide) hs
  have e2 := readTile (F := F) (WV XW) 0 (by decide) ![0, 0] (by decide) inb_S4352x1152_S256x1152_0_0
  exact e.trans e2
theorem tile1_read (c : Dev nD) (XW : S4304x1152.Idx → Elt F .bf16) (x : S544x1152.Idx → Elt F .bf16)
    (hx : ∀ i, x i = XW ((Rect.unit (s := S4304x1152) ![0, 0] S544x1152.size inb_S4304x1152_S544x1152_0_0).emb i)) (f : Bf (F := F) c M8) :
    M8.view.readAt (Elt F) (Rect.unit (s := S4352x1152) ![256, 0] S256x1152.size inb_S4352x1152_S256x1152_256_0).toLoadRect
      ((slab 0 inb_S4352x1152_S544x1152_0_0).view.writes (Elt F) f [⟨Rect.whole S544x1152, x⟩] : Bf (F := F) c M8) = wtile (WV XW) 1 := by
  have hs : ∀ i : S4352x1152.Idx, (i 0).val < 544 → ((slab 0 inb_S4352x1152_S544x1152_0_0).view.writes (Elt F) f [⟨Rect.whole S544x1152, x⟩] : Bf (F := F) c M8) i = WV XW i :=
    fun i h => slab_on c XW 0 inb_S4352x1152_S544x1152_0_0 inb_S4304x1152_S544x1152_0_0 f x hx i (Nat.zero_le _) (by omega)
  generalize ((slab 0 inb_S4352x1152_S544x1152_0_0).view.writes (Elt F) f [⟨Rect.whole S544x1152, x⟩] : Bf (F := F) c M8) = V at hs ⊢
  have e := readAt_slab0 c V (WV XW) 256 inb_S4352x1152_S256x1152_256_0 (by decide) hs
  have e2 := readTile (F := F) (WV XW) 1 (by decide) ![256, 0] (by decide) inb_S4352x1152_S256x1152_256_0
  exact e.trans e2
end Tiles

section Out
variable (c : Dev nD) (XW : S4304x1152.Idx → Elt F .bf16)

/-- The packed weights as their copy out reads them. -/
theorem packed_read (f14 : Bf (F := F) c M14) (h14 : ∀ i : S4352x288.Idx, M14.view.read (Elt F) f14 i = PV (gam XW) (WV XW) i) (h hs) (i : S4304x288.Idx) :
    (M14.slice (Rect.unit (s := S4352x288) ![0, 0] S4304x288.size h) hs).view.read (Elt F) f14 i = P4 XW i := by
  refine (h14 ((Rect.unit (s := S4352x288) ![0, 0] S4304x288.size h).emb i)).trans ?_
  unfold P4
  refine congrArg _ (funext fun a => ?_)
  match a with
  | ⟨0, _⟩ => refine Fin.ext ?_; show 0 + 1 * (i 0).val = (i 0).val; omega
  | ⟨1, _⟩ => refine Fin.ext ?_; show 0 + 1 * (i 1).val = (i 1).val; omega
theorem packed_out (f : Bf (F := F) c M4) (x : S4304x288.Idx → Elt F .i8) (hx : ∀ i, x i = P4 XW i) :
    Pt c M4 (M4.view.writes (Elt F) f [⟨Rect.whole S4304x288, x⟩]) ⊢ Pt c M4 (P4 XW) :=
  entails_of_eq (pt_of_read c M4 _ _ fun i => by
    rw [View.read_writes_whole, hx]; rfl)
theorem codes_out (f : Bf (F := F) c M6) (x g : S1280x1152.Idx → Elt F .i8) (hx : ∀ i, x i = g i) :
    Pt c M6 (M6.view.writes (Elt F) f [⟨Rect.whole S1280x1152, x⟩]) ⊢ Pt c M6 g :=
  entails_of_eq (pt_of_read c M6 _ _ fun i => by
    rw [View.read_writes_whole, hx]; rfl)
/-- The weights' scale as stored. -/
theorem gamma_read (arg5 : Memref sig .tc .smem S1x1 .f32) (f : Bf (F := F) c arg5) (x : F .f32) (h) (i : S1x1.Idx) :
    arg5.view.read (Elt F) (arg5.view.writes (Elt F) f [⟨Rect.unit (s := S1x1) ![0, 0] S1x1.size h, fun _ => x⟩]) i = x :=
  View.read_writes_cons_unit_of_mem arg5.view f h (fun _ => x) [] i i rfl fun a => by
    match a with
    | ⟨0, _⟩ => show (i 0).val = 0 + (i 0).val; omega
    | ⟨1, _⟩ => show (i 1).val = 0 + (i 1).val; omega
/-- The scales as the ten stores leave them. -/
theorem scales_read (arg7 : Memref sig .tc .vmem S5x256 .f32) (f : Bf (F := F) c arg7) (B : S1280x128.Idx → Elt F .f32)
    (x0 x1 x2 x3 x4 x5 x6 x7 x8 x9 : S1x128.Idx → Elt F .f32)
    (e0 : x0 = k0_pay59 (sblk B 0)) (e1 : x1 = k0_pay59 (sblk B 1)) (e2 : x2 = k0_pay59 (sblk B 2)) (e3 : x3 = k0_pay59 (sblk B 3)) (e4 : x4 = k0_pay59 (sblk B 4)) (e5 : x5 = k0_pay59 (sblk B 5)) (e6 : x6 = k0_pay59 (sblk B 6)) (e7 : x7 = k0_pay59 (sblk B 7)) (e8 : x8 = k0_pay59 (sblk B 8)) (e9 : x9 = k0_pay59 (sblk B 9)) (i : S5x256.Idx) :
    arg7.view.read (Elt F) (arg7.view.writes (Elt F) f [
      ⟨Rect.unit (s := S5x256) ![4, 128] S1x128.size inb_S5x256_S1x128_4_128, x9⟩,
      ⟨Rect.unit (s := S5x256) ![4, 0] S1x128.size inb_S5x256_S1x128_4_0, x8⟩,
      ⟨Rect.unit (s := S5x256) ![3, 128] S1x128.size inb_S5x256_S1x128_3_128, x7⟩,
      ⟨Rect.unit (s := S5x256) ![3, 0] S1x128.size inb_S5x256_S1x128_3_0, x6⟩,
      ⟨Rect.unit (s := S5x256) ![2, 128] S1x128.size inb_S5x256_S1x128_2_128, x5⟩,
      ⟨Rect.unit (s := S5x256) ![2, 0] S1x128.size inb_S5x256_S1x128_2_0, x4⟩,
      ⟨Rect.unit (s := S5x256) ![1, 128] S1x128.size inb_S5x256_S1x128_1_128, x3⟩,
      ⟨Rect.unit (s := S5x256) ![1, 0] S1x128.size inb_S5x256_S1x128_1_0, x2⟩,
      ⟨Rect.unit (s := S5x256) ![0, 128] S1x128.size inb_S5x256_S1x128_0_128, x1⟩,
      ⟨Rect.unit (s := S5x256) ![0, 0] S1x128.size inb_S5x256_S1x128_0_0, x0⟩]) i = SC B i := by
  refine View.read_writes_apply_of_pieces arg7.view f (SC B) _ ?_ i ?_
  · intro p hp
    rcases List.mem_cons.mp hp with rfl | hp
    · intro x; exact (congrFun e9 x).trans (SC_piece B 4 1 (by decide) (by decide) 128 rfl inb_S5x256_S1x128_4_128 x)
    rcases List.mem_cons.mp hp with rfl | hp
    · intro x; exact (congrFun e8 x).trans (SC_piece B 4 0 (by decide) (by decide) 0 rfl inb_S5x256_S1x128_4_0 x)
    rcases List.mem_cons.mp hp with rfl | hp
    · intro x; exact (congrFun e7 x).trans (SC_piece B 3 1 (by decide) (by decide) 128 rfl inb_S5x256_S1x128_3_128 x)
    rcases List.mem_cons.mp hp with rfl | hp
    · intro x; exact (congrFun e6 x).trans (SC_piece B 3 0 (by decide) (by decide) 0 rfl inb_S5x256_S1x128_3_0 x)
    rcases List.mem_cons.mp hp with rfl | hp
    · intro x; exact (congrFun e5 x).trans (SC_piece B 2 1 (by decide) (by decide) 128 rfl inb_S5x256_S1x128_2_128 x)
    rcases List.mem_cons.mp hp with rfl | hp
    · intro x; exact (congrFun e4 x).trans (SC_piece B 2 0 (by decide) (by decide) 0 rfl inb_S5x256_S1x128_2_0 x)
    rcases List.mem_cons.mp hp with rfl | hp
    · intro x; exact (congrFun e3 x).trans (SC_piece B 1 1 (by decide) (by decide) 128 rfl inb_S5x256_S1x128_1_128 x)
    rcases List.mem_cons.mp hp with rfl | hp
    · intro x; exact (congrFun e2 x).trans (SC_piece B 1 0 (by decide) (by decide) 0 rfl inb_S5x256_S1x128_1_0 x)
    rcases List.mem_cons.mp hp with rfl | hp
    · intro x; exact (congrFun e1 x).trans (SC_piece B 0 1 (by decide) (by decide) 128 rfl inb_S5x256_S1x128_0_128 x)
    rcases List.mem_cons.mp hp with rfl | hp
    · intro x; exact (congrFun e0 x).trans (SC_piece B 0 0 (by decide) (by decide) 0 rfl inb_S5x256_S1x128_0_0 x)
    exact absurd hp List.not_mem_nil
  · have h0 : (i 0).val < 5 := (i 0).isLt
    have h1 : (i 1).val < 256 := (i 1).isLt
    have mk : ∀ (p o : ℕ) (h), (i 0).val = p → o ≤ (i 1).val → (i 1).val < o + 128 → i ∈ (Rect.unit (s := S5x256) ![p, o] S1x128.size h).set := by
      intro p o h a b d
      rw [Rect.mem_set_unit]
      intro ax
      match ax with
      | ⟨0, _⟩ => show p ≤ (i 0).val ∧ (i 0).val < p + 1; omega
      | ⟨1, _⟩ => exact ⟨b, d⟩
    simp only [List.exists_mem_cons_iff, List.not_mem_nil, _root_.false_and, exists_false, _root_.or_false]
    by_cases c1 : (i 1).val < 128
    · rcases (by omega : (i 0).val = 0 ∨ (i 0).val = 1 ∨ (i 0).val = 2 ∨ (i 0).val = 3 ∨ (i 0).val = 4) with a | a | a | a | a
      · exact .inr (.inr (.inr (.inr (.inr (.inr (.inr (.inr (.inr (mk 0 0 _ a (Nat.zero_le _) (by omega))))))))))
      · exact .inr (.inr (.inr (.inr (.inr (.inr (.inr (.inl (mk 1 0 _ a (Nat.zero_le _) (by omega)))))))))
      · exact .inr (.inr (.inr (.inr (.inr (.inl (mk 2 0 _ a (Nat.zero_le _) (by omega)))))))
      · exact .inr (.inr (.inr (.inl (mk 3 0 _ a (Nat.zero_le _) (by omega)))))
      · exact .inr (.inl (mk 4 0 _ a (Nat.zero_le _) (by omega)))
    · rcases (by omega : (i 0).val = 0 ∨ (i 0).val = 1 ∨ (i 0).val = 2 ∨ (i 0).val = 3 ∨ (i 0).val = 4) with a | a | a | a | a
      · exact .inr (.inr (.inr (.inr (.inr (.inr (.inr (.inr (.inl (mk 0 128 _ a (by omega) (by omega))))))))))
      · exact .inr (.inr (.inr (.inr (.inr (.inr (.inl (mk 1 128 _ a (by omega) (by omega))))))))
      · exact .inr (.inr (.inr (.inr (.inl (mk 2 128 _ a (by omega) (by omega))))))
      · exact .inr (.inr (.inl (mk 3 128 _ a (by omega) (by omega))))
      · exact .inl (mk 4 128 _ a (by omega) (by omega))
end Out

end Cert.KernelIdeal.Hand
end
-- ==== Proof.KernI3.lean ====
/-
  The whole body: the copies in, the loops, the first two tiles, the copies out.
-/
module

public import proofs.«01_k».proof.Proof.KernIR

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

section Body
variable (c : Dev nD) (arg2 : Memref sig .tc .vmem S1x1152 .f32) (harg2 : arg2.IsWhole)
  (arg5 : Memref sig .tc .smem S1x1 .f32) (harg5 : arg5.IsWhole)
  (arg7 : Memref sig .tc .vmem S5x256 .f32) (harg7 : arg7.IsWhole)
  (XX : S1280x1152.Idx → Elt F .bf16) (XW : S4304x1152.Idx → Elt F .bf16) (f2 : Bf (F := F) c arg2)

/-- What the body is handed. -/
def PRE : sProp 𝕄 :=
  iprop(Pt c M0 XX
    ∗ Pt c (xslab 0 inb_S4304x1152_S544x1152_0_0) XW
    ∗ Pt c (xslab 544 inb_S4304x1152_S544x1152_544_0) XW
    ∗ Pt c (xslab 1088 inb_S4304x1152_S544x1152_1088_0) XW
    ∗ Pt c (xslab 1632 inb_S4304x1152_S544x1152_1632_0) XW
    ∗ Pt c (xslab 2176 inb_S4304x1152_S544x1152_2176_0) XW
    ∗ Pt c (xslab 2720 inb_S4304x1152_S544x1152_2720_0) XW
    ∗ Pt c (xslab 3264 inb_S4304x1152_S544x1152_3264_0) XW
    ∗ Pt c xslab7 XW
    ∗ Pt c arg2 f2 ∗ (∃ f, Pt (F := F) c (ywin 0) f) ∗ (∃ f, Pt (F := F) c (ywin 1) f)
    ∗ bigSep (Ring.homeSet 2 0) (fun b : Fin 17 => iprop(∃ f, Pt (F := F) c (ywin b) f))
    ∗ (∃ f, Pt (F := F) c M4 f) ∗ (∃ f, Pt (F := F) c arg5 f) ∗ (∃ f, Pt (F := F) c M6 f) ∗ (∃ f, Pt (F := F) c arg7 f)
    ∗ (∃ f, Pt (F := F) c (slab 0 inb_S4352x1152_S544x1152_0_0) f)
    ∗ (∃ f, Pt (F := F) c (slab 544 inb_S4352x1152_S544x1152_544_0) f)
    ∗ (∃ f, Pt (F := F) c (slab 1088 inb_S4352x1152_S544x1152_1088_0) f)
    ∗ (∃ f, Pt (F := F) c (slab 1632 inb_S4352x1152_S544x1152_1632_0) f)
    ∗ (∃ f, Pt (F := F) c (slab 2176 inb_S4352x1152_S544x1152_2176_0) f)
    ∗ (∃ f, Pt (F := F) c (slab 2720 inb_S4352x1152_S544x1152_2720_0) f)
    ∗ (∃ f, Pt (F := F) c (slab 3264 inb_S4352x1152_S544x1152_3264_0) f)
    ∗ (∃ f, Pt (F := F) c slab7 f)
    ∗ (∃ f, Pt (F := F) c padw f) ∗ (∃ f, Pt (F := F) c M9 f) ∗ (∃ f, Pt (F := F) c M10 f) ∗ (∃ f, Pt (F := F) c M11 f)
    ∗ (∃ f, Pt (F := F) c M12 f) ∗ (∃ f, Pt (F := F) c M13 f) ∗ (∃ f, Pt (F := F) c M14 f)
    ∗ (∃ f, Pt (F := F) c (slotM 0) f) ∗ (∃ f, Pt (F := F) c (slotM 1) f)
    ∗ semVal ((c : Thread nD τ), wsem0) 0
    ∗ semVal ((c : Thread nD τ), wsem1) 0
    ∗ semVal ((c : Thread nD τ), wsem2) 0
    ∗ semVal ((c : Thread nD τ), wsem3) 0
    ∗ semVal ((c : Thread nD τ), wsem4) 0
    ∗ semVal ((c : Thread nD τ), wsem5) 0
    ∗ semVal ((c : Thread nD τ), wsem6) 0
    ∗ semVal ((c : Thread nD τ), wsem7) 0
    ∗ semVal ((c : Thread nD τ), SemLoc.dma cc0_scratch9.sem) 0 ∗ semVal ((c : Thread nD τ), SemLoc.dma cc0_scratch10.sem) 0
    ∗ semVal ((c : Thread nD τ), SemLoc.dma cc0_scratch11.sem) 0 ∗ cellP c 0 ∗ cellP c 1 ∗ (∃ W, owes (c : Thread nD τ) 0 W))

/-- What the body leaves. -/
def POST : sProp 𝕄 :=
  iprop(Pt c M0 XX
    ∗ Pt c (xslab 0 inb_S4304x1152_S544x1152_0_0) XW
    ∗ Pt c (xslab 544 inb_S4304x1152_S544x1152_544_0) XW
    ∗ Pt c (xslab 1088 inb_S4304x1152_S544x1152_1088_0) XW
    ∗ Pt c (xslab 1632 inb_S4304x1152_S544x1152_1632_0) XW
    ∗ Pt c (xslab 2176 inb_S4304x1152_S544x1152_2176_0) XW
    ∗ Pt c (xslab 2720 inb_S4304x1152_S544x1152_2720_0) XW
    ∗ Pt c (xslab 3264 inb_S4304x1152_S544x1152_3264_0) XW
    ∗ Pt c xslab7 XW
    ∗ Pt c arg2 f2
    ∗ bigSep Finset.univ (fun b : Fin 17 => Pt c (ywin b) (YV (gam XW) (WV XW) (C11 XX (xg c arg2 f2)) (C12 XX (xg c arg2 f2))))
    ∗ Pt c M4 (P4 XW) ∗ (∃ f : Bf (F := F) c arg5, Pt c arg5 f ∗ ⌜∀ i, arg5.view.read (Elt F) f i = gam XW⌝)
    ∗ Pt c M6 (C10 XX (xg c arg2 f2)) ∗ (∃ f : Bf (F := F) c arg7, Pt c arg7 f ∗ ⌜∀ i, arg7.view.read (Elt F) f i = SC (C12 XX (xg c arg2 f2)) i⌝)
    ∗ Pt c M8 (WV XW) ∗ (∃ f, Pt (F := F) c M9 f) ∗ (∃ f, Pt (F := F) c M10 f) ∗ (∃ f, Pt (F := F) c M11 f)
    ∗ (∃ f, Pt (F := F) c M12 f) ∗ (∃ f, Pt (F := F) c M13 f) ∗ (∃ f, Pt (F := F) c M14 f)
    ∗ (∃ f, Pt (F := F) c (slotM 0) f) ∗ (∃ f, Pt (F := F) c (slotM 1) f)
    ∗ semVal ((c : Thread nD τ), wsem0) 0
    ∗ semVal ((c : Thread nD τ), wsem1) 0
    ∗ semVal ((c : Thread nD τ), wsem2) 0
    ∗ semVal ((c : Thread nD τ), wsem3) 0
    ∗ semVal ((c : Thread nD τ), wsem4) 0
    ∗ semVal ((c : Thread nD τ), wsem5) 0
    ∗ semVal ((c : Thread nD τ), wsem6) 0
    ∗ semVal ((c : Thread nD τ), wsem7) 0
    ∗ semVal ((c : Thread nD τ), SemLoc.dma cc0_scratch9.sem) 0 ∗ semVal ((c : Thread nD τ), SemLoc.dma cc0_scratch10.sem) 0
    ∗ semVal ((c : Thread nD τ), SemLoc.dma cc0_scratch11.sem) 0 ∗ cellP c 0 ∗ cellP c 1 ∗ (∃ W, owes (c : Thread nD τ) 0 W))

set_option maxHeartbeats 1000000 in
set_option pp.deepTerms false in
set_option pp.deepTerms.threshold 14 in
set_option pp.proofs.threshold 0 in
theorem body_run (K : PUnit → sProp 𝕄) :
    iprop(PRE c arg2 arg5 arg7 XX XW f2 ∗ (POST c arg2 arg5 arg7 XX XW f2 -∗ K ⟨⟩)) ⊢ wp frame (wpE (defs₀ (F := F)) Variants.none (c : Thread nD τ) none) Set.univ
      (cc0_bitlinear (F := F) (Memref.whole main_v0) (Memref.isWhole_whole _) (Memref.whole main_arg1) (Memref.isWhole_whole _) arg2 harg2 (Memref.whole main_v2_0) (Memref.isWhole_whole _) (Memref.whole main_v2_1) (Memref.isWhole_whole _) arg5 harg5 (Memref.whole main_v2_3) (Memref.isWhole_whole _) arg7 harg7 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) K := by
  unfold PRE
  simp only [cc0_bitlinear_eq_skeleton]; unfold cc0_bitlinear_skel
  iintro ⟨⟨H0, HX0, HX1, HX2, HX3, HX4, HX5, HX6, HX7, H2, ⟨%fy0, Hy0⟩, ⟨%fy1, Hy1⟩, Hys, ⟨%f4, H4⟩, ⟨%f5, H5⟩, ⟨%f6, H6⟩, ⟨%f7, H7⟩,
    ⟨%fw0, HW0⟩, ⟨%fw1, HW1⟩, ⟨%fw2, HW2⟩, ⟨%fw3, HW3⟩, ⟨%fw4, HW4⟩, ⟨%fw5, HW5⟩, ⟨%fw6, HW6⟩, ⟨%fw7, HW7⟩, ⟨%fp, Hp⟩, ⟨%f9, H9⟩, ⟨%f10, H10⟩, ⟨%f11, H11⟩, ⟨%f12, H12⟩, ⟨%f13, H13⟩, ⟨%f14, H14⟩,
    ⟨%g0, Hs0⟩, ⟨%g1, Hs1⟩, Hq0, Hq1, Hq2, Hq3, Hq4, Hq5, Hq6, Hq7, Hq9, Hq10, Hq11, Hc0, Hc1, ⟨%W, Hw⟩⟩, Hk⟩
  sl_exec
  rename_i u a0 a1 a2 a3 a4 a5 a6 a7
  have f0e : fL0 = C10 XX (xg c arg2 f2) := f_C10 c XX _ _ (fun i => (whole9_at c _ _ i).trans rfl) _ _ (by decide) hL2
  have f1e : fL1 = C11 XX (xg c arg2 f2) := f_C11 c XX _ _ (fun i => (whole9_at c _ _ i).trans rfl) _ _ (by decide) hL4
  have f2e : fL2 = C12 XX (xg c arg2 f2) := f_C12 c XX _ _ (fun i => (whole9_at c _ _ i).trans rfl) _ _ (by decide) hL6
  clear hL2 hL4 hL6
  have b0 : a0 = G (WV XW) (0 + 34) := ga_step (WV XW) _ 0 _ 34 _ _ hL8 (by decide) (by decide) (fun i h1 h2 => slab_on c XW 0 _ inb_S4304x1152_S544x1152_0_0 _ _ (fun _ => rfl) i h1 h2) rfl
  have b1 : a1 = G (WV XW) (34 + 34) := ga_step (WV XW) _ 34 _ 34 _ _ hL10 (by decide) (by decide) (fun i h1 h2 => slab_on c XW 544 _ inb_S4304x1152_S544x1152_544_0 _ _ (fun _ => rfl) i h1 h2) b0
  have b2 : a2 = G (WV XW) (68 + 34) := ga_step (WV XW) _ 68 _ 34 _ _ hL12 (by decide) (by decide) (fun i h1 h2 => slab_on c XW 1088 _ inb_S4304x1152_S544x1152_1088_0 _ _ (fun _ => rfl) i h1 h2) b1
  have b3 : a3 = G (WV XW) (102 + 34) := ga_step (WV XW) _ 102 _ 34 _ _ hL14 (by decide) (by decide) (fun i h1 h2 => slab_on c XW 1632 _ inb_S4304x1152_S544x1152_1632_0 _ _ (fun _ => rfl) i h1 h2) b2
  have b4 : a4 = G (WV XW) (136 + 34) := ga_step (WV XW) _ 136 _ 34 _ _ hL16 (by decide) (by decide) (fun i h1 h2 => slab_on c XW 2176 _ inb_S4304x1152_S544x1152_2176_0 _ _ (fun _ => rfl) i h1 h2) b3
  have b5 : a5 = G (WV XW) (170 + 34) := ga_step (WV XW) _ 170 _ 34 _ _ hL18 (by decide) (by decide) (fun i h1 h2 => slab_on c XW 2720 _ inb_S4304x1152_S544x1152_2720_0 _ _ (fun _ => rfl) i h1 h2) b4
  have b6 : a6 = G (WV XW) (204 + 34) := ga_step (WV XW) _ 204 _ 34 _ _ hL20 (by decide) (by decide) (fun i h1 h2 => slab_on c XW 3264 _ inb_S4304x1152_S544x1152_3264_0 _ _ (fun _ => rfl) i h1 h2) b5
  have b7 : a7 = G (WV XW) 269 := ga_step (WV XW) _ 238 _ 31 _ _ hL22 (by decide) (by decide) (fun i h1 h2 => slab7_on c XW _ _ (fun _ => rfl) i h1 h2) b6
  clear hL8 hL10 hL12 hL14 hL16 hL18 hL20 hL22 b0 b1 b2 b3 b4 b5 b6 a0 a1 a2 a3 a4 a5 a6
  subst f0e f1e f2e b7
  have v0 : body_run.sl.v134 XW = wtile (WV XW) 0 := tile0_read c XW (body_run.sl.dma0_1 XW) (fun _ => rfl) (slab 0 inb_S4352x1152_S544x1152_0_0).view.junk
  have v1 := tile1_read c XW (body_run.sl.dma0_1 XW) (fun _ => rfl) (slab 0 inb_S4352x1152_S544x1152_0_0).view.junk
  have d0 : body_run.sl.v712 XW (G (WV XW) 269) = P0 (gam XW) (wtile (WV XW) 0) := by rw [← v0]; rfl
  have d1 : body_run.sl.v717 XW (G (WV XW) 269) = P1 (gam XW) (wtile (WV XW) 0) := by rw [← v0]; rfl
  have d2 : body_run.sl.v723 XW (G (WV XW) 269) = P2 (gam XW) (wtile (WV XW) 0) := by rw [← v0]; rfl
  have d3 : body_run.sl.v1320 XW (G (WV XW) 269) = P0 (gam XW) (wtile (WV XW) 1) := by rw [← v1]; rfl
  have d4 : body_run.sl.v1325 XW (G (WV XW) 269) = P1 (gam XW) (wtile (WV XW) 1) := by rw [← v1]; rfl
  have d5 : k0_pay169 (body_run.sl.v1328 XW (G (WV XW) 269)) = P2 (gam XW) (wtile (WV XW) 1) := by rw [← v1]; rfl
  have t0 : body_run.sl.v725 XW (G (WV XW) 269) = k0_pay8 (gam XW) (wtile (WV XW) 0) := by
    rw [← v0]; unfold body_run.sl.v725 body_run.sl.H13_1; exact View.readCov_cons_toLoadRect _ _ _ _
  have t1 : body_run.sl.v1333 XW (G (WV XW) 269) = k0_pay8 (gam XW) (wtile (WV XW) 1) := by
    rw [← v1]; unfold body_run.sl.v1333 body_run.sl.H13_2; exact View.readCov_cons_toLoadRect _ _ _ _

  ihave HW0 := slab_landed c XW 0 inb_S4352x1152_S544x1152_0_0 inb_S4304x1152_S544x1152_0_0 (slab 0 inb_S4352x1152_S544x1152_0_0).view.junk (body_run.sl.dma0_1 XW) (fun _ => rfl) $$ HW0
  ihave HW1 := slab_landed c XW 544 inb_S4352x1152_S544x1152_544_0 inb_S4304x1152_S544x1152_544_0 (slab 544 inb_S4352x1152_S544x1152_544_0).view.junk (body_run.sl.dma0_2 XW) (fun _ => rfl) $$ HW1
  ihave HW2 := slab_landed c XW 1088 inb_S4352x1152_S544x1152_1088_0 inb_S4304x1152_S544x1152_1088_0 (slab 1088 inb_S4352x1152_S544x1152_1088_0).view.junk (body_run.sl.dma0_3 XW) (fun _ => rfl) $$ HW2
  ihave HW3 := slab_landed c XW 1632 inb_S4352x1152_S544x1152_1632_0 inb_S4304x1152_S544x1152_1632_0 (slab 1632 inb_S4352x1152_S544x1152_1632_0).view.junk (body_run.sl.dma0_4 XW) (fun _ => rfl) $$ HW3
  ihave HW4 := slab_landed c XW 2176 inb_S4352x1152_S544x1152_2176_0 inb_S4304x1152_S544x1152_2176_0 (slab 2176 inb_S4352x1152_S544x1152_2176_0).view.junk (body_run.sl.dma0_5 XW) (fun _ => rfl) $$ HW4
  ihave HW5 := slab_landed c XW 2720 inb_S4352x1152_S544x1152_2720_0 inb_S4304x1152_S544x1152_2720_0 (slab 2720 inb_S4352x1152_S544x1152_2720_0).view.junk (body_run.sl.dma0_6 XW) (fun _ => rfl) $$ HW5
  ihave HW6 := slab_landed c XW 3264 inb_S4352x1152_S544x1152_3264_0 inb_S4304x1152_S544x1152_3264_0 (slab 3264 inb_S4352x1152_S544x1152_3264_0).view.junk (body_run.sl.dma0_7 XW) (fun _ => rfl) $$ HW6
  ihave HW7 := slab7_landed c XW slab7.view.junk (body_run.sl.dma0_8 XW) (fun _ => rfl) $$ HW7
  ihave Hp := padw_landed c XW fp $$ [Hp]
  · irw [← padw_write c fp]
    iexact Hp
  ihave HM := pack_weights c (WV XW) $$ [HW0 HW1 HW2 HW3 HW4 HW5 HW6 HW7 Hp]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    iexact Hp
  have h14 := packed_ext c (gam XW) (WV XW) 1 _ (fun i hi => packed_ext c (gam XW) (WV XW) 0 f14 (fun i h => absurd h (by omega))
    ![0, 0] ![0, 128] ![0, 256] inb_S4352x288_S256x128_0_0 inb_S4352x288_S256x128_0_128 inb_S4352x288_S256x32_0_256 rfl rfl rfl _ _ _ d0 d1 d2 i hi)
    ![256, 0] ![256, 128] ![256, 256] inb_S4352x288_S256x128_256_0 inb_S4352x288_S256x128_256_128 inb_S4352x288_S256x32_256_256 rfl rfl rfl _ _ _ d3 d4 d5
  have s0 : ∀ i, (slotM 0).view.read (Elt F) (body_run.sl.Hs0_w1 c XW g0 (C11 XX (xg c arg2 f2)) (C12 XX (xg c arg2 f2)) (G (WV XW) 269)) i
      = YT (gam XW) (WV XW) (C11 XX (xg c arg2 f2)) (C12 XX (xg c arg2 f2)) 0 i :=
    slot_stored (gam XW) (WV XW) _ _ 0 0 g0 ![0, 0, 0] inb_S2x1280x256_S1x1280x256_0_0_0 rfl _ _ (congrArg₂ k0_pay55 (readA _ _) t0) (readCol0 _ _)
  have s1 : ∀ i, (slotM 1).view.read (Elt F) (body_run.sl.Hs1_w2 c XW g1 (C11 XX (xg c arg2 f2)) (C12 XX (xg c arg2 f2)) (G (WV XW) 269)) i
      = YT (gam XW) (WV XW) (C11 XX (xg c arg2 f2)) (C12 XX (xg c arg2 f2)) 1 i :=
    slot_stored (gam XW) (WV XW) _ _ 1 1 g1 ![1, 0, 0] inb_S2x1280x256_S1x1280x256_1_0_0 rfl _ _ (congrArg₂ k0_pay55 (readA _ _) t1) (readCol0 _ _)
  ihave Hinv := inv10_start c (gam XW) (WV XW) (C11 XX (xg c arg2 f2)) (C12 XX (xg c arg2 f2)) _ fy0 fy1 _ _ h14 s0 s1 $$ [HM H11 H12 H13 H14 Hw Hys Hc0 Hc1]
  · isplitl [HM]; · iexact HM
    isplitl [H11]; · iexact H11
    isplitl [H12]; · iexact H12
    isplitl [H13]; · iexists _; iexact H13
    isplitl [H14]; · iexact H14
    isplitl [Hw]; · iexists _; iexact Hw
    isplitl [Hys]; · iexact Hys
    isplitl [Hc0]; · iexact Hc0
    iexact Hc1
  clear d0 d1 d2 d3 d4 d5 t0 t1 v0 v1 h14 s0 s1
  ihave Hinv := inv10_open c (gam XW) (WV XW) (C11 XX (xg c arg2 f2)) (C12 XX (xg c arg2 f2)) $$ Hinv
  icases Hinv with ⟨I8, I11, I12, ⟨%i13, I13⟩, ⟨%i14, I14, %hi14⟩, ⟨%W2, IW⟩, Iy, ⟨%if0, %ig0, %ie0, IF0⟩, ⟨%if1, %ig1, %ie1, IF1⟩⟩
  sl_exec
  sl_step
  have hp := packed_read c XW _ (fun i => hL5 i (Nat.lt_of_lt_of_le (show (i 0).val < 4352 from (i 0).isLt) (by decide))) inb_S4352x288_S4304x288_0_0 (fun _ => rfl)
  ihave Hy := y_landed c (k0_pay78 (G (WV XW) 269)) (WV XW) (C11 XX (xg c arg2 f2)) (C12 XX (xg c arg2 f2)) (Scf.trips k0_t10_loop.lb k0_t10_loop.ub k0_t10_loop.st) (Scf.trips k0_t10_loop.lb k0_t10_loop.ub k0_t10_loop.st) ((Scf.trips k0_t10_loop.lb k0_t10_loop.ub k0_t10_loop.st) + 1) (Ring.bk 17 (Scf.trips k0_t10_loop.lb k0_t10_loop.ub k0_t10_loop.st)) (Ring.bk 17 ((Scf.trips k0_t10_loop.lb k0_t10_loop.ub k0_t10_loop.st) + 1)) (Ring.sl 2 (Scf.trips k0_t10_loop.lb k0_t10_loop.ub k0_t10_loop.st)) (Ring.sl 2 ((Scf.trips k0_t10_loop.lb k0_t10_loop.ub k0_t10_loop.st) + 1)) (by decide) (by decide) (by decide) (by decide) (by decide) fL3 gL4 fL5 gL6 hL8 hL10 $$ [Iy IF0_dst IF1_dst]
  · isplitl [Iy]; · iexact Iy
    isplitl [IF0_dst]; · iexact IF0_dst
    iexact IF1_dst
  ihave Hs := slots_end c (Ring.sl 2 (Scf.trips k0_t10_loop.lb k0_t10_loop.ub k0_t10_loop.st)) (Ring.sl 2 ((Scf.trips k0_t10_loop.lb k0_t10_loop.ub k0_t10_loop.st) + 1)) (by decide) (by decide) gL4 gL6 $$ [IF0_src IF1_src]
  · isplitl [IF0_src]; · iexact IF0_src
    iexact IF1_src
  icases Hs with ⟨Hs0, Hs1⟩
  ihave H4 := packed_out c XW f4 (body_run.sl.dma0_10 c fL1) hp $$ H4
  ihave H6 := codes_out c f6 (body_run.sl.dma0_9 c (C10 XX (xg c arg2 f2))) (C10 XX (xg c arg2 f2)) (fun _ => rfl) $$ H6
  iapply Hk
  unfold POST
  isplitl [H0]; · iexact H0
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [H2]; · iexact H2
  isplitl [Hy]; · iexact Hy
  isplitl [H4]; · iexact H4
  isplitl [H5]
  · iexists _; isplitl [H5]; · iexact H5
    ipureintro
    exact gamma_read c arg5 _ _ _
  isplitl [H6]; · iexact H6
  isplitl [H7]
  · iexists _; isplitl [H7]; · iexact H7
    ipureintro
    exact scales_read c arg7 _ (C12 XX (xg c arg2 f2)) _ _ _ _ _ _ _ _ _ _
      (congrArg k0_pay59 (readS c (C12 XX (xg c arg2 f2)) 0 (by decide) 0 rfl inb_S1280x128_S128x128_0_0))
      (congrArg k0_pay59 (readS c (C12 XX (xg c arg2 f2)) 1 (by decide) 128 rfl inb_S1280x128_S128x128_128_0))
      (congrArg k0_pay59 (readS c (C12 XX (xg c arg2 f2)) 2 (by decide) 256 rfl inb_S1280x128_S128x128_256_0))
      (congrArg k0_pay59 (readS c (C12 XX (xg c arg2 f2)) 3 (by decide) 384 rfl inb_S1280x128_S128x128_384_0))
      (congrArg k0_pay59 (readS c (C12 XX (xg c arg2 f2)) 4 (by decide) 512 rfl inb_S1280x128_S128x128_512_0))
      (congrArg k0_pay59 (readS c (C12 XX (xg c arg2 f2)) 5 (by decide) 640 rfl inb_S1280x128_S128x128_640_0))
      (congrArg k0_pay59 (readS c (C12 XX (xg c arg2 f2)) 6 (by decide) 768 rfl inb_S1280x128_S128x128_768_0))
      (congrArg k0_pay59 (readS c (C12 XX (xg c arg2 f2)) 7 (by decide) 896 rfl inb_S1280x128_S128x128_896_0))
      (congrArg k0_pay59 (readS c (C12 XX (xg c arg2 f2)) 8 (by decide) 1024 rfl inb_S1280x128_S128x128_1024_0))
      (congrArg k0_pay59 (readS c (C12 XX (xg c arg2 f2)) 9 (by decide) 1152 rfl inb_S1280x128_S128x128_1152_0))
  isplitl [I8]; · iexact I8
  isplitl [H9]; · iexists _; iexact H9
  isplitl [H10]; · iexists _; iexact H10
  isplitl [I11]; · iexists _; iexact I11
  isplitl [I12]; · iexists _; iexact I12
  isplitl [I13]; · iexists _; iexact I13
  isplitl [I14]; · iexists _; iexact I14
  isplitl [Hs0]; · iexact Hs0
  isplitl [Hs1]; · iexact Hs1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq9]; · iexact Hq9
  isplitl [Hq10]; · iexact Hq10
  isplitl [Hq11]; · iexact Hq11
  isplitl [IF1]; · iexact IF1
  isplitl [IF0]; · iexact IF0
  iexists _; iexact IW
end Body

end Cert.KernelIdeal.Hand
end
-- ==== Proof.KernIF.lean ====
/-
  The launch: the one region around the body, the buffers the body finds and leaves, the run of the whole program, and the
  frame (the program ends, its arguments as they were, every semaphore at zero).
-/
module

public import proofs.«01_k».proof.Proof.KernI3
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the counters the kernel's own transfers ride on. -/
local notation "𝕄" => MT nD τ sig Unit (Elt F) ℕ (Pipeline.UD sig nD τ) ℕ

/-! ## What the region hands the body beside the windows -/

/-- The body's thirteen semaphore cells. -/
abbrev osem0 : Fin 13 → SemLoc sig := fun j => (![SemLoc.dma 3, SemLoc.dma 4, SemLoc.dma 5, SemLoc.dma 6, SemLoc.dma 7,
  SemLoc.dma 8, SemLoc.dma 9, SemLoc.dma 10, SemLoc.dma 11, SemLoc.dma 12, SemLoc.dma 13, SemLoc.dma 14, SemLoc.dma 15] : Fin 13 → SemLoc sig) j
theorem ownSemFacts0 : Pipeline.OwnSemFacts spec0 osem0 := by decide
/-- The arguments the body copies from: the activations reshaped, the weights. -/
def H0 : Finset (Ref sig .tc) := {main_v0, main_arg1}
/-- The results the body copies out itself: `y`, the packed weights, the activations' codes. -/
def R0 : Finset (Ref sig .tc) := {main_v2_0, main_v2_1, main_v2_3}
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), wsem0) 0 ∗ semVal ((c : Thread nD τ), wsem1) 0 ∗ semVal ((c : Thread nD τ), wsem2) 0
          ∗ semVal ((c : Thread nD τ), wsem3) 0 ∗ semVal ((c : Thread nD τ), wsem4) 0 ∗ semVal ((c : Thread nD τ), wsem5) 0
          ∗ semVal ((c : Thread nD τ), wsem6) 0 ∗ semVal ((c : Thread nD τ), wsem7) 0
          ∗ semVal ((c : Thread nD τ), SemLoc.dma cc0_scratch9.sem) 0 ∗ semVal ((c : Thread nD τ), SemLoc.dma cc0_scratch10.sem) 0
          ∗ semVal ((c : Thread nD τ), SemLoc.dma cc0_scratch11.sem) 0 ∗ cellP c 0 ∗ cellP c 1) := by
  rw [Pipeline.ownSems0_eq_of_list c osem0 [0, 1, 2, 3, 4, 5, 6, 7, 8, 9, 10, 11, 12] (by decide) (by decide)]; rfl
theorem H0_eq (c : Dev nD) (V : (b : Ref sig .tc) → Buf (Elt F) ((c : Thread nD τ).loc b)) :
    (bigSep H0 (fun b => ((c : Thread nD τ).loc b) ↦{fullShare} V b) : sProp 𝕄)
      = iprop((((c : Thread nD τ).loc main_v0) ↦{fullShare} V main_v0) ∗ (((c : Thread nD τ).loc main_arg1) ↦{fullShare} V main_arg1)) := by
  rw [BI.bigSep_eq_bigSepL_of_eq [main_v0, main_arg1] (by decide) (by decide)]; rfl
theorem R0_eq (c : Dev nD) (V : (b : Ref sig .tc) → Buf (Elt F) ((c : Thread nD τ).loc b)) :
    (bigSep R0 (fun b => ((c : Thread nD τ).loc b) ↦{fullShare} V b) : sProp 𝕄)
      = iprop((((c : Thread nD τ).loc main_v2_0) ↦{fullShare} V main_v2_0) ∗ (((c : Thread nD τ).loc main_v2_1) ↦{fullShare} V main_v2_1)
          ∗ (((c : Thread nD τ).loc main_v2_3) ↦{fullShare} V main_v2_3)) := by
  rw [BI.bigSep_eq_bigSepL_of_eq [main_v2_0, main_v2_1, main_v2_3] (by decide) (by decide)]; rfl

/-- A buffer held whole, by its elements or by its location. -/
theorem whole_pt (c : Dev nD) (b : Ref sig .tc) (f : Buf (Elt F) ((c : Thread nD τ).loc b)) :
    (((c : Thread nD τ).loc b) ↦{fullShare} f : sProp 𝕄) = (((c : Thread nD τ).loc b) ↦[(View.whole b).set]{fullShare} f) :=
  congrArg (fun S => (((c : Thread nD τ).loc b) ↦[S]{fullShare} f : sProp 𝕄)) (View.set_whole b).symm
theorem whole_some (c : Dev nD) (b : Ref sig .tc) :
    (iprop(∃ f : Buf (Elt F) ((c : Thread nD τ).loc b), ((c : Thread nD τ).loc b) ↦{fullShare} f) : sProp 𝕄)
      = iprop(∃ f : Buf (Elt F) ((c : Thread nD τ).loc b), ((c : Thread nD τ).loc b) ↦[(View.whole b).set]{fullShare} f) :=
  congrArg (fun P : Buf (Elt F) ((c : Thread nD τ).loc b) → sProp 𝕄 => iprop(∃ f, P f)) (funext fun f => whole_pt c b f)

/-- The gain as the body loads it is what its staging buffer reads. -/
theorem xg_eq (c : Dev nD) (arg2 : Memref sig .tc .vmem S1x1152 .f32) (f2 : Bf (F := F) c arg2) : xg c arg2 f2 = arg2.view.read (Elt F) f2 :=
  funext fun i => congrArg (arg2.view.read (Elt F) f2) (funext fun a => Fin.ext (by
    match a with
    | ⟨0, _⟩ => show 0 + 1 * (i 0).val = (i 0).val; omega
    | ⟨1, _⟩ => show 0 + 1 * (i 1).val = (i 1).val; omega))

section Run
variable (m : (ℓ : Loc nD τ sig) → Buf (Elt F) ℓ) (ρ : Dev nD → PrngReg)

abbrev XX (c : Dev nD) : S1280x1152.Idx → Elt F .bf16 := V m c main_v0
abbrev XW (c : Dev nD) : S4304x1152.Idx → Elt F .bf16 := V m c main_arg1
abbrev XG (c : Dev nD) (t : Fin cfg0.N) : Vec F S1x1152 .f32 := iblk m c 0 t
/-- The one point. -/
abbrev t0 : Fin cfg0.N := ⟨0, by decide⟩
theorem t_eq (t : Fin cfg0.N) : t = t0 := by revert t; decide

/-- What the body leaves in the buffers it copies out to. -/
def G0 (c : Dev nD) (b : Ref sig .tc) : Buf (Elt F) ((c : Thread nD τ).loc b) :=
  if h : b = main_v2_0 then h ▸ (YV (gam (XW m c)) (WV (XW m c)) (C11 (XX m c) (XG m c t0)) (C12 (XX m c) (XG m c t0)) : Buf (Elt F) ((c : Thread nD τ).loc main_v2_0))
  else if h : b = main_v2_1 then h ▸ (P4 (XW m c) : Buf (Elt F) ((c : Thread nD τ).loc main_v2_1))
  else if h : b = main_v2_3 then h ▸ (C10 (XX m c) (XG m c t0) : Buf (Elt F) ((c : Thread nD τ).loc main_v2_3))
  else V m c b
theorem G0_y (c : Dev nD) : G0 m c main_v2_0 = YV (gam (XW m c)) (WV (XW m c)) (C11 (XX m c) (XG m c t0)) (C12 (XX m c) (XG m c t0)) := by
  unfold G0; rw [dif_pos rfl]
theorem G0_w (c : Dev nD) : G0 m c main_v2_1 = P4 (XW m c) := by
  unfold G0; rw [dif_neg (by decide), dif_pos rfl]
theorem G0_x (c : Dev nD) : G0 m c main_v2_3 = C10 (XX m c) (XG m c t0) := by
  unfold G0; rw [dif_neg (by decide), dif_neg (by decide), dif_pos rfl]

/-- The proof data of the region: the windows' buffers after the body, and what is held beside them before and after. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (fun _ => gam (XW m c) : S1x1.Idx → Elt F .f32)
    | ⟨2, _⟩ => (SC (C12 (XX m c) (XG m c t0)) : S5x256.Idx → Elt F .f32)
  Φ t := if t.val = 0 then Pipeline.ΦDRV osem0 spec0 H0 R0 (V m) (V m) c else Pipeline.ΦDRV osem0 spec0 H0 R0 (V m) (G0 m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = (fun _ => gam (XW m c) : S1x1.Idx → Elt F .f32) := by dsimp only [dats]
theorem after0_2 (c : Dev nD) (t : Fin cfg0.N) : (dats m 0 c).after 2 t = (SC (C12 (XX m c) (XG m c t0)) : S5x256.Idx → Elt F .f32) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

abbrev ms0 (t : Fin cfg0.N) : Memref sig .tc .vmem S1x1152 .f32 := win0_0.stage (cfg0.slots t 0)
abbrev ms1 (t : Fin cfg0.N) : Memref sig .tc .smem S1x1 .f32 := win0_1.stage (cfg0.slots t 1)
abbrev ms2 (t : Fin cfg0.N) : Memref sig .tc .vmem S5x256 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- What is held beside the windows before the body, and after it. -/
theorem Phi_pre (c : Dev nD) (t : Fin cfg0.N) : (dats m 0 c).Φ t.castSucc = Pipeline.ΦDRV osem0 spec0 H0 R0 (V m) (V m) c := by
  rw [t_eq t]; dsimp only [dats]; exact if_pos rfl
theorem Phi_post (c : Dev nD) (t : Fin cfg0.N) : (dats m 0 c).Φ t.succ = Pipeline.ΦDRV osem0 spec0 H0 R0 (V m) (G0 m) c := by
  rw [t_eq t]; dsimp only [dats]; exact if_neg Nat.one_ne_zero

end Run

/-- Windows of `y` held at known contents are held at some. -/
theorem ys_some (c : Dev nD) (f : Bf (F := F) c M3) :
    (bigSep (Ring.homeSet 2 0) (fun b : Fin 17 => Pt c (ywin b) f) : sProp 𝕄) ⊢ bigSep (Ring.homeSet 2 0) (fun b : Fin 17 => iprop(∃ f, Pt (F := F) c (ywin b) f)) :=
  bigSep_mono fun b _ => (show (Pt c (ywin b) f : sProp 𝕄) ⊢ iprop(∃ f, Pt (F := F) c (ywin b) f) from by iintro H; iexists f; iexact H)

/-- The pieces that enter the body, from the buffers held whole. -/
theorem enter (c : Dev nD) (arg2 : Memref sig .tc .vmem S1x1152 .f32) (arg5 : Memref sig .tc .smem S1x1 .f32) (arg7 : Memref sig .tc .vmem S5x256 .f32)
    (Vc : (b : Ref sig .tc) → Buf (Elt F) ((c : Thread nD τ).loc b)) (f2 : Bf (F := F) c arg2) (f5 : Bf (F := F) c arg5) (f7 : Bf (F := F) c arg7) :
    iprop((Pipeline.scopedRest (Ix := Unit) (Name := ℕ) (U := Pipeline.UD sig nD τ) (Lvl := ℕ) (Val := Elt F) spec0 c
        ∗ Pipeline.ownSems0 (Ix := Unit) (Name := ℕ) (U := Pipeline.UD sig nD τ) (Lvl := ℕ) (Val := Elt F) (τ := τ) osem0 c
        ∗ (bigSep H0 fun b => ((c : Thread nD τ).loc b) ↦{fullShare} Vc b) ∗ bigSep R0 fun b => ((c : Thread nD τ).loc b) ↦{fullShare} Vc b)
      ∗ (∃ W, owes (c : Thread nD τ) 0 W) ∗ Pt c arg2 f2 ∗ Pt c arg5 f5 ∗ Pt c arg7 f7)
      ⊢ (PRE c arg2 arg5 arg7 (Vc main_v0) (Vc main_arg1) f2 : sProp 𝕄) := by
  rw [ownSems00_eq, H0_eq, R0_eq, scopedRest0_eq, weights_eq, y_eq, homes_zero, whole_pt c main_v0, whole_pt c main_v2_1, whole_pt c main_v2_3]
  rw [whole_some c cc0_scratch1, whole_some c cc0_scratch2, whole_some c cc0_scratch3, whole_some c cc0_scratch4, whole_some c cc0_scratch5, whole_some c cc0_scratch6]
  unfold PRE
  iintro ⟨⟨⟨⟨%f8, S0⟩, S1, S2, S3, S4, S5, S6, S7⟩, ⟨Q0, Q1, Q2, Q3, Q4, Q5, Q6, Q7, Q8, Q9, Q10, Q11, Q12⟩, ⟨X, HX0, HX1, HX2, HX3, HX4, HX5, HX6, HX7⟩, ⟨⟨Y0, Y1, Y⟩, H4, H6⟩⟩, HW, H2, H5, H7⟩
  ihave S0 := (entails_of_eq (scratch_eq c f8)) $$ S0
  icases S0 with ⟨T0, T1, T2, T3, T4, T5, T6, T7, T8⟩
  ihave S7 := slots_split c $$ S7
  icases S7 with ⟨K0, K1⟩
  isplitl [X]; · iexact X
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [H2]; · iexact H2
  isplitl [Y0]; · iexists _; iexact Y0
  isplitl [Y1]; · iexists _; iexact Y1
  isplitl [Y]; · iapply (ys_some c (Vc main_v2_0)); iexact Y
  isplitl [H4]; · iexists _; iexact H4
  isplitl [H5]; · iexists _; iexact H5
  isplitl [H6]; · iexists _; iexact H6
  isplitl [H7]; · iexists _; iexact H7
  isplitl [T0]; · iexists _; iexact T0
  isplitl [T1]; · iexists _; iexact T1
  isplitl [T2]; · iexists _; iexact T2
  isplitl [T3]; · iexists _; iexact T3
  isplitl [T4]; · iexists _; iexact T4
  isplitl [T5]; · iexists _; iexact T5
  isplitl [T6]; · iexists _; iexact T6
  isplitl [T7]; · iexists _; iexact T7
  isplitl [T8]; · iexists _; iexact T8
  isplitl [S1]; · iexact S1
  isplitl [S2]; · iexact S2
  isplitl [S3]; · iexact S3
  isplitl [S4]; · iexact S4
  isplitl [S5]; · iexact S5
  isplitl [S6]; · iexact S6
  isplitl [K0]; · iexact K0
  isplitl [K1]; · iexact K1
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  iexact HW

/-- The buffers held whole again, from the pieces the body leaves. -/
theorem leave (c : Dev nD) (arg2 : Memref sig .tc .vmem S1x1152 .f32) (arg5 : Memref sig .tc .smem S1x1 .f32) (arg7 : Memref sig .tc .vmem S5x256 .f32)
    (Vc Gc : (b : Ref sig .tc) → Buf (Elt F) ((c : Thread nD τ).loc b)) (f2 : Bf (F := F) c arg2)
    (gy : Gc main_v2_0 = YV (gam (Vc main_arg1)) (WV (Vc main_arg1)) (C11 (Vc main_v0) (xg c arg2 f2)) (C12 (Vc main_v0) (xg c arg2 f2)))
    (gw : Gc main_v2_1 = P4 (Vc main_arg1)) (gx : Gc main_v2_3 = C10 (Vc main_v0) (xg c arg2 f2)) :
    (POST c arg2 arg5 arg7 (Vc main_v0) (Vc main_arg1) f2 : sProp 𝕄) ⊢
    iprop((Pipeline.scopedRest (Ix := Unit) (Name := ℕ) (U := Pipeline.UD sig nD τ) (Lvl := ℕ) (Val := Elt F) spec0 c
        ∗ Pipeline.ownSems0 (Ix := Unit) (Name := ℕ) (U := Pipeline.UD sig nD τ) (Lvl := ℕ) (Val := Elt F) (τ := τ) osem0 c
        ∗ (bigSep H0 fun b => ((c : Thread nD τ).loc b) ↦{fullShare} Vc b) ∗ bigSep R0 fun b => ((c : Thread nD τ).loc b) ↦{fullShare} Gc b)
      ∗ (∃ W, owes (c : Thread nD τ) 0 W) ∗ Pt c arg2 f2
      ∗ (∃ f : Bf (F := F) c arg5, Pt c arg5 f ∗ ⌜∀ i, arg5.view.read (Elt F) f i = gam (Vc main_arg1)⌝)
      ∗ (∃ f : Bf (F := F) c arg7, Pt c arg7 f ∗ ⌜∀ i, arg7.view.read (Elt F) f i = SC (C12 (Vc main_v0) (xg c arg2 f2)) i⌝)) := by
  rw [ownSems00_eq, H0_eq, R0_eq, scopedRest0_eq, weights_eq, gy, gw, gx, y_eq, whole_pt c main_v0, whole_pt c main_v2_1, whole_pt c main_v2_3]
  rw [whole_some c cc0_scratch0, whole_some c cc0_scratch1, whole_some c cc0_scratch2, whole_some c cc0_scratch3, whole_some c cc0_scratch4, whole_some c cc0_scratch5, whole_some c cc0_scratch6]
  unfold POST
  iintro ⟨X, HX0, HX1, HX2, HX3, HX4, HX5, HX6, HX7, H2, Y, H4, H5, H6, H7, S0, S1, S2, S3, S4, S5, S6, K0, K1, Q0, Q1, Q2, Q3, Q4, Q5, Q6, Q7, Q8, Q9, Q10, Q11, Q12, HW⟩
  isplitl [X HX0 HX1 HX2 HX3 HX4 HX5 HX6 HX7 Y H4 H6 S0 S1 S2 S3 S4 S5 S6 K0 K1 Q0 Q1 Q2 Q3 Q4 Q5 Q6 Q7 Q8 Q9 Q10 Q11 Q12]
  · isplitl [S0 S1 S2 S3 S4 S5 S6 K0 K1]
    · isplitl [S0]; · iexists _; iexact S0
      isplitl [S1]; · iexact S1
      isplitl [S2]; · iexact S2
      isplitl [S3]; · iexact S3
      isplitl [S4]; · iexact S4
      isplitl [S5]; · iexact S5
      isplitl [S6]; · iexact S6
      iapply (slots_join c)
      isplitl [K0]; · iexact K0
      iexact K1
    isplitl [Q0 Q1 Q2 Q3 Q4 Q5 Q6 Q7 Q8 Q9 Q10 Q11 Q12]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      iexact Q12
    isplitl [X HX0 HX1 HX2 HX3 HX4 HX5 HX6 HX7]
    · isplitl [X]; · iexact X
      isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    isplitl [Y]; · iexact Y
    isplitl [H4]; · iexact H4
    iexact H6
  isplitl [HW]; · iexact HW
  isplitl [H2]; · iexact H2
  isplitl [H5]; · iexact H5
  iexact H7

section Run
variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, after0_0, after0_1, after0_2]
  simp only [before0_0]
  unfold Dat.owesAt Pipeline.owesWithin
  rw [show (dats m 0 c).owed t.castSucc = 0 from rfl, show (dats m 0 c).owed t.succ = 0 from rfl]
  unfold Pipeline.ΦDRV
  iintro ⟨HΦ, ⟨%W, -, HW⟩, ⟨%d0, H0⟩, ⟨%d1, H1⟩, ⟨%d2, H2⟩⟩
  unfold owns
  icases H0 with ⟨%f2, %e2, H0⟩
  icases H1 with ⟨%f5, -, H1⟩
  icases H2 with ⟨%f7, -, H2⟩
  have ex : xg c (ms0 t) f2 = XG m c t0 := ((xg_eq c (ms0 t) f2).trans e2).trans (congrArg (fun t => XG m c t) (t_eq t))
  iapply (body_run c (ms0 t) (hstage0_0 0) (ms1 t) (hstage0_1 0) (ms2 t) (hstage0_2 0) (XX m c) (XW m c) f2 _)
  isplitl [HΦ HW H0 H1 H2]
  · iapply (enter c (ms0 t) (ms1 t) (ms2 t) (V m c) f2 f5 f7)
    isplitl [HΦ]; · iexact HΦ
    isplitl [HW]; · iexists W; iexact HW
    isplitl [H0]; · iexact H0
    isplitl [H1]; · iexact H1
    iexact H2
  iintro HP
  ihave HP := (leave c (ms0 t) (ms1 t) (ms2 t) (V m c) (G0 m c) f2 (by rw [ex]; exact G0_y m c) (G0_w m c) (by rw [ex]; exact G0_x m c)) $$ HP
  icases HP with ⟨HΦ, ⟨%W', HW'⟩, H0, ⟨%g5, H1, %e5⟩, ⟨%g7, H2, %e7⟩⟩
  isplitl [HΦ]; · iexact HΦ
  isplitl [HW']
  · iexists W'; isplitr; · ipureintro; exact fun _ _ => Or.inl trivial
    iexact HW'
  isplitl [H0]
  · iexists f2; isplitr; · ipureintro; exact e2
    iexact H0
  isplitl [H1]
  · iexists g5; isplitr; · ipureintro; exact funext e5
    iexact H1
  iexists g7; isplitr
  · ipureintro; rw [← ex]; exact funext e7
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer no window stages holds at the end. -/
abbrev endAt (c : Dev nD) (b : Ref sig .tc) : Buf (Elt F) ((c : Thread nD τ).loc b) :=
  StableHlo.after ([hostOps1] : List (List (HloOp τ sig (Elt F)))).flatten
    (Pipeline.withArrays spec0 c (Pipeline.withR (V0 m c) R0 c (G0 m c)) fun w => (dats m 0 c).arrAt w cfg0.N) (Proc.devRef .tc b)

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endAt m c b)
    ∧ r.2.sem = fun _ => 0) :=
  Pipeline.θ_run_frame_dmaR_aroundV (Q' := _) (hQ' := fun _ h => ⟨fun c => h.1 c, h.2⟩) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G0 m)
    (hmain := hmain m Variants.none) (hA := A_eq m)
    (hin := fun c => entails_of_eq (Phi_pre m c t0).symm) (hout := fun c => entails_of_eq (Phi_post m c t0))

/-! ## The arguments at the end -/

theorem end_keep (c : Dev nD) (b : Ref sig .tc) (h1 : b ≠ main_v3 ∧ b ≠ main_v4 ∧ b ≠ main_v5 ∧ b ≠ main_v6) (hw : ∀ w, Pipeline.arrRef spec0 w ≠ b) (hR : b ∉ R0) :
    endAt m c b = V m c b := by
  unfold endAt
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne h1.1, StableHlo.devRef_ne_of_ne h1.2.1, StableHlo.devRef_ne_of_ne h1.2.2.1, StableHlo.devRef_ne_of_ne h1.2.2.2⟩)),
    Pipeline.withArrays_of_ne _ c _ _ b hw, Pipeline.withR_of_not_mem _ _ _ _ _ hR]

/-- The frame: the program ends, its arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans ((end_keep m c main_arg0 (by decide) (by decide) (by decide)).trans (V_main_arg0 m c)),
      ((h.1 c).2 main_arg1 (Pipeline.mem_restRefs_of main_arg1 (by decide) (by decide))).trans ((end_keep m c main_arg1 (by decide) (by decide) (by decide)).trans (V_main_arg1 m c)),
      ((h.1 c).2 main_arg2 (Pipeline.mem_restRefs_of main_arg2 (by decide) (by decide))).trans ((end_keep m c main_arg2 (by decide) (by decide) (by decide)).trans (V_main_arg2 m c))⟩, h.2⟩) (run_main m ρ)
end Run

end Cert.KernelIdeal.Hand
end
-- ==== Proof.ValK.lean ====
/-
  What the kernel's run leaves in its result buffers, as value functions of the three arguments.
-/
module

public import proofs.«01_k».proof.Proof.KernIF
public import Idealize.ShloMosaic.Lib.Pipeline.ValueKit.Geometry
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F]
variable (m : (ℓ : Loc nD τ sig) → Buf (Elt F) ℓ) (ρ : Dev nD → PrngReg)

abbrev KG (c : Dev nD) : Vec F S1x1152 .f32 := V m c main_v1

theorem XG_eq (c : Dev nD) (t : Fin cfg0.N) : XG m c t = KG m c := by
  obtain rfl := t_eq t
  funext y
  exact congrArg (V m c main_v1) (funext fun a => Fin.ext (by fin_cases a <;> simp <;> rfl))

theorem fin2 (c : Dev nD) : (dats m 0 c).arrAt 2 cfg0.N = SC (C12 (XX m c) (KG m c)) := by
  refine (dats m 0 c).arrAt_eq_of_after_last 2 t0 (by decide +kernel) _ fun j => ?_
  rw [after0_2, XG_eq]
  rfl
theorem fin1 (c : Dev nD) : (dats m 0 c).arrAt 1 cfg0.N = fun _ => gam (XW m c) := by
  refine (dats m 0 c).arrAt_eq_of_after_last 1 t0 (by decide +kernel) _ fun j => ?_
  rw [after0_1]
  rfl

theorem KG_apply (c : Dev nD) (l : Fin 1152) : KG m c (Idealize.ShloMosaic.ix2 0 l) = (m ((c : Thread nD τ).loc main_arg2) : S1152.Idx → Elt F .f32) (Idealize.ShloMosaic.ix1 l) := by
  have e : KG m c = shapeCast S1x1152 (m ((c : Thread nD τ).loc main_arg2) : S1152.Idx → Elt F .f32) shapeCasts_S1152_S1x1152 := rfl
  rw [e]
  generalize (m ((c : Thread nD τ).loc main_arg2) : S1152.Idx → Elt F .f32) = x
  pointwise []
theorem cast_apply {e : EltTy} (x : S5x256x1152.Idx → Elt F e) (r : Fin 1280) (l : Fin 1152) :
    shapeCast S1280x1152 x shapeCasts_S5x256x1152_S1280x1152 (Idealize.ShloMosaic.ix2 r l)
      = x (Idealize.ShloMosaic.ix3 ⟨r.val / 256, by omega⟩ ⟨r.val % 256, by omega⟩ l) := by
  pointwise []
theorem XX_cast (c : Dev nD) : XX m c = shapeCast S1280x1152 (m ((c : Thread nD τ).loc main_arg0) : S5x256x1152.Idx → Elt F .bf16) shapeCasts_S5x256x1152_S1280x1152 := by
  funext i
  rfl

/-- The results the body copies out itself, at the end of the run. -/
theorem end_codes (c : Dev nD) : endAt m c main_v6 = shapeCast S5x256x1152 (C10 (XX m c) (KG m c)) shapeCasts_S1280x1152_S5x256x1152 := by
  have h : (Pipeline.withArrays spec0 c (Pipeline.withR (V0 m c) R0 c (G0 m c)) fun w => (dats m 0 c).arrAt w cfg0.N) (Proc.devRef .tc main_v2_3)
      = C10 (XX m c) (KG m c) := by
    rw [Pipeline.withArrays_of_ne _ c _ _ main_v2_3 (by decide), Pipeline.withR_of_mem _ _ _ _ _ (by decide), G0_x, XG_eq]
  rw [← h]
  unfold endAt
  generalize (Pipeline.withArrays spec0 c (Pipeline.withR (V0 m c) R0 c (G0 m c)) fun w => (dats m 0 c).arrAt w cfg0.N) = W
  funext i
  rfl
theorem end_gamma (c : Dev nD) : endAt m c main_v5 = fun _ => gam (XW m c) := by
  have h : (Pipeline.withArrays spec0 c (Pipeline.withR (V0 m c) R0 c (G0 m c)) fun w => (dats m 0 c).arrAt w cfg0.N) (Proc.devRef .tc (Pipeline.arrRef spec0 1))
      = fun _ => gam (XW m c) :=
    (Pipeline.withArrays_arr spec0 (by decide) c _ _ 1).trans (fin1 m c)
  unfold endAt
  generalize (Pipeline.withArrays spec0 c (Pipeline.withR (V0 m c) R0 c (G0 m c)) fun w => (dats m 0 c).arrAt w cfg0.N) = W at h ⊢
  funext i
  exact congrFun h _
theorem end_prod (c : Dev nD) : endAt m c main_v4
    = shapeCast S5x256x4304 (extractStridedSlice S1280x4304 ![0, 0] (YV (gam (XW m c)) (WV (XW m c)) (C11 (XX m c) (KG m c)) (C12 (XX m c) (KG m c)))
        slices_S1280x4352_S1280x4304_0_0) shapeCasts_S1280x4304_S5x256x4304 := by
  have h : (Pipeline.withArrays spec0 c (Pipeline.withR (V0 m c) R0 c (G0 m c)) fun w => (dats m 0 c).arrAt w cfg0.N) (Proc.devRef .tc main_v2_0)
      = YV (gam (XW m c)) (WV (XW m c)) (C11 (XX m c) (KG m c)) (C12 (XX m c) (KG m c)) := by
    rw [Pipeline.withArrays_of_ne _ c _ _ main_v2_0 (by decide), Pipeline.withR_of_mem _ _ _ _ _ (by decide), G0_y, XG_eq]
  rw [← h]
  unfold endAt
  generalize (Pipeline.withArrays spec0 c (Pipeline.withR (V0 m c) R0 c (G0 m c)) fun w => (dats m 0 c).arrAt w cfg0.N) = W
  funext i
  rfl

end Cert.KernelIdeal.Hand
end
-- ==== Proof.ValR.lean ====
/-
  What the reference's run leaves in its result buffers, as the body's value functions of the three arguments.
-/
module

public import proofs.«01_k».proof.Proof.Gen.ReferenceIdeal.Frame
public import Idealize.ShloMosaic.Lib.Pipeline.ValueKit.Geometry
public import Idealize.ShloMosaic.Lib.Pipeline.ValueKit.Acc
public import Idealize.ShloMosaic.Lib.VecWindow
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F]
variable (m : (ℓ : Loc nD τ sig) → Buf (Elt F) ℓ) (ρ : Dev nD → PrngReg)

abbrev RX (c : Dev nD) : Vec F S5x256x1152 .bf16 := m ((c : Thread nD τ).loc main_arg0)
abbrev RW (c : Dev nD) : Vec F S4304x1152 .bf16 := m ((c : Thread nD τ).loc main_arg1)
abbrev RG (c : Dev nD) : Vec F S1x1152 .f32 := V m c main_v0

/-- The one point. -/
abbrev t0 : Fin cfg0.N := ⟨0, by decide⟩
theorem t_eq (t : Fin cfg0.N) : t = t0 := by revert t; decide

theorem iblk0 (c : Dev nD) (t : Fin cfg0.N) : iblk m c 0 t = RX m c := by
  obtain rfl := t_eq t
  funext y
  unfold RX
  rw [← V_main_arg0 m c]
  exact congrArg (V m c main_arg0) (funext fun a => Fin.ext (by fin_cases a <;> simp <;> rfl))
theorem iblk1 (c : Dev nD) (t : Fin cfg0.N) : iblk m c 1 t = RW m c := by
  obtain rfl := t_eq t
  funext y
  unfold RW
  rw [← V_main_arg1 m c]
  exact congrArg (V m c main_arg1) (funext fun a => Fin.ext (by fin_cases a <;> simp <;> rfl))
theorem iblk2 (c : Dev nD) (t : Fin cfg0.N) : iblk m c 2 t = RG m c := by
  obtain rfl := t_eq t
  funext y
  exact congrArg (V m c main_v0) (funext fun a => Fin.ext (by fin_cases a <;> simp <;> rfl))

abbrev c127 : F .f32 := Scalar.ofBits .f32 0x42FE0000#32

/-- The values the run leaves, of the reshaped gain and the other two arguments. -/
abbrev rScales (X : Vec F S5x256x1152 .bf16) (G : Vec F S1x1152 .f32) : FVec F S5x256 .f32 := k0_pay8 (k0_pay6 X G) (k0_pay7 X G) c127
abbrev rCodes (X : Vec F S5x256x1152 .bf16) (G : Vec F S1x1152 .f32) : IVec S5x256x1152 8 :=
  k0_pay9 (k0_pay5 X G) (k0_pay6 X G) (k0_pay7 X G) c127
abbrev rProd (X : Vec F S5x256x1152 .bf16) (W : Vec F S4304x1152 .bf16) (G : Vec F S1x1152 .f32) : FVec F S5x256x4304 .bf16 :=
  k0_pay10 (k0_pay3 W) (k0_pay4 W) (k0_pay5 X G) (k0_pay6 X G) (k0_pay7 X G) c127

theorem read0 (x : Vec F S5x256x1152 .bf16) : View.read (Elt F) (View.whole cc0_stg0_0) ((Memref.isWhole_whole cc0_stg0_0).unread x) = x :=
  (Memref.isWhole_whole cc0_stg0_0).read_unread x
theorem read1 (x : Vec F S4304x1152 .bf16) : View.read (Elt F) (View.whole cc0_stg1_0) ((Memref.isWhole_whole cc0_stg1_0).unread x) = x :=
  (Memref.isWhole_whole cc0_stg1_0).read_unread x
theorem read2 (x : Vec F S1x1152 .f32) : View.read (Elt F) (View.whole cc0_stg2_0) ((Memref.isWhole_whole cc0_stg2_0).unread x) = x :=
  (Memref.isWhole_whole cc0_stg2_0).read_unread x

theorem out7 (c : Dev nD) (t : Fin cfg0.N) : (outsAt0 m c t).2.2.2.2 = rScales (iblk m c 0 t) (iblk m c 2 t) := by
  unfold outsAt0
  frame_out
  erw [read0, read2]
theorem out6 (c : Dev nD) (t : Fin cfg0.N) : (outsAt0 m c t).2.2.2.1 = rCodes (iblk m c 0 t) (iblk m c 2 t) := by
  unfold outsAt0
  frame_out
  erw [read0, read2]
theorem out3 (c : Dev nD) (t : Fin cfg0.N) : (outsAt0 m c t).1 = rProd (iblk m c 0 t) (iblk m c 1 t) (iblk m c 2 t) := by
  unfold outsAt0
  frame_out
  erw [read0, read1, read2]
theorem out5 (c : Dev nD) (t : Fin cfg0.N) : (outsAt0 m c t).2.2.1 = fun _ => k0_pay3 (iblk m c 1 t) := by
  unfold outsAt0
  frame_out
  funext i
  pointwise []
  erw [read1]

theorem fin7 (c : Dev nD) : (dats m 0 c).arrAt 7 cfg0.N = rScales (RX m c) (RG m c) := by
  refine (dats m 0 c).arrAt_eq_of_after_last 7 t0 (by decide +kernel) _ fun j => ?_
  rw [after0_7, out7, iblk0, iblk2]
  rfl
theorem fin6 (c : Dev nD) : (dats m 0 c).arrAt 6 cfg0.N = rCodes (RX m c) (RG m c) := by
  refine (dats m 0 c).arrAt_eq_of_after_last 6 t0 (by decide +kernel) _ fun j => ?_
  rw [after0_6, out6, iblk0, iblk2]
  rfl
theorem fin3 (c : Dev nD) : (dats m 0 c).arrAt 3 cfg0.N = rProd (RX m c) (RW m c) (RG m c) := by
  refine (dats m 0 c).arrAt_eq_of_after_last 3 t0 (by decide +kernel) _ fun j => ?_
  rw [after0_3, out3, iblk0, iblk1, iblk2]
  rfl
theorem fin5 (c : Dev nD) : (dats m 0 c).arrAt 5 cfg0.N = fun _ => k0_pay3 (RW m c) := by
  refine (dats m 0 c).arrAt_eq_of_after_last 5 t0 (by decide +kernel) _ fun j => ?_
  rw [after0_5, out5, iblk1]
  rfl

/-- The mean absolute weight, reshaped after the call. -/
theorem end_gamma (c : Dev nD) : Pipeline.afterTail₀ cfgs (dats m) 0 (V0 m) [hostOps1] c main_v2 = fun _ => k0_pay3 (RW m c) := by
  have h : (Pipeline.withArrays spec0 c (V0 m c) fun w => (dats m 0 c).arrAt w cfg0.N) (Proc.devRef .tc (Pipeline.arrRef spec0 5))
      = fun _ => k0_pay3 (RW m c) :=
    (Pipeline.withArrays_arr spec0 (by decide) c _ _ 5).trans (fin5 m c)
  show StableHlo.after _ (Pipeline.withArrays spec0 c (V0 m c) fun w => (dats m 0 c).arrAt w cfg0.N) (Proc.devRef .tc main_v2) = _
  generalize (Pipeline.withArrays spec0 c (V0 m c) fun w => (dats m 0 c).arrAt w cfg0.N) = W at h ⊢
  funext i
  exact congrFun h _

/-- The gain, reshaped. -/
theorem RG_apply (c : Dev nD) (l : Fin 1152) : RG m c (ix2 0 l) = (m ((c : Thread nD τ).loc main_arg2) : S1152.Idx → Elt F .f32) (ix1 l) := by
  have e : RG m c = shapeCast S1x1152 (m ((c : Thread nD τ).loc main_arg2) : S1152.Idx → Elt F .f32) shapeCasts_S1152_S1x1152 := rfl
  rw [e]
  pointwise []

end Cert.ReferenceIdeal.Hand
end
-- ==== Proof.Quant.lean ====
/-
  The row quantisation, read down to scalars: the reference's normalised activations, row maxima, scales and codes at a row of the
  activations, and the kernel's on the 64 rows of a block, are one function of the row.
-/
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

namespace Cert.Value

open Idealize.ShloMosaic

/-- A row normalised by its root mean square, times the gain. -/
def rowN (x g : Fin 1152 → Ideal .f32) (l : Fin 1152) : Ideal .f32 :=
  x l * Ideal.rsqrt (Ideal.div (∑ k, x k * x k) (Ideal.ofBits FTy.f32 1150287872#32) + Ideal.ofBits FTy.f32 897988541#32) * g l
/-- Its greatest absolute value. -/
def rowM (x g : Fin 1152 → Ideal .f32) : Ideal .f32 :=
  Finset.fold max (Ideal.ofBits FTy.f32 4286578688#32) (fun l => FloatOps.absf (φ := .f32) (rowN x g l)) Finset.univ
/-- Its scale. -/
def rowS (x g : Fin 1152 → Ideal .f32) : Ideal .f32 :=
  if rowM x g = 0 then 1 else Ideal.div (rowM x g) (Ideal.ofBits FTy.f32 1123942400#32)
/-- Its codes before the conversion. -/
def rowA (x g : Fin 1152 → Ideal .f32) (l : Fin 1152) : Ideal .f32 :=
  min (((127#32).toInt : ℝ) : EReal) (max (((4294967169#32).toInt : ℝ) : EReal)
    (Ideal.liftRound Ideal.roundHalfEven (Ideal.div (rowN x g l) (rowS x g))))
/-- Its codes. -/
def rowQ (x g : Fin 1152 → Ideal .f32) (l : Fin 1152) : BitVec 8 := FloatOps.fptosi (φ := .f32) 8 (rowA x g l)

section Kernel
open Cert.KernelIdeal
variable (g : FVec Ideal S1x1152 .f32) (X : Vec Ideal S64x1152 .bf16) (i : Fin 64) (l : Fin 1152)

theorem kern_norm : Gen.k0_pay1 (F := Ideal) g X (ix2 i l) = rowN (fun l => X (ix2 i l)) (fun l => g (ix2 0 l)) l := by
  pointwise [Gen.k0_pay1, rowN]
theorem kern_sc : Gen.k0_pay2 (F := Ideal) g X (ix2 i 0) = rowS (fun l => X (ix2 i l)) (fun l => g (ix2 0 l)) := by
  unfold rowS rowM
  simp only [← kern_norm]
  pointwise [Gen.k0_pay2]
theorem kern_a : Gen.k0_pay3 (F := Ideal) g X (ix2 i l) = rowA (fun l => X (ix2 i l)) (fun l => g (ix2 0 l)) l := by
  unfold rowA
  simp only [← kern_norm, ← kern_sc]
  pointwise [Gen.k0_pay3]
theorem kern_q : Gen.k0_pay4 (F := Ideal) g X (ix2 i l) = rowQ (fun l => X (ix2 i l)) (fun l => g (ix2 0 l)) l := by
  unfold rowQ
  rw [← kern_a]
  pointwise [Gen.k0_pay4]
theorem kern_b : Gen.k0_pay5 (F := Ideal) g X (ix2 i l) = rowA (fun l => X (ix2 i l)) (fun l => g (ix2 0 l)) l := by
  rw [← kern_a]
  pointwise [Gen.k0_pay5]
end Kernel

section Reference
open Cert.ReferenceIdeal
variable (g : Vec Ideal S1x1152 .f32) (X : Vec Ideal S5x256x1152 .bf16) (a : Fin 5) (i : Fin 256) (l : Fin 1152)

theorem ref_norm : Gen.k0_pay5 (F := Ideal) X g (ix3 a i l) = rowN (fun l => X (ix3 a i l)) (fun l => g (ix2 0 l)) l := by
  pointwise [Gen.k0_pay5, rowN]
theorem ref_max : Gen.k0_pay6 (F := Ideal) X g (ix2 a i) = rowM (fun l => X (ix3 a i l)) (fun l => g (ix2 0 l)) := by
  unfold rowM
  simp only [← ref_norm]
  pointwise [Gen.k0_pay6]
theorem ref_sc : Gen.k0_pay8 (F := Ideal) (Gen.k0_pay6 X g) (Gen.k0_pay7 X g) (Scalar.ofBits .f32 0x42FE0000#32) (ix2 a i)
    = rowS (fun l => X (ix3 a i l)) (fun l => g (ix2 0 l)) := by
  unfold rowS
  rw [← ref_max]
  pointwise [Gen.k0_pay8, Gen.k0_pay7]
theorem ref_q : Gen.k0_pay9 (F := Ideal) (Gen.k0_pay5 X g) (Gen.k0_pay6 X g) (Gen.k0_pay7 X g) (Scalar.ofBits .f32 0x42FE0000#32) (ix3 a i l)
    = rowQ (fun l => X (ix3 a i l)) (fun l => g (ix2 0 l)) l := by
  unfold rowQ rowA
  rw [← ref_norm, ← ref_sc]
  pointwise [Gen.k0_pay9]
end Reference

end Cert.Value
end
-- ==== Proof.Rows.lean ====
/-
  The kernel's codes and scales, row by row, are the reference's.
-/
module

public import proofs.«01_k».proof.Proof.ValK
public import proofs.«01_k».proof.Proof.ValR
public import proofs.«01_k».proof.Proof.Quant

@[expose] public section

set_option maxRecDepth 16384

noncomputable section

namespace Cert.Value

open Idealize.ShloMosaic
open Cert.KernelIdeal.Hand (xblk C10 C11 C12 SC sblk at64 at64s in64)

section Kernel
open Cert.KernelIdeal
variable (X : S1280x1152.Idx → Ideal .bf16) (g : S1x1152.Idx → Ideal .f32)

/-- Row `r` of the activations, and the gain's row. -/
abbrev rowOf (r : Fin 1280) : Fin 1152 → Ideal .f32 := fun l => X (ix2 r l)
abbrev gainOf : Fin 1152 → Ideal .f32 := fun l => g (ix2 0 l)

theorem xblk_row (r : Fin 1280) : (fun l : Fin 1152 => xblk (F := Ideal) X (r.val / 64) (ix2 (in64 r) l)) = rowOf X r := by
  funext l
  have hr := r.isLt
  refine congrArg X (funext fun a => Fin.ext ?_)
  match a with
  | ⟨0, _⟩ => show (64 * (r.val / 64) + r.val % 64) % 1280 = r.val; omega
  | ⟨1, _⟩ => rfl
theorem gain_row : (fun l : Fin 1152 => Gen.k0_pay57 (F := Ideal) g (ix2 0 l)) = gainOf g := by
  funext l
  pointwise [Gen.k0_pay57]
theorem at64_eq (r : Fin 1280) (l : Fin 1152) : at64 r l = ix2 (in64 r) l := by
  funext a
  match a with
  | ⟨0, _⟩ => rfl
  | ⟨1, _⟩ => rfl
theorem at64s_eq (r : Fin 1280) (l : Fin 128) : at64s r l = ix2 (in64 r) l := by
  funext a
  match a with
  | ⟨0, _⟩ => rfl
  | ⟨1, _⟩ => rfl

theorem C10_row (r : Fin 1280) (l : Fin 1152) : C10 (F := Ideal) X g (ix2 r l) = rowQ (rowOf X r) (gainOf g) l := by
  refine (congrArg (Gen.k0_pay4 (F := Ideal) (Gen.k0_pay57 g) (xblk (F := Ideal) X (r.val / 64))) (at64_eq r l)).trans ?_
  rw [kern_q, xblk_row, gain_row]
theorem C11_row (r : Fin 1280) (l : Fin 1152) : C11 (F := Ideal) X g (ix2 r l) = rowA (rowOf X r) (gainOf g) l := by
  refine (congrArg (Gen.k0_pay5 (F := Ideal) (Gen.k0_pay57 g) (xblk (F := Ideal) X (r.val / 64))) (at64_eq r l)).trans ?_
  rw [kern_b, xblk_row, gain_row]
theorem spread (s : FVec Ideal S64x1 .f32) (i : Fin 64) (l : Fin 128) : Gen.k0_pay58 (F := Ideal) s (ix2 i l) = s (ix2 i 0) := by
  pointwise [Gen.k0_pay58]
theorem C12_row (r : Fin 1280) (l : Fin 128) : C12 (F := Ideal) X g (ix2 r l) = rowS (rowOf X r) (gainOf g) := by
  refine (congrArg (Gen.k0_pay58 (F := Ideal) (Gen.k0_pay2 (Gen.k0_pay57 g) (xblk (F := Ideal) X (r.val / 64)))) (at64s_eq r l)).trans ?_
  rw [spread, kern_sc, xblk_row, gain_row]
theorem first_col (B : Vec Ideal S128x128 .f32) (l : Fin 128) : Gen.k0_pay59 (F := Ideal) B (ix2 0 l) = B (ix2 l 0) := by
  pointwise [Gen.k0_pay59]
theorem SC_row (B : S1280x128.Idx → Ideal .f32) (a : Fin 5) (i : Fin 256) :
    SC (F := Ideal) B (ix2 a i) = B (ix2 ⟨256 * a.val + i.val, by omega⟩ 0) := by
  have ha := a.isLt
  have hi := i.isLt
  have e : (ix2 (0 : Fin 1) (⟨i.val % 128, by omega⟩ : Fin 128) : S1x128.Idx)
      = fun | ⟨0, _⟩ => (⟨0, by decide⟩ : Fin 1) | ⟨1, _⟩ => (⟨i.val % 128, by omega⟩ : Fin 128) := by
    funext b
    match b with
    | ⟨0, _⟩ => rfl
    | ⟨1, _⟩ => rfl
  refine (congrArg (Gen.k0_pay59 (F := Ideal) (sblk (F := Ideal) B (2 * a.val + i.val / 128))) e.symm).trans ?_
  rw [first_col]
  refine congrArg B (funext fun b => Fin.ext ?_)
  match b with
  | ⟨0, _⟩ => show (128 * (2 * a.val + i.val / 128) + i.val % 128) % 1280 = 256 * a.val + i.val; omega
  | ⟨1, _⟩ => rfl
end Kernel

/-! ## The results -/

section Results
variable (X : Cert.ReferenceIdeal.S5x256x1152.Idx → Ideal .bf16) (g : Cert.ReferenceIdeal.S1x1152.Idx → Ideal .f32)

/-- The activations with the batch and the row in one axis. -/
abbrev flat : Cert.KernelIdeal.S1280x1152.Idx → Ideal .bf16 :=
  shapeCast Cert.KernelIdeal.S1280x1152 X Cert.KernelIdeal.Gen.shapeCasts_S5x256x1152_S1280x1152

theorem flat_row (a : Fin 5) (i : Fin 256) : rowOf (flat X) ⟨256 * a.val + i.val, by omega⟩ = fun l => X (ix3 a i l) := by
  have hi := i.isLt
  funext l
  refine (Cert.KernelIdeal.Hand.cast_apply (F := Ideal) (e := .bf16) X _ l).trans (congrArg X (funext fun b => Fin.ext ?_))
  match b with
  | ⟨0, _⟩ => show (256 * a.val + i.val) / 256 = a.val; omega
  | ⟨1, _⟩ => show (256 * a.val + i.val) % 256 = i.val; omega
  | ⟨2, _⟩ => rfl

theorem scales_eq : SC (F := Ideal) (C12 (F := Ideal) (flat X) g) = Cert.ReferenceIdeal.Hand.rScales (F := Ideal) X g := by
  funext j
  obtain ⟨a, i, rfl⟩ : ∃ (a : Fin 5) (i : Fin 256), j = ix2 a i := ⟨j 0, j 1, eq_ix2 j⟩
  rw [SC_row, C12_row, flat_row]
  exact (ref_sc g X a i).symm

theorem uncast (v : Cert.KernelIdeal.S1280x1152.Idx → BitVec 8) (a : Fin 5) (i : Fin 256) (l : Fin 1152) :
    shapeCast Cert.KernelIdeal.S5x256x1152 v Cert.KernelIdeal.Gen.shapeCasts_S1280x1152_S5x256x1152 (ix3 a i l)
      = v (ix2 ⟨256 * a.val + i.val, by omega⟩ l) := by
  pointwise []
  exact congrArg (fun r : Fin 1280 => v (ix2 r l)) (Fin.ext (by show a.val * 256 + i.val = 256 * a.val + i.val; omega))
theorem codes_eq : shapeCast Cert.KernelIdeal.S5x256x1152 (C10 (F := Ideal) (flat X) g) Cert.KernelIdeal.Gen.shapeCasts_S1280x1152_S5x256x1152
    = Cert.ReferenceIdeal.Hand.rCodes (F := Ideal) X g := by
  funext j
  obtain ⟨a, i, l, rfl⟩ : ∃ (a : Fin 5) (i : Fin 256) (l : Fin 1152), j = ix3 a i l := ⟨j 0, j 1, j 2, eq_ix3 j⟩
  refine (uncast _ a i l).trans ?_
  rw [C10_row, flat_row]
  exact (ref_q g X a i l).symm
end Results

end Cert.Value
end
-- ==== Proof.Gamma.lean ====
/-
  The mean absolute weight: the kernel's sum, 16 rows at a time and nine lane chunks to a row, is the reference's sum over the
  whole weights.
-/
module

public import proofs.«01_k».proof.Proof.KernIQ
public import proofs.«01_k».proof.Proof.Gen.ReferenceIdeal.Skeleton
public import Idealize.ShloMosaic.Lib.Pointwise

@[expose] public section

set_option maxRecDepth 16384

noncomputable section

namespace Cert.Value

open Idealize.ShloMosaic

/-- A sum over `a` groups of `b` is the double sum. -/
theorem sum_groups {M : Type} [AddCommMonoid M] (a b n : ℕ) (h : n = a * b) (f : ℕ → M) :
    ∑ x : Fin n, f x.val = ∑ j : Fin a, ∑ i : Fin b, f (b * j.val + i.val) := by
  subst h
  rw [← finProdFinEquiv.sum_comp, Fintype.sum_prod_type]
  refine Finset.sum_congr rfl fun j _ => Finset.sum_congr rfl fun i _ => ?_
  rw [finProdFinEquiv_apply_val, Nat.add_comm]

/-- The absolute weight at row `r`, lane `c`. -/
def aw (W : Cert.KernelIdeal.S4304x1152.Idx → Ideal .bf16) (r c : ℕ) : Ideal .f32 :=
  (FloatOps.absf (F := Ideal) (φ := .bf16) (W (ix2 ⟨r % 4304, Nat.mod_lt _ (by decide)⟩ ⟨c % 1152, Nat.mod_lt _ (by decide)⟩)) : Ideal .bf16)

open Cert.KernelIdeal.Hand (G WV wblk gam)

theorem wblk_abs (W : Cert.KernelIdeal.S4304x1152.Idx → Ideal .bf16) (n : ℕ) (hn : n < 269) (i : Fin 16) (c : Fin 1152) :
    FloatOps.absf (F := Ideal) (φ := .bf16) (wblk (F := Ideal) (WV (F := Ideal) W) n (ix2 i c)) = aw W (16 * n + i.val) c.val := by
  have hi := i.isLt
  have hc := c.isLt
  have e0 : (16 * n + i.val) % 4352 = 16 * n + i.val := Nat.mod_eq_of_lt (by omega)
  have e1 : (16 * n + i.val) % 4304 = 16 * n + i.val := Nat.mod_eq_of_lt (by omega)
  unfold aw wblk WV
  refine congrArg (FloatOps.absf (F := Ideal) (φ := .bf16)) ?_
  refine (dif_pos (show (16 * n + i.val) % 4352 < 4304 by omega)).trans ?_
  refine congrArg W (funext fun a => Fin.ext ?_)
  match a with
  | ⟨0, _⟩ => exact e0.trans e1.symm
  | ⟨1, _⟩ => exact (Nat.mod_eq_of_lt hc).symm

theorem kern_step (A : FVec Ideal Cert.KernelIdeal.S16x128 .f32) (W : Cert.KernelIdeal.S4304x1152.Idx → Ideal .bf16) (n : ℕ) (hn : n < 269)
    (i : Fin 16) (l : Fin 128) :
    Cert.KernelIdeal.Gen.k0_pay70 (F := Ideal) A (wblk (F := Ideal) (WV (F := Ideal) W) n) (ix2 i l)
      = A (ix2 i l) + ∑ q ∈ Finset.range 9, aw W (16 * n + i.val) (128 * q + l.val) := by
  pointwise [Cert.KernelIdeal.Gen.k0_pay70]
  rw [wblk_abs W n hn, wblk_abs W n hn, wblk_abs W n hn, wblk_abs W n hn, wblk_abs W n hn, wblk_abs W n hn, wblk_abs W n hn,
    wblk_abs W n hn, wblk_abs W n hn]
  simp only [Finset.sum_range_succ, Finset.sum_range_zero, zero_add, ← add_assoc]
  norm_num
theorem kern_start (i : Fin 16) (l : Fin 128) : Cert.KernelIdeal.Gen.k0_pay69 (F := Ideal) (ix2 i l) = 0 := by
  pointwise [Cert.KernelIdeal.Gen.k0_pay69]
theorem kern_total (A : FVec Ideal Cert.KernelIdeal.S16x128 .f32) :
    Cert.KernelIdeal.Gen.k0_pay78 (F := Ideal) A = Ideal.div (∑ i : Fin 16, ∑ l : Fin 128, A (ix2 i l)) (Ideal.ofBits FTy.f32 0x4A975000#32) := by
  pointwise [Cert.KernelIdeal.Gen.k0_pay78]
theorem kern_sums (W : Cert.KernelIdeal.S4304x1152.Idx → Ideal .bf16) (n : ℕ) (hn : n ≤ 269) (i : Fin 16) (l : Fin 128) :
    G (F := Ideal) (WV (F := Ideal) W) n (ix2 i l) = ∑ j ∈ Finset.range n, ∑ q ∈ Finset.range 9, aw W (16 * j + i.val) (128 * q + l.val) := by
  induction n with
  | zero => rw [Finset.sum_range_zero]; exact kern_start i l
  | succ n ih =>
    rw [Finset.sum_range_succ, ← ih (by omega)]
    exact kern_step _ W n (by omega) i l
theorem ref_total (W : Cert.KernelIdeal.S4304x1152.Idx → Ideal .bf16) :
    Cert.ReferenceIdeal.Gen.k0_pay3 (F := Ideal) W
      = Ideal.div (∑ r : Fin 4304, ∑ c : Fin 1152, aw W r.val c.val) (Ideal.ofBits FTy.f32 0x4A975000#32) := by
  pointwise [Cert.ReferenceIdeal.Gen.k0_pay3, Cert.ReferenceIdeal.Gen.k0_pay2]
  refine congrArg (Ideal.div · _) (Finset.sum_congr rfl fun r _ => Finset.sum_congr rfl fun c _ => ?_)
  unfold aw
  refine congrArg (fun x => FloatOps.absf (F := Ideal) (φ := .bf16) (W x)) (funext fun a => Fin.ext ?_)
  match a with
  | ⟨0, _⟩ => exact (Nat.mod_eq_of_lt r.isLt).symm
  | ⟨1, _⟩ => exact (Nat.mod_eq_of_lt c.isLt).symm

theorem sums_eq (W : Cert.KernelIdeal.S4304x1152.Idx → Ideal .bf16) :
    ∑ i : Fin 16, ∑ l : Fin 128, G (F := Ideal) (WV (F := Ideal) W) 269 (ix2 i l) = ∑ r : Fin 4304, ∑ c : Fin 1152, aw W r.val c.val :=
  calc ∑ i : Fin 16, ∑ l : Fin 128, G (F := Ideal) (WV (F := Ideal) W) 269 (ix2 i l)
      = ∑ i : Fin 16, ∑ l : Fin 128, ∑ j : Fin 269, ∑ q : Fin 9, aw W (16 * j.val + i.val) (128 * q.val + l.val) := by
        refine Finset.sum_congr rfl fun i _ => Finset.sum_congr rfl fun l _ => ?_
        rw [kern_sums W 269 (Nat.le_refl 269) i l, Finset.sum_range]
        exact Finset.sum_congr rfl fun j _ => Finset.sum_range _
    _ = ∑ j : Fin 269, ∑ i : Fin 16, ∑ q : Fin 9, ∑ l : Fin 128, aw W (16 * j.val + i.val) (128 * q.val + l.val) := by
        rw [Finset.sum_comm (γ := Fin 269)]
        refine Finset.sum_congr rfl fun i _ => ?_
        rw [Finset.sum_comm]
        exact Finset.sum_congr rfl fun j _ => Finset.sum_comm
    _ = ∑ r : Fin 4304, ∑ c : Fin 1152, aw W r.val c.val := by
        rw [sum_groups 269 16 4304 (by norm_num) (fun r => ∑ c : Fin 1152, aw W r c.val)]
        refine Finset.sum_congr rfl fun j _ => Finset.sum_congr rfl fun i _ => ?_
        exact (sum_groups 9 128 1152 (by norm_num) (fun c => aw W (16 * j.val + i.val) c)).symm

/-- The two mean absolute weights are one value. -/
theorem gamma_eq (W : Cert.KernelIdeal.S4304x1152.Idx → Ideal .bf16) :
    gam (F := Ideal) W = Cert.ReferenceIdeal.Gen.k0_pay3 (F := Ideal) W := by
  have h : ∑ i : Fin 16, ∑ l : Fin 128, G (F := Ideal) (WV (F := Ideal) W) 269 (ix2 i l) = ∑ r : Fin 4304, ∑ c : Fin 1152, aw W r.val c.val := sums_eq W
  unfold gam
  rw [kern_total, ref_total, h]

end Cert.Value
end
-- ==== Proof.Round.lean ====
/-
  Rounded and clipped values through the integers and back: the codes' words stand for the values the kernel multiplies, and the
  ternary weights by rounding are the ternary weights by thresholds.
-/
module

public import Idealize.ShloMosaic.Lib.Pointwise

@[expose] public section

noncomputable section

namespace Cert.Value

open Idealize.ShloMosaic

theorem cmax (a b : ℝ) : ((max a b : ℝ) : EReal) = max (a : EReal) b := EReal.coe_strictMono.monotone.map_max
theorem cmin (a b : ℝ) : ((min a b : ℝ) : EReal) = min (a : EReal) b := EReal.coe_strictMono.monotone.map_min

/-- Rounded and clipped to `[-n, n]` inside a byte is an integer there. -/
theorem clip_int (n : ℤ) (hn : 0 ≤ n) (v : EReal) :
    ∃ k : ℤ, -n ≤ k ∧ k ≤ n ∧ min ((n : ℝ) : EReal) (max (((-n : ℤ) : ℝ) : EReal) (Ideal.liftRound Ideal.roundHalfEven v)) = ((k : ℝ) : EReal) := by
  have hnn : (((-n : ℤ) : ℝ) : EReal) ≤ ((n : ℝ) : EReal) := EReal.coe_le_coe_iff.mpr (Int.cast_le.mpr (by omega))
  induction v using EReal.rec with
  | bot => exact ⟨-n, le_refl _, by omega, by
      show min ((n : ℝ) : EReal) (max (((-n : ℤ) : ℝ) : EReal) ⊥) = _
      rw [max_eq_left bot_le, min_eq_right hnn]⟩
  | top => exact ⟨n, by omega, le_refl _, by
      show min ((n : ℝ) : EReal) (max (((-n : ℤ) : ℝ) : EReal) ⊤) = _
      rw [max_eq_right le_top, min_eq_left le_top]⟩
  | coe r =>
    refine ⟨min n (max (-n) (Ideal.roundHalfEven r)), by omega, by omega, ?_⟩
    show min ((n : ℝ) : EReal) (max (((-n : ℤ) : ℝ) : EReal) (((Ideal.roundHalfEven r : ℤ) : ℝ) : EReal)) = _
    rw [← cmax, ← cmin, Int.cast_min, Int.cast_max]

/-- An integer of a signed byte comes back from its word. -/
theorem byte_back (k : ℤ) (h0 : -128 ≤ k) (h1 : k ≤ 127) : ((Ideal.fptosi 8 ((k : ℝ) : EReal)).toInt : ℤ) = k := by
  have e : Ideal.toIntClamped (-(2 ^ (8 - 1) : Nat)) ((2 ^ (8 - 1) : Nat) - 1) ((k : ℝ) : EReal) = k := by
    show max _ (min _ (if (0 : ℝ) ≤ (k : ℝ) then ⌊(k : ℝ)⌋ else ⌈(k : ℝ)⌉)) = k
    rw [Int.floor_intCast, Int.ceil_intCast, ite_self]
    norm_num
    omega
  unfold Ideal.fptosi
  rw [e, BitVec.toInt_ofInt]
  rw [Int.bmod_def]
  omega

/-- A clipped value is what its byte stands for. -/
theorem clip_back (n : ℤ) (hn : 0 ≤ n) (h : n ≤ 127) (v x : EReal)
    (hx : x = min ((n : ℝ) : EReal) (max (((-n : ℤ) : ℝ) : EReal) (Ideal.liftRound Ideal.roundHalfEven v))) :
    (((Ideal.fptosi 8 x).toInt : ℝ) : EReal) = x := by
  obtain ⟨k, h0, h1, e⟩ := clip_int n hn v
  rw [hx, e, byte_back k (by omega) (by omega)]

theorem rhe_pos {r : ℝ} (h : 1 / 2 < r) : 1 ≤ Ideal.roundHalfEven r := by
  unfold Ideal.roundHalfEven
  dsimp only
  have f1 := Int.floor_le r
  have f2 := Int.lt_floor_add_one r
  by_cases hf : (1 : ℤ) ≤ ⌊r⌋
  · split
    · exact hf
    · split
      · omega
      · split <;> omega
  · have h0 : ⌊r⌋ = 0 := by
      have : (-1 : ℝ) < (⌊r⌋ : ℝ) := by linarith
      have : (-1 : ℤ) < ⌊r⌋ := by exact_mod_cast this
      omega
    rw [h0]
    rw [if_neg (by push_cast; linarith), if_pos (by push_cast; linarith)]
    norm_num
theorem rhe_neg {r : ℝ} (h : r < -(1 / 2)) : Ideal.roundHalfEven r ≤ -1 := by
  unfold Ideal.roundHalfEven
  dsimp only
  have f1 := Int.floor_le r
  have f2 := Int.lt_floor_add_one r
  have hf : ⌊r⌋ ≤ -1 := by
    have : (⌊r⌋ : ℝ) < 0 := by linarith
    have : ⌊r⌋ < 0 := by exact_mod_cast this
    omega
  by_cases h1 : ⌊r⌋ = -1
  · rw [h1, if_pos (by push_cast; linarith)]
  · split
    · exact hf
    · split
      · omega
      · split <;> omega
theorem rhe_zero {r : ℝ} (h0 : -(1 / 2) ≤ r) (h1 : r ≤ 1 / 2) : Ideal.roundHalfEven r = 0 := by
  unfold Ideal.roundHalfEven
  dsimp only
  have f1 := Int.floor_le r
  have f2 := Int.lt_floor_add_one r
  have g0 : -1 ≤ ⌊r⌋ := by
    have : (-2 : ℝ) < (⌊r⌋ : ℝ) := by linarith
    have : (-2 : ℤ) < ⌊r⌋ := by exact_mod_cast this
    omega
  have g1 : ⌊r⌋ ≤ 0 := by
    have : (⌊r⌋ : ℝ) < 1 := by linarith
    have : ⌊r⌋ < 1 := by exact_mod_cast this
    omega
  obtain h | h : ⌊r⌋ = -1 ∨ ⌊r⌋ = 0 := by omega
  · rw [h, if_neg (by push_cast; linarith)]
    split
    · rfl
    · rw [if_neg (by decide)]; rfl
  · rw [h]
    split
    · rfl
    · rw [if_neg (by push_cast; linarith), if_pos (by decide)]

/-- Rounding `w / g` and clipping to `[-1, 1]` compares `w` with half of `g` on either side, for every `g` above zero. -/
theorem ternary (w g : EReal) (hg : 0 < g) :
    (((Ideal.fptosi 8 (min (((1 : ℤ) : ℝ) : EReal) (max (((-1 : ℤ) : ℝ) : EReal) (Ideal.liftRound Ideal.roundHalfEven (Ideal.div w g))))).toInt : ℝ) : EReal)
      = if g * ((1 / 2 : ℝ) : EReal) < w then 1 else if w < 0 - g * ((1 / 2 : ℝ) : EReal) then ((-1 : ℝ) : EReal) else 0 := by
  rw [clip_back 1 (by norm_num) (by norm_num) (Ideal.div w g) _ rfl]
  have hdiv : Ideal.div w g = w * g⁻¹ := if_neg (ne_of_gt hg)
  rw [hdiv]
  have hh : (0 : ℝ) < 1 / 2 := by norm_num
  induction g using EReal.rec with
  | bot => exact absurd hg (not_lt_of_ge bot_le)
  | top =>
    rw [EReal.inv_top, mul_zero, EReal.top_mul_coe_of_pos hh, if_neg (not_lt_of_ge le_top),
      if_neg (by rw [show (0 : EReal) - ⊤ = ⊥ from rfl]; exact not_lt_of_ge bot_le)]
    have e : Ideal.liftRound Ideal.roundHalfEven 0 = 0 := by
      show (((Ideal.roundHalfEven 0 : ℤ) : ℝ) : EReal) = 0
      rw [rhe_zero (by norm_num) (by norm_num)]
      norm_num
    rw [e]
    norm_num
  | coe γ =>
    have hγ : 0 < γ := EReal.coe_pos.mp hg
    have hi : (0 : ℝ) < γ⁻¹ := inv_pos.mpr hγ
    rw [← EReal.coe_inv, ← EReal.coe_mul, show (0 : EReal) - ((γ * (1 / 2) : ℝ) : EReal) = ((-(γ * (1 / 2)) : ℝ) : EReal) by
      rw [zero_sub, EReal.coe_neg]]
    induction w using EReal.rec with
    | bot =>
      rw [EReal.bot_mul_coe_of_pos hi, if_neg (not_lt_of_ge bot_le), if_pos (EReal.bot_lt_coe _)]
      show min _ (max _ (⊥ : EReal)) = _
      rw [max_eq_left bot_le, ← cmin]
      norm_num
    | top =>
      rw [EReal.top_mul_coe_of_pos hi, if_pos (EReal.coe_lt_top _)]
      show min _ (max _ (⊤ : EReal)) = _
      rw [max_eq_right le_top, min_eq_left le_top]
      norm_num
    | coe w =>
      rw [← EReal.coe_mul]
      show min (((1 : ℤ) : ℝ) : EReal) (max (((-1 : ℤ) : ℝ) : EReal) (((Ideal.roundHalfEven (w * γ⁻¹) : ℤ) : ℝ) : EReal)) = _
      simp only [← cmax, ← cmin, ← Int.cast_max, ← Int.cast_min, EReal.coe_lt_coe_iff]
      have hw : w * γ⁻¹ = w / γ := rfl
      by_cases h1 : γ * (1 / 2) < w
      · rw [if_pos h1]
        have := rhe_pos (r := w * γ⁻¹) (by rw [hw, lt_div_iff₀ hγ]; linarith)
        rw [show min (1 : ℤ) (max (-1) (Ideal.roundHalfEven (w * γ⁻¹))) = 1 by omega]
        norm_num
      · rw [if_neg h1]
        by_cases h2 : w < -(γ * (1 / 2))
        · rw [if_pos h2]
          have := rhe_neg (r := w * γ⁻¹) (by rw [hw, div_lt_iff₀ hγ]; linarith)
          rw [show min (1 : ℤ) (max (-1) (Ideal.roundHalfEven (w * γ⁻¹))) = -1 by omega]
          norm_num
        · rw [if_neg h2]
          have := rhe_zero (r := w * γ⁻¹) (by rw [hw, le_div_iff₀ hγ]; linarith) (by rw [hw, div_le_iff₀ hγ]; linarith)
          rw [this]
          norm_num

end Cert.Value
end
-- ==== Proof.Prod.lean ====
/-
  The product: at every row and output the kernel's sum of products, scaled by the row's scale and the weights', is the reference's.
-/
module

public import proofs.«01_k».proof.Proof.Rows
public import proofs.«01_k».proof.Proof.Gamma
public import proofs.«01_k».proof.Proof.Round

@[expose] public section

set_option maxRecDepth 16384

noncomputable section

namespace Cert.Value

open Idealize.ShloMosaic
open Cert.KernelIdeal.Hand (YV YT WV wtile col0 gam C11 C12)

/-! ## The constants -/

theorem half : Ideal.ofBits .f32 1056964608#32 = (((1 : ℝ) / 2 : ℝ) : EReal) := by
  simp [Ideal.ofBits, Ideal.ieee, -EReal.coe_mul]; norm_num
theorem negOne : Ideal.ofBits .f32 3212836864#32 = ((-1 : ℝ) : EReal) := by
  simp [Ideal.ofBits, Ideal.ieee, -EReal.coe_mul, -EReal.coe_neg]; norm_num
theorem count : Ideal.ofBits .f32 0x4A975000#32 = ((4958208 : ℝ) : EReal) := by
  simp [Ideal.ofBits, Ideal.ieee, -EReal.coe_mul]; norm_num

/-! ## The mean absolute weight is not negative -/

theorem aw_nonneg (W : Cert.KernelIdeal.S4304x1152.Idx → Ideal .bf16) (r c : ℕ) : (0 : EReal) ≤ aw W r c := by
  unfold aw
  generalize W _ = x
  show (0 : EReal) ≤ max (x : EReal) (-x)
  rcases le_total (0 : EReal) x with h | h
  · exact le_max_of_le_left h
  · exact le_max_of_le_right (by have e := EReal.neg_le_neg_iff.mpr h; rwa [neg_zero] at e)
theorem gamma_nonneg (W : Cert.KernelIdeal.S4304x1152.Idx → Ideal .bf16) : (0 : EReal) ≤ Cert.ReferenceIdeal.Gen.k0_pay3 (F := Ideal) W := by
  rw [ref_total, count]
  have h : (0 : EReal) ≤ ∑ r : Fin 4304, ∑ c : Fin 1152, aw W r.val c.val :=
    Finset.sum_nonneg fun r _ => Finset.sum_nonneg fun c _ => aw_nonneg W _ _
  unfold Ideal.div
  rw [if_neg (by norm_num)]
  refine mul_nonneg h ?_
  rw [← EReal.coe_inv]
  exact EReal.coe_nonneg.mpr (by norm_num)

/-! ## The codes as the kernel multiplies them -/

theorem code_val (x g : Fin 1152 → Ideal .f32) (l : Fin 1152) : (((rowQ x g l).toInt : ℝ) : EReal) = rowA x g l :=
  clip_back 127 (by norm_num) (by norm_num) (Ideal.div (rowN x g l) (rowS x g)) _ (by
    unfold rowA
    rw [show (127#32 : BitVec 32).toInt = 127 by decide, show (4294967169#32 : BitVec 32).toInt = -127 by decide])

/-! ## The two products at a row and an output -/

/-- The ternary weight by thresholds. -/
def tern (g w : EReal) : EReal := if g * ((1 / 2 : ℝ) : EReal) < w then 1 else if w < 0 - g * ((1 / 2 : ℝ) : EReal) then ((-1 : ℝ) : EReal) else 0

theorem kern_t (g : Ideal .f32) (B : Vec Ideal Cert.KernelIdeal.S256x1152 .bf16) (r : Fin 256) (o : Fin 1152) :
    Cert.KernelIdeal.Gen.k0_pay8 (F := Ideal) g B (ix2 r o) = tern g (B (ix2 r o)) := by
  pointwise [Cert.KernelIdeal.Gen.k0_pay8, Cert.KernelIdeal.Gen.k0_pay7, Cert.KernelIdeal.Gen.k0_pay6]
  rw [half, negOne]
  rfl
theorem kern_y (g : Ideal .f32) (A : Vec Ideal Cert.KernelIdeal.S1280x1152 .bf16) (B : Vec Ideal Cert.KernelIdeal.S256x1152 .bf16)
    (s : Vec Ideal Cert.KernelIdeal.S1280x1 .f32) (r : Fin 1280) (o : Fin 256) :
    Cert.KernelIdeal.Gen.k0_pay171 (F := Ideal) g (Cert.KernelIdeal.Gen.k0_pay55 A B) s (ix3 0 r o)
      = (∑ x : Fin 1152, A (ix2 r x) * B (ix2 o x)) * s (ix2 r 0) * g := by
  pointwise [Cert.KernelIdeal.Gen.k0_pay171, Cert.KernelIdeal.Gen.k0_pay55]

theorem wtile_row (W : Cert.KernelIdeal.S4304x1152.Idx → Ideal .bf16) (o : Fin 4304) (x : Fin 1152) :
    wtile (F := Ideal) (WV (F := Ideal) W) (o.val / 256) (ix2 ⟨o.val % 256, by omega⟩ x) = W (ix2 o x) := by
  have ho := o.isLt
  have e : (256 * (o.val / 256) + o.val % 256) % 4352 = o.val := by omega
  refine (dif_pos (show (256 * (o.val / 256) + o.val % 256) % 4352 < 4304 by omega)).trans ?_
  refine congrArg W (funext fun a => Fin.ext ?_)
  match a with
  | ⟨0, _⟩ => exact e
  | ⟨1, _⟩ => rfl

theorem YV_row (g : Ideal .f32) (W : Cert.KernelIdeal.S4304x1152.Idx → Ideal .bf16) (A : Cert.KernelIdeal.S1280x1152.Idx → Ideal .bf16)
    (B : Cert.KernelIdeal.S1280x128.Idx → Ideal .f32) (r : Fin 1280) (o : Fin 4304) :
    YV (F := Ideal) g (WV (F := Ideal) W) A B (ix2 r ⟨o.val, by omega⟩)
      = (∑ x : Fin 1152, A (ix2 r x) * tern g (W (ix2 o x))) * B (ix2 r 0) * g := by
  have e : (ix3 (0 : Fin 1) r (⟨o.val % 256, by omega⟩ : Fin 256) : Cert.KernelIdeal.S1x1280x256.Idx)
      = fun | ⟨0, _⟩ => (⟨0, by decide⟩ : Fin 1) | ⟨1, _⟩ => (r : Fin 1280) | ⟨2, _⟩ => (⟨o.val % 256, by omega⟩ : Fin 256) := by
    funext b
    match b with
    | ⟨0, _⟩ => rfl
    | ⟨1, _⟩ => rfl
    | ⟨2, _⟩ => rfl
  have e' : (ix2 r 0 : Cert.KernelIdeal.S1280x128.Idx) = fun | ⟨0, _⟩ => (r : Fin 1280) | ⟨1, _⟩ => (⟨0, by decide⟩ : Fin 128) := by
    funext b
    match b with
    | ⟨0, _⟩ => rfl
    | ⟨1, _⟩ => rfl
  have ec : col0 (F := Ideal) B (ix2 r 0) = B (ix2 r 0) := (congrArg B e').symm
  refine (congrArg (Cert.KernelIdeal.Gen.k0_pay171 (F := Ideal) g (Cert.KernelIdeal.Gen.k0_pay55 (F := Ideal) A
    (Cert.KernelIdeal.Gen.k0_pay8 (F := Ideal) g (wtile (F := Ideal) (WV (F := Ideal) W) (o.val / 256)))) (col0 (F := Ideal) B)) e.symm).trans ?_
  rw [kern_y, ec]
  refine congrArg (fun s : EReal => s * B (ix2 r 0) * g) (Finset.sum_congr rfl fun x _ => ?_)
  rw [kern_t, wtile_row]

theorem ref_t (W : Vec Ideal Cert.ReferenceIdeal.S4304x1152 .bf16) (r : Fin 4304) (o : Fin 1152) (h : (0 : EReal) < Cert.ReferenceIdeal.Gen.k0_pay3 (F := Ideal) W) :
    (((Cert.ReferenceIdeal.Gen.k0_pay4 (F := Ideal) W (ix2 r o)).toInt : ℝ) : EReal) = tern (Cert.ReferenceIdeal.Gen.k0_pay3 (F := Ideal) W) (W (ix2 r o)) := by
  unfold tern
  rw [← ternary _ _ h]
  pointwise [Cert.ReferenceIdeal.Gen.k0_pay4, Cert.ReferenceIdeal.Gen.k0_pay2]
  rw [show (1#32 : BitVec 32).toInt = 1 by decide, show (4294967295#32 : BitVec 32).toInt = -1 by decide]
  rfl
theorem ref_y (g : Ideal .f32) (T : IVec Cert.ReferenceIdeal.S4304x1152 8) (N : FVec Ideal Cert.ReferenceIdeal.S5x256x1152 .f32) (M : FVec Ideal Cert.ReferenceIdeal.S5x256 .f32)
    (z : IVec Cert.ReferenceIdeal.S5x256 1) (k : Ideal .f32) (a : Fin 5) (i : Fin 256) (o : Fin 4304) :
    Cert.ReferenceIdeal.Gen.k0_pay10 (F := Ideal) g T N M z k (ix3 a i o)
      = (∑ x : Fin 1152, (((Cert.ReferenceIdeal.Gen.k0_pay9 (F := Ideal) N M z k (ix3 a i x)).toInt : ℝ) : EReal) * (((T (ix2 o x)).toInt : ℝ) : EReal))
        * Cert.ReferenceIdeal.Gen.k0_pay8 (F := Ideal) M z k (ix2 a i) * g := by
  pointwise [Cert.ReferenceIdeal.Gen.k0_pay10]
  rfl

/-! ## The result -/

theorem unslice (y : Cert.KernelIdeal.S1280x4352.Idx → Ideal .bf16) (a : Fin 5) (i : Fin 256) (o : Fin 4304) :
    shapeCast Cert.KernelIdeal.S5x256x4304 (extractStridedSlice Cert.KernelIdeal.S1280x4304 ![0, 0] y
        Cert.KernelIdeal.Gen.slices_S1280x4352_S1280x4304_0_0) Cert.KernelIdeal.Gen.shapeCasts_S1280x4304_S5x256x4304 (ix3 a i o)
      = y (ix2 ⟨256 * a.val + i.val, by omega⟩ ⟨o.val, by omega⟩) := by
  pointwise []
  exact congrArg (fun r : Fin 1280 => y (ix2 r ⟨o.val, by omega⟩)) (Fin.ext (by show a.val * 256 + i.val = 256 * a.val + i.val; omega))

theorem prod_eq (X : Cert.ReferenceIdeal.S5x256x1152.Idx → Ideal .bf16) (W : Cert.KernelIdeal.S4304x1152.Idx → Ideal .bf16)
    (g : Cert.ReferenceIdeal.S1x1152.Idx → Ideal .f32) :
    shapeCast Cert.KernelIdeal.S5x256x4304 (extractStridedSlice Cert.KernelIdeal.S1280x4304 ![0, 0]
        (YV (F := Ideal) (gam (F := Ideal) W) (WV (F := Ideal) W) (C11 (F := Ideal) (flat X) g) (C12 (F := Ideal) (flat X) g))
        Cert.KernelIdeal.Gen.slices_S1280x4352_S1280x4304_0_0) Cert.KernelIdeal.Gen.shapeCasts_S1280x4304_S5x256x4304
      = Cert.ReferenceIdeal.Hand.rProd (F := Ideal) X W g := by
  funext j
  obtain ⟨a, i, o, rfl⟩ : ∃ (a : Fin 5) (i : Fin 256) (o : Fin 4304), j = ix3 a i o := ⟨j 0, j 1, j 2, eq_ix3 j⟩
  refine (unslice _ a i o).trans ?_
  refine (YV_row _ W _ _ ⟨256 * a.val + i.val, by omega⟩ o).trans (Eq.trans ?_ (ref_y _ _ _ _ _ _ a i o).symm)
  rw [gamma_eq]
  rcases (gamma_nonneg W).eq_or_lt with h | h
  · refine (congrArg (HMul.hMul _) h.symm).trans (Eq.trans ?_ (congrArg (HMul.hMul _) h))
    rw [mul_zero, mul_zero]
  · rw [C12_row, flat_row, ref_sc g X a i]
    refine congrArg (fun s : EReal => s * rowS (fun l => X (ix3 a i l)) (gainOf g) * Cert.ReferenceIdeal.Gen.k0_pay3 (F := Ideal) W)
      (Finset.sum_congr rfl fun x _ => ?_)
    rw [C11_row, flat_row, ref_q g X a i x, code_val, ref_t W o x h]

end Cert.Value
end
-- ==== Proof.Agree.lean ====
/-
  The kernel and the reference, started with the same arguments, end with the same product, mean absolute weight, codes and scales.
-/
module

public import proofs.«01_k».proof.Defs
public import proofs.«01_k».proof.Proof.Gen.KernelIdeal
public import proofs.«01_k».proof.Proof.Gen.ReferenceIdeal
public import proofs.«01_k».proof.Proof.Prod

@[expose] public section

set_option maxRecDepth 16384

noncomputable section

namespace Cert.Value

open Idealize.ShloMosaic Idealize.ShloMosaic.TcCoe Idealize.SL.Sem

section Kernel
open Cert.KernelIdeal Cert.KernelIdeal.Gen Cert.KernelIdeal.Hand
variable (m : (ℓ : Loc nD τ sig) → Buf (Elt Ideal) ℓ) (ρ : Dev nD → PrngReg)

/-- The kernel's arguments, the gain as one row. -/
abbrev argX (c : Dev nD) : Cert.ReferenceIdeal.S5x256x1152.Idx → Ideal .bf16 := m ((c : Thread nD τ).loc main_arg0)
abbrev argW (c : Dev nD) : S4304x1152.Idx → Ideal .bf16 := m ((c : Thread nD τ).loc main_arg1)
abbrev argG (c : Dev nD) : Cert.ReferenceIdeal.S1x1152.Idx → Ideal .f32 :=
  shapeCast Cert.ReferenceIdeal.S1x1152 (m ((c : Thread nD τ).loc main_arg2) : Cert.ReferenceIdeal.S1152.Idx → Ideal .f32)
    Cert.ReferenceIdeal.Gen.shapeCasts_S1152_S1x1152

theorem XX_flat (c : Dev nD) : XX (F := Ideal) m c = flat (argX m c) := XX_cast m c
theorem XW_arg (c : Dev nD) : XW (F := Ideal) m c = argW m c := V_main_arg1 m c
theorem KG_arg (c : Dev nD) : KG (F := Ideal) m c = argG m c := rfl

theorem kern_run : θ_run (defs (F := Ideal)) (onTc (τ := τ) (main (F := Ideal))) ⟨m, fun _ => 0, ρ⟩ (fun r => ∀ c : Dev nD,
      r.2.mem ((c.tc : Thread nD τ).loc main_v4) = Cert.ReferenceIdeal.Hand.rProd (F := Ideal) (argX m c) (argW m c) (argG m c)
      ∧ r.2.mem ((c.tc : Thread nD τ).loc main_v5) = (fun _ => Cert.ReferenceIdeal.Gen.k0_pay3 (F := Ideal) (argW m c))
      ∧ r.2.mem ((c.tc : Thread nD τ).loc main_v6) = Cert.ReferenceIdeal.Hand.rCodes (F := Ideal) (argX m c) (argG m c)
      ∧ r.2.mem ((c.tc : Thread nD τ).loc main_v2_4) = Cert.ReferenceIdeal.Hand.rScales (F := Ideal) (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨⟨hw, hr⟩, ha⟩ := And.intro (h.1.1 c) (h.2 c)
    refine ⟨?_, ?_, ?_, ?_, ha⟩
    · refine (hr main_v4 (Pipeline.mem_restRefs_of main_v4 (by decide) (by decide))).trans ?_
      rw [end_prod, XX_flat, XW_arg, KG_arg]
      exact prod_eq _ _ _
    · refine (hr main_v5 (Pipeline.mem_restRefs_of main_v5 (by decide) (by decide))).trans ?_
      rw [Cert.KernelIdeal.Hand.end_gamma, XW_arg, gamma_eq]
    · refine (hr main_v6 (Pipeline.mem_restRefs_of main_v6 (by decide) (by decide))).trans ?_
      rw [end_codes, XX_flat, KG_arg]
      exact codes_eq _ _
    · refine (hw 2).trans ?_
      rw [fin2, XX_flat, KG_arg]
      exact scales_eq _ _)
    (θ_run_and (run_main m ρ) ((θ_run defs _ _).mono (fun _ h => h.1) (Cert.KernelIdeal.Hand.frame m ρ)))
end Kernel

section Reference
open Cert.ReferenceIdeal Cert.ReferenceIdeal.Gen Cert.ReferenceIdeal.Hand
variable (m : (ℓ : Loc nD τ sig) → Buf (Elt Ideal) ℓ) (ρ : Dev nD → PrngReg)

theorem RX_arg (c : Dev nD) : RX (F := Ideal) m c = m ((c : Thread nD τ).loc main_arg0) := rfl
theorem RW_arg (c : Dev nD) : RW (F := Ideal) m c = m ((c : Thread nD τ).loc main_arg1) := rfl
theorem RG_arg (c : Dev nD) : RG (F := Ideal) m c
    = shapeCast S1x1152 (m ((c : Thread nD τ).loc main_arg2) : S1152.Idx → Ideal .f32) shapeCasts_S1152_S1x1152 := rfl

theorem ref_run : θ_run (defs (F := Ideal)) (onTc (τ := τ) (main (F := Ideal))) ⟨m, fun _ => 0, ρ⟩ (fun r => ∀ c : Dev nD,
      r.2.mem ((c.tc : Thread nD τ).loc main_v1_0) = rProd (F := Ideal) (RX m c) (RW m c) (RG m c)
      ∧ r.2.mem ((c.tc : Thread nD τ).loc main_v2) = (fun _ => k0_pay3 (F := Ideal) (RW m c))
      ∧ r.2.mem ((c.tc : Thread nD τ).loc main_v1_3) = rCodes (F := Ideal) (RX m c) (RG m c)
      ∧ r.2.mem ((c.tc : Thread nD τ).loc main_v1_4) = rScales (F := Ideal) (RX m c) (RG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨⟨hw, hr⟩, ha⟩ := And.intro (h.1 c) (h.2 c)
    refine ⟨(hw 3).trans (fin3 m c), ?_, (hw 6).trans (fin6 m c), (hw 7).trans (fin7 m c), ha⟩
    exact (hr main_v2 (Pipeline.mem_restRefs_of main_v2 (by decide) (by decide))).trans (Cert.ReferenceIdeal.Hand.end_gamma m c))
    (θ_run_and (run_main m ρ) (unchanged m ρ))
end Reference

theorem agree : Cert.algebraic_KernelIdeal_ReferenceIdeal (hKernelIdeal := Cert.KernelIdeal.Gen.facts) (hReferenceIdeal := Cert.ReferenceIdeal.Gen.facts) := by
  intro m ρ m' ρ' _ hm
  refine ⟨_, _, _, _, kern_run m ρ, ?_⟩
  refine (θ_run Cert.ReferenceIdeal.defs _ _).mono (fun r h c => ?_) (ref_run m' ρ')
  obtain ⟨h0, h1, h2⟩ := hm c
  have e0 : Cert.ReferenceIdeal.Hand.RX (F := Ideal) m' c = argX m c := (RX_arg m' c).trans h0
  have e1 : Cert.ReferenceIdeal.Hand.RW (F := Ideal) m' c = argW m c := (RW_arg m' c).trans h1
  have e2 : Cert.ReferenceIdeal.Hand.RG (F := Ideal) m' c = argG m c :=
    (RG_arg m' c).trans (congrArg (fun x : Cert.ReferenceIdeal.S1152.Idx → Ideal .f32 =>
      shapeCast Cert.ReferenceIdeal.S1x1152 x Cert.ReferenceIdeal.Gen.shapeCasts_S1152_S1x1152) h2)
  have k := h c
  rw [e0, e1, e2] at k
  exact k

end Cert.Value
end
-- ==== Proof.lean ====
/-
  The proof of `Cert.Claim` (proofs.«01_k».proof.Defs): the frames of the kernel at `Bits` and at `Ideal` (Proof/KernF.lean,
  Proof/KernIF.lean), the reference's frame (the generated one), that the idealization rewrites nothing,
  and that the kernel's results are the reference's (Proof/Agree.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernF
public import proofs.«01_k».proof.Proof.KernIF
public import proofs.«01_k».proof.Proof.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial,
  Cert.Value.agree⟩

end Cert.Proof

end
